-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_exist [hPre_experts_exist : Cert.Pre_experts_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_experts_exist [hReference2Ideal : Cert.Reference2Ideal.Facts] [hPre_experts_exist : Cert.Pre_experts_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_exist m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v80_3)) (v1 : (c : Dev Cert.Kernel4Ideal.nD) → Buf (Elt Ideal) ((c.tc : Thread Cert.Kernel4Ideal.nD Cert.Kernel4Ideal.τ).loc Cert.Kernel4Ideal.main_v80_4)) (v2 : (c : Dev Cert.Kernel4Ideal.nD) → Buf (Elt Ideal) ((c.tc : Thread Cert.Kernel4Ideal.nD Cert.Kernel4Ideal.τ).loc Cert.Kernel4Ideal.main_v80_5)) (v3 : (c : Dev Cert.Kernel4Ideal.nD) → Buf (Elt Ideal) ((c.tc : Thread Cert.Kernel4Ideal.nD Cert.Kernel4Ideal.τ).loc Cert.Kernel4Ideal.main_v80_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v80_3) = v0 c
          ∧ r.2.mem ((c.tc : Thread Cert.Kernel4Ideal.nD Cert.Kernel4Ideal.τ).loc Cert.Kernel4Ideal.main_v80_4) = v1 c
          ∧ r.2.mem ((c.tc : Thread Cert.Kernel4Ideal.nD Cert.Kernel4Ideal.τ).loc Cert.Kernel4Ideal.main_v80_5) = v2 c
          ∧ r.2.mem ((c.tc : Thread Cert.Kernel4Ideal.nD Cert.Kernel4Ideal.τ).loc Cert.Kernel4Ideal.main_v80_6) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_v84) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts_exist : Cert.Pre_experts_exist.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Reference2Ideal (hReference2Ideal := hReference2Ideal)
    ∧ quiescent_Reference2Ideal_pre_experts_exist (hReference2Ideal := hReference2Ideal) (hPre_experts_exist := hPre_experts_exist)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts_exist := hPre_experts_exist)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_experts_exist.lean ====
abbrev S33792x1024 : Shape := ⟨2, ![33792, 1024]⟩
abbrev S143360 : Shape := ⟨1, ![143360]⟩
abbrev S560 : Shape := ⟨1, ![560]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S560 : S_.BroadcastsInDim S560 (![] : Fin 0 → Fin S560.rank)
  reducesTo_S560_S_d0 : S560.ReducesTo [0] S_
  h_S_ : 0 < S_.numel

variable [Facts]

def fn {F : FTy → Type} [FloatOps F] (main_arg0 : FVec F S33792x1024 .bf16) (main_arg1 : IVec S143360 32) (main_arg2 : IVec S560 32) (main_arg3 : IVec S1 32) (main_arg4 : FVec F S4x32x1024x2048 .f32) (main_arg5 : FVec F S4x32x2048 .f32) (main_arg6 : FVec F S4x32x1024x1024 .f32) (main_arg7 : FVec F S4x32x1024 .f32) : IVec S_ 1 :=
  let main_c : IVec S_ 32 := constantI S_ 32 0#32
  let main_v0 : IVec S560 32 := broadcastInDim S560 ![] bcast_S_S560 main_c
  let main_v1 : IVec S560 1 := cmpi .sge main_arg2 main_v0
  let main_c_0 : IVec S_ 32 := constantI S_ 32 32#32
  let main_v2 : IVec S560 32 := broadcastInDim S560 ![] bcast_S_S560 main_c_0
  let main_v3 : IVec S560 1 := cmpi .slt main_arg2 main_v2
  let main_v4 : IVec S560 1 := andi main_v1 main_v3
  let main_c_1 : IVec S_ 1 := constantI S_ 1 1#1
  let main_v5 : IVec S_ 1 := (fun x v => Host.reduce IntOp.andi x v reducesTo_S560_S_d0 h_S_) main_v4 main_c_1
  main_v5
-- ==== Pre_finite.lean ====
abbrev S4x8448x1024 : Shape := ⟨3, ![4, 8448, 1024]⟩
abbrev S4x8448x2x64 : Shape := ⟨4, ![4, 8448, 2, 64]⟩
abbrev S_ : Shape := ⟨0, ![]⟩

class Facts : Prop where
  bcast_S_S4x8448x1024 : S_.BroadcastsInDim S4x8448x1024 (![] : Fin 0 → Fin S4x8448x1024.rank)
  reducesTo_S4x8448x1024_S_d0_1_2 : S4x8448x1024.ReducesTo [0, 1, 2] S_
  h_S_ : 0 < S_.numel
  bcast_S_S4x8448x2x64 : S_.BroadcastsInDim S4x8448x2x64 (![] : Fin 0 → Fin S4x8448x2x64.rank)
  reducesTo_S4x8448x2x64_S_d0_1_2_3 : S4x8448x2x64.ReducesTo [0, 1, 2, 3] S_

variable [Facts]

def fn {F : FTy → Type} [FloatOps F] (main_arg0 : FVec F S4x8448x1024 .f32) (main_arg1 : FVec F S4x8448x2x64 .f32) (main_arg2 : FVec F S4x8448x2x64 .f32) : IVec S_ 1 :=
  let main_v0 : FVec F S4x8448x1024 .f32 := Host.absf main_arg0
  let main_cst : FVec F S_ .f32 := constant S_ .f32 0x7F800000#32
  let main_v1 : FVec F S4x8448x1024 .f32 := broadcastInDim S4x8448x1024 ![] bcast_S_S4x8448x1024 main_cst
  let main_v2 : IVec S4x8448x1024 1 := cmpf .olt main_v0 main_v1
  let main_c : IVec S_ 1 := constantI S_ 1 1#1
  let main_v3 : IVec S_ 1 := (fun x v => Host.reduce IntOp.andi x v reducesTo_S4x8448x1024_S_d0_1_2 h_S_) main_v2 main_c
  let main_v4 : FVec F S4x8448x2x64 .f32 := Host.absf main_arg1
  let main_cst_0 : FVec F S_ .f32 := constant S_ .f32 0x7F800000#32
  let main_v5 : FVec F S4x8448x2x64 .f32 := broadcastInDim S4x8448x2x64 ![] bcast_S_S4x8448x2x64 main_cst_0
  let main_v6 : IVec S4x8448x2x64 1 := cmpf .olt main_v4 main_v5
  let main_c_1 : IVec S_ 1 := constantI S_ 1 1#1
  let main_v7 : IVec S_ 1 := (fun x v => Host.reduce IntOp.andi x v reducesTo_S4x8448x2x64_S_d0_1_2_3 h_S_) main_v6 main_c_1
  let main_v8 : IVec S_ 1 := andi main_v3 main_v7
  let main_v9 : FVec F S4x8448x2x64 .f32 := Host.absf main_arg2
  let main_cst_2 : FVec F S_ .f32 := constant S_ .f32 0x7F800000#32
  let main_v10 : FVec F S4x8448x2x64 .f32 := broadcastInDim S4x8448x2x64 ![] bcast_S_S4x8448x2x64 main_cst_2
  let main_v11 : IVec S4x8448x2x64 1 := cmpf .olt main_v9 main_v10
  let main_c_3 : IVec S_ 1 := constantI S_ 1 1#1
  let main_v12 : IVec S_ 1 := (fun x v => Host.reduce IntOp.andi x v reducesTo_S4x8448x2x64_S_d0_1_2_3 h_S_) main_v11 main_c_3
  let main_v13 : IVec S_ 1 := andi main_v8 main_v12
  main_v13
-- ==== Kernel.lean ====
abbrev S4x8448x1024 : Shape := ⟨3, ![4, 8448, 1024]⟩
abbrev S4x8448x2x64 : Shape := ⟨4, ![4, 8448, 2, 64]⟩
abbrev S_ : Shape := ⟨0, ![]⟩
abbrev S33792x16x64 : Shape := ⟨3, ![33792, 16, 64]⟩
abbrev S16x64x33792 : Shape := ⟨3, ![16, 64, 33792]⟩
abbrev S33792x2x64 : Shape := ⟨3, ![33792, 2, 64]⟩
abbrev S2x33792x64 : Shape := ⟨3, ![2, 33792, 64]⟩
abbrev S132x256x128 : Shape := ⟨3, ![132, 256, 128]⟩
abbrev S132x128x256 : Shape := ⟨3, ![132, 128, 256]⟩
abbrev S4x33x128x256 : Shape := ⟨4, ![4, 33, 128, 256]⟩
abbrev S33792x512 : Shape := ⟨2, ![33792, 512]⟩
abbrev S4x64x256 : Shape := ⟨3, ![4, 64, 256]⟩
abbrev S1x8448x64 : Shape := ⟨3, ![1, 8448, 64]⟩
abbrev S1x33x64x256 : Shape := ⟨4, ![1, 33, 64, 256]⟩
abbrev S256x256 : Shape := ⟨2, ![256, 256]⟩
abbrev S4x256x256 : Shape := ⟨3, ![4, 256, 256]⟩
abbrev S4x1x256 : Shape := ⟨3, ![4, 1, 256]⟩
abbrev S4x80x256 : Shape := ⟨3, ![4, 80, 256]⟩
abbrev S16x256 : Shape := ⟨2, ![16, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S1x256x256 : Shape := ⟨3, ![1, 256, 256]⟩
abbrev S1x1x64x256 : Shape := ⟨4, ![1, 1, 64, 256]⟩
abbrev S80x256 : Shape := ⟨2, ![80, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩

abbrev nBuf : Space → Nat
  | .hbm => 20
  | .vmem => 12
  | .smem => 0
  | _ => 0

abbrev bufTy : (tb : Table) → Fin (tcTables nBuf tb) → BufTy
  | .hbm, ⟨0, _⟩ => ⟨S4x8448x1024, .f32⟩
  | .hbm, ⟨1, _⟩ => ⟨S4x8448x2x64, .f32⟩
  | .hbm, ⟨2, _⟩ => ⟨S4x8448x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x8448x1024, .f32⟩
  | .hbm, ⟨8, _⟩ => ⟨S4x8448x1024, .f32⟩
  | .hbm, ⟨9, _⟩ => ⟨S4x8448x1024, .bf16⟩
  | .hbm, ⟨10, _⟩ => ⟨S33792x16x64, .bf16⟩
  | .hbm, ⟨11, _⟩ => ⟨S16x64x33792, .bf16⟩
  | .hbm, ⟨12, _⟩ => ⟨S4x8448x2x64, .bf16⟩
  | .hbm, ⟨13, _⟩ => ⟨S33792x2x64, .bf16⟩
  | .hbm, ⟨14, _⟩ => ⟨S2x33792x64, .bf16⟩
  | .hbm, ⟨15, _⟩ => ⟨S4x8448x2x64, .bf16⟩
  | .hbm, ⟨16, _⟩ => ⟨S132x256x128, .bf16⟩
  | .hbm, ⟨17, _⟩ => ⟨S132x128x256, .bf16⟩
  | .hbm, ⟨18, _⟩ => ⟨S4x33x128x256, .bf16⟩
  | .hbm, ⟨19, _⟩ => ⟨S33792x512, .bf16⟩
  | .local _ .vmem, ⟨0, _⟩ => ⟨S4x64x256, .bf16⟩
  | .local _ .vmem, ⟨1, _⟩ => ⟨S4x64x256, .bf16⟩
  | .local _ .vmem, ⟨2, _⟩ => ⟨S1x8448x64, .bf16⟩
  | .local _ .vmem, ⟨3, _⟩ => ⟨S1x8448x64, .bf16⟩
  | .local _ .vmem, ⟨4, _⟩ => ⟨S1x33x64x256, .bf16⟩
  | .local _ .vmem, ⟨5, _⟩ => ⟨S1x33x64x256, .bf16⟩
  | .local _ .vmem, ⟨6, _⟩ => ⟨S256x256, .bf16⟩
  | .local _ .vmem, ⟨7, _⟩ => ⟨S256x256, .bf16⟩
  | .local _ .vmem, ⟨8, _⟩ => ⟨S4x256x256, .f32⟩
  | .local _ .vmem, ⟨9, _⟩ => ⟨S4x256x256, .f32⟩
  | .local _ .vmem, ⟨10, _⟩ => ⟨S4x1x256, .f32⟩
  | .local _ .vmem, ⟨11, _⟩ => ⟨S4x80x256, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 33], ![false, false, false]⟩

def k0_mult1 : BitVec 32 :=
  let c0_i32_8 : BitVec 32 := 0#32
  let c32_i32 : BitVec 32 := 32#32
  let v11 : BitVec 32 := Scalar.minsi c0_i32_8 c32_i32
  let c256_i32 : BitVec 32 := 256#32
  let v12 : BitVec 32 := Scalar.muli v11 c256_i32
  v12
def k0_off1 (c0_i32_8 : BitVec 32) : Fin 3 → Nat :=
  let c0_9 : Index := 0#32
  let c32_i32 : BitVec 32 := 32#32
  let v11 : BitVec 32 := Scalar.minsi c0_i32_8 c32_i32
  let c256_i32 : BitVec 32 := 256#32
  let v12 : BitVec 32 := Scalar.muli v11 c256_i32
  let v13 : BitVec 32 := v12
  let v14 : Index := Scalar.indexCast v13
  let c0_10 : Index := 0#32
  ![0, v14.toNat, 0]
def k0_mult2 : BitVec 32 :=
  let c0_i32_18 : BitVec 32 := 0#32
  let c32_i32_19 : BitVec 32 := 32#32
  let v23 : BitVec 32 := Scalar.minsi c0_i32_18 c32_i32_19
  let c256_i32_20 : BitVec 32 := 256#32
  let v24 : BitVec 32 := Scalar.muli v23 c256_i32_20
  v24
def k0_mult3 : BitVec 32 :=
  let c0_i32_29 : BitVec 32 := 0#32
  let c32_i32_30 : BitVec 32 := 32#32
  let v35 : BitVec 32 := Scalar.minsi c0_i32_29 c32_i32_30
  let c256_i32_31 : BitVec 32 := 256#32
  let v36 : BitVec 32 := Scalar.muli v35 c256_i32_31
  v36
def k0_mult4 : BitVec 32 :=
  let c0_i32_40 : BitVec 32 := 0#32
  let c32_i32_41 : BitVec 32 := 32#32
  let v47 : BitVec 32 := Scalar.minsi c0_i32_40 c32_i32_41
  let c256_i32_42 : BitVec 32 := 256#32
  let v48 : BitVec 32 := Scalar.muli v47 c256_i32_42
  v48
def k0_mult5 : BitVec 32 :=
  let c1_i32 : BitVec 32 := 1#32
  let c32_i32_51 : BitVec 32 := 32#32
  let v59 : BitVec 32 := Scalar.minsi c1_i32 c32_i32_51
  let c256_i32_52 : BitVec 32 := 256#32
  let v60 : BitVec 32 := Scalar.muli v59 c256_i32_52
  v60
def k0_mult6 : BitVec 32 :=
  let c1_i32_62 : BitVec 32 := 1#32
  let c32_i32_63 : BitVec 32 := 32#32
  let v71 : BitVec 32 := Scalar.minsi c1_i32_62 c32_i32_63
  let c256_i32_64 : BitVec 32 := 256#32
  let v72 : BitVec 32 := Scalar.muli v71 c256_i32_64
  v72
@[reducible] def k0_t1_loop (i : grid0.Coords) : Scf.Loop 32 :=
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_77 : BitVec 32 := 1#32
  ⟨c0_i32_75, v87, c1_i32_77⟩
def k0_mult7 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c1_i32_192 : BitVec 32 := 1#32
  let v241 : BitVec 32 := Scalar.addi v240 c1_i32_192
  let c32_i32_193 : BitVec 32 := 32#32
  let v242 : BitVec 32 := Scalar.minsi v241 c32_i32_193
  let c256_i32_194 : BitVec 32 := 256#32
  let v243 : BitVec 32 := Scalar.muli v242 c256_i32_194
  v243
def k0_off2 (i : grid0.Coords) (k0_t1 : Fin (k0_t1_loop i).trips) (c1_i32_192 : BitVec 32) : Fin 3 → Nat :=
  let c0_195 : Index := 0#32
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let v241 : BitVec 32 := Scalar.addi v240 c1_i32_192
  let c32_i32_193 : BitVec 32 := 32#32
  let v242 : BitVec 32 := Scalar.minsi v241 c32_i32_193
  let c256_i32_194 : BitVec 32 := 256#32
  let v243 : BitVec 32 := Scalar.muli v242 c256_i32_194
  let v244 : BitVec 32 := v243
  let v245 : Index := Scalar.indexCast v244
  let c0_196 : Index := 0#32
  ![0, v245.toNat, 0]
def k0_off3 (i : grid0.Coords) (k0_t1 : Fin (k0_t1_loop i).trips) (c0_i32_204 : BitVec 32) : Fin 4 → Nat :=
  let c0_205 : Index := 0#32
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let v254 : BitVec 32 := Scalar.addi v240 c0_i32_204
  let v255 : Index := Scalar.indexCast v254
  let c0_206 : Index := 0#32
  let c0_207 : Index := 0#32
  ![0, v255.toNat, 0, 0]
def k0_mult8 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c1_i32_225 : BitVec 32 := 1#32
  let v284 : BitVec 32 := Scalar.addi v240 c1_i32_225
  let c32_i32_226 : BitVec 32 := 32#32
  let v285 : BitVec 32 := Scalar.minsi v284 c32_i32_226
  let c256_i32_227 : BitVec 32 := 256#32
  let v286 : BitVec 32 := Scalar.muli v285 c256_i32_227
  v286
def k0_mult9 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c2_i32_258 : BitVec 32 := 2#32
  let v327 : BitVec 32 := Scalar.addi v240 c2_i32_258
  let c32_i32_259 : BitVec 32 := 32#32
  let v328 : BitVec 32 := Scalar.minsi v327 c32_i32_259
  let c256_i32_260 : BitVec 32 := 256#32
  let v329 : BitVec 32 := Scalar.muli v328 c256_i32_260
  v329
def k0_mult10 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c2_i32_291 : BitVec 32 := 2#32
  let v370 : BitVec 32 := Scalar.addi v240 c2_i32_291
  let c32_i32_292 : BitVec 32 := 32#32
  let v371 : BitVec 32 := Scalar.minsi v370 c32_i32_292
  let c256_i32_293 : BitVec 32 := 256#32
  let v372 : BitVec 32 := Scalar.muli v371 c256_i32_293
  v372
def k0_mult11 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c2_i32_324 : BitVec 32 := 2#32
  let v413 : BitVec 32 := Scalar.addi v240 c2_i32_324
  let c32_i32_325 : BitVec 32 := 32#32
  let v414 : BitVec 32 := Scalar.minsi v413 c32_i32_325
  let c256_i32_326 : BitVec 32 := 256#32
  let v415 : BitVec 32 := Scalar.muli v414 c256_i32_326
  v415
def k0_mult12 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c2_i32_357 : BitVec 32 := 2#32
  let v456 : BitVec 32 := Scalar.addi v240 c2_i32_357
  let c32_i32_358 : BitVec 32 := 32#32
  let v457 : BitVec 32 := Scalar.minsi v456 c32_i32_358
  let c256_i32_359 : BitVec 32 := 256#32
  let v458 : BitVec 32 := Scalar.muli v457 c256_i32_359
  v458
def k0_mult13 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c3_i32 : BitVec 32 := 3#32
  let v499 : BitVec 32 := Scalar.addi v240 c3_i32
  let c32_i32_390 : BitVec 32 := 32#32
  let v500 : BitVec 32 := Scalar.minsi v499 c32_i32_390
  let c256_i32_391 : BitVec 32 := 256#32
  let v501 : BitVec 32 := Scalar.muli v500 c256_i32_391
  v501
def k0_mult14 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c3_i32_422 : BitVec 32 := 3#32
  let v542 : BitVec 32 := Scalar.addi v240 c3_i32_422
  let c32_i32_423 : BitVec 32 := 32#32
  let v543 : BitVec 32 := Scalar.minsi v542 c32_i32_423
  let c256_i32_424 : BitVec 32 := 256#32
  let v544 : BitVec 32 := Scalar.muli v543 c256_i32_424
  v544
def k0_mult15 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c3_i32_455 : BitVec 32 := 3#32
  let v585 : BitVec 32 := Scalar.addi v240 c3_i32_455
  let c32_i32_456 : BitVec 32 := 32#32
  let v586 : BitVec 32 := Scalar.minsi v585 c32_i32_456
  let c256_i32_457 : BitVec 32 := 256#32
  let v587 : BitVec 32 := Scalar.muli v586 c256_i32_457
  v587
def k0_mult16 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c3_i32_488 : BitVec 32 := 3#32
  let v628 : BitVec 32 := Scalar.addi v240 c3_i32_488
  let c32_i32_489 : BitVec 32 := 32#32
  let v629 : BitVec 32 := Scalar.minsi v628 c32_i32_489
  let c256_i32_490 : BitVec 32 := 256#32
  let v630 : BitVec 32 := Scalar.muli v629 c256_i32_490
  v630
def k0_mult17 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c4_i32 : BitVec 32 := 4#32
  let v671 : BitVec 32 := Scalar.addi v240 c4_i32
  let c32_i32_521 : BitVec 32 := 32#32
  let v672 : BitVec 32 := Scalar.minsi v671 c32_i32_521
  let c256_i32_522 : BitVec 32 := 256#32
  let v673 : BitVec 32 := Scalar.muli v672 c256_i32_522
  v673
def k0_mult18 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c4_i32_553 : BitVec 32 := 4#32
  let v714 : BitVec 32 := Scalar.addi v240 c4_i32_553
  let c32_i32_554 : BitVec 32 := 32#32
  let v715 : BitVec 32 := Scalar.minsi v714 c32_i32_554
  let c256_i32_555 : BitVec 32 := 256#32
  let v716 : BitVec 32 := Scalar.muli v715 c256_i32_555
  v716
def k0_mult19 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c4_i32_586 : BitVec 32 := 4#32
  let v757 : BitVec 32 := Scalar.addi v240 c4_i32_586
  let c32_i32_587 : BitVec 32 := 32#32
  let v758 : BitVec 32 := Scalar.minsi v757 c32_i32_587
  let c256_i32_588 : BitVec 32 := 256#32
  let v759 : BitVec 32 := Scalar.muli v758 c256_i32_588
  v759
def k0_mult20 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c4_i32_619 : BitVec 32 := 4#32
  let v800 : BitVec 32 := Scalar.addi v240 c4_i32_619
  let c32_i32_620 : BitVec 32 := 32#32
  let v801 : BitVec 32 := Scalar.minsi v800 c32_i32_620
  let c256_i32_621 : BitVec 32 := 256#32
  let v802 : BitVec 32 := Scalar.muli v801 c256_i32_621
  v802
def k0_mult21 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c5_i32 : BitVec 32 := 5#32
  let v843 : BitVec 32 := Scalar.addi v240 c5_i32
  let c32_i32_652 : BitVec 32 := 32#32
  let v844 : BitVec 32 := Scalar.minsi v843 c32_i32_652
  let c256_i32_653 : BitVec 32 := 256#32
  let v845 : BitVec 32 := Scalar.muli v844 c256_i32_653
  v845
def k0_mult22 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c5_i32_684 : BitVec 32 := 5#32
  let v886 : BitVec 32 := Scalar.addi v240 c5_i32_684
  let c32_i32_685 : BitVec 32 := 32#32
  let v887 : BitVec 32 := Scalar.minsi v886 c32_i32_685
  let c256_i32_686 : BitVec 32 := 256#32
  let v888 : BitVec 32 := Scalar.muli v887 c256_i32_686
  v888
def k0_mult23 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c5_i32_717 : BitVec 32 := 5#32
  let v929 : BitVec 32 := Scalar.addi v240 c5_i32_717
  let c32_i32_718 : BitVec 32 := 32#32
  let v930 : BitVec 32 := Scalar.minsi v929 c32_i32_718
  let c256_i32_719 : BitVec 32 := 256#32
  let v931 : BitVec 32 := Scalar.muli v930 c256_i32_719
  v931
def k0_mult24 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c5_i32_750 : BitVec 32 := 5#32
  let v972 : BitVec 32 := Scalar.addi v240 c5_i32_750
  let c32_i32_751 : BitVec 32 := 32#32
  let v973 : BitVec 32 := Scalar.minsi v972 c32_i32_751
  let c256_i32_752 : BitVec 32 := 256#32
  let v974 : BitVec 32 := Scalar.muli v973 c256_i32_752
  v974
def k0_mult25 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c6_i32 : BitVec 32 := 6#32
  let v1015 : BitVec 32 := Scalar.addi v240 c6_i32
  let c32_i32_783 : BitVec 32 := 32#32
  let v1016 : BitVec 32 := Scalar.minsi v1015 c32_i32_783
  let c256_i32_784 : BitVec 32 := 256#32
  let v1017 : BitVec 32 := Scalar.muli v1016 c256_i32_784
  v1017
def k0_mult26 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c6_i32_815 : BitVec 32 := 6#32
  let v1058 : BitVec 32 := Scalar.addi v240 c6_i32_815
  let c32_i32_816 : BitVec 32 := 32#32
  let v1059 : BitVec 32 := Scalar.minsi v1058 c32_i32_816
  let c256_i32_817 : BitVec 32 := 256#32
  let v1060 : BitVec 32 := Scalar.muli v1059 c256_i32_817
  v1060
def k0_mult27 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c6_i32_848 : BitVec 32 := 6#32
  let v1101 : BitVec 32 := Scalar.addi v240 c6_i32_848
  let c32_i32_849 : BitVec 32 := 32#32
  let v1102 : BitVec 32 := Scalar.minsi v1101 c32_i32_849
  let c256_i32_850 : BitVec 32 := 256#32
  let v1103 : BitVec 32 := Scalar.muli v1102 c256_i32_850
  v1103
def k0_mult28 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c6_i32_881 : BitVec 32 := 6#32
  let v1144 : BitVec 32 := Scalar.addi v240 c6_i32_881
  let c32_i32_882 : BitVec 32 := 32#32
  let v1145 : BitVec 32 := Scalar.minsi v1144 c32_i32_882
  let c256_i32_883 : BitVec 32 := 256#32
  let v1146 : BitVec 32 := Scalar.muli v1145 c256_i32_883
  v1146
def k0_mult29 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c7_i32 : BitVec 32 := 7#32
  let v1187 : BitVec 32 := Scalar.addi v240 c7_i32
  let c32_i32_914 : BitVec 32 := 32#32
  let v1188 : BitVec 32 := Scalar.minsi v1187 c32_i32_914
  let c256_i32_915 : BitVec 32 := 256#32
  let v1189 : BitVec 32 := Scalar.muli v1188 c256_i32_915
  v1189
def k0_mult30 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c7_i32_946 : BitVec 32 := 7#32
  let v1230 : BitVec 32 := Scalar.addi v240 c7_i32_946
  let c32_i32_947 : BitVec 32 := 32#32
  let v1231 : BitVec 32 := Scalar.minsi v1230 c32_i32_947
  let c256_i32_948 : BitVec 32 := 256#32
  let v1232 : BitVec 32 := Scalar.muli v1231 c256_i32_948
  v1232
def k0_mult31 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c7_i32_979 : BitVec 32 := 7#32
  let v1273 : BitVec 32 := Scalar.addi v240 c7_i32_979
  let c32_i32_980 : BitVec 32 := 32#32
  let v1274 : BitVec 32 := Scalar.minsi v1273 c32_i32_980
  let c256_i32_981 : BitVec 32 := 256#32
  let v1275 : BitVec 32 := Scalar.muli v1274 c256_i32_981
  v1275
def k0_mult32 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c7_i32_1012 : BitVec 32 := 7#32
  let v1316 : BitVec 32 := Scalar.addi v240 c7_i32_1012
  let c32_i32_1013 : BitVec 32 := 32#32
  let v1317 : BitVec 32 := Scalar.minsi v1316 c32_i32_1013
  let c256_i32_1014 : BitVec 32 := 256#32
  let v1318 : BitVec 32 := Scalar.muli v1317 c256_i32_1014
  v1318
def k0_mult33 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c8_i32 : BitVec 32 := 8#32
  let v1359 : BitVec 32 := Scalar.addi v240 c8_i32
  let c32_i32_1045 : BitVec 32 := 32#32
  let v1360 : BitVec 32 := Scalar.minsi v1359 c32_i32_1045
  let c256_i32_1046 : BitVec 32 := 256#32
  let v1361 : BitVec 32 := Scalar.muli v1360 c256_i32_1046
  v1361
def k0_mult34 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c8_i32_1077 : BitVec 32 := 8#32
  let v1402 : BitVec 32 := Scalar.addi v240 c8_i32_1077
  let c32_i32_1078 : BitVec 32 := 32#32
  let v1403 : BitVec 32 := Scalar.minsi v1402 c32_i32_1078
  let c256_i32_1079 : BitVec 32 := 256#32
  let v1404 : BitVec 32 := Scalar.muli v1403 c256_i32_1079
  v1404
def k0_mult35 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c8_i32_1110 : BitVec 32 := 8#32
  let v1445 : BitVec 32 := Scalar.addi v240 c8_i32_1110
  let c32_i32_1111 : BitVec 32 := 32#32
  let v1446 : BitVec 32 := Scalar.minsi v1445 c32_i32_1111
  let c256_i32_1112 : BitVec 32 := 256#32
  let v1447 : BitVec 32 := Scalar.muli v1446 c256_i32_1112
  v1447
def k0_mult36 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c8_i32_1143 : BitVec 32 := 8#32
  let v1488 : BitVec 32 := Scalar.addi v240 c8_i32_1143
  let c32_i32_1144 : BitVec 32 := 32#32
  let v1489 : BitVec 32 := Scalar.minsi v1488 c32_i32_1144
  let c256_i32_1145 : BitVec 32 := 256#32
  let v1490 : BitVec 32 := Scalar.muli v1489 c256_i32_1145
  v1490
def k0_mult37 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c9_i32 : BitVec 32 := 9#32
  let v1531 : BitVec 32 := Scalar.addi v240 c9_i32
  let c32_i32_1176 : BitVec 32 := 32#32
  let v1532 : BitVec 32 := Scalar.minsi v1531 c32_i32_1176
  let c256_i32_1177 : BitVec 32 := 256#32
  let v1533 : BitVec 32 := Scalar.muli v1532 c256_i32_1177
  v1533
def k0_mult38 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c9_i32_1208 : BitVec 32 := 9#32
  let v1574 : BitVec 32 := Scalar.addi v240 c9_i32_1208
  let c32_i32_1209 : BitVec 32 := 32#32
  let v1575 : BitVec 32 := Scalar.minsi v1574 c32_i32_1209
  let c256_i32_1210 : BitVec 32 := 256#32
  let v1576 : BitVec 32 := Scalar.muli v1575 c256_i32_1210
  v1576
def k0_mult39 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c9_i32_1241 : BitVec 32 := 9#32
  let v1617 : BitVec 32 := Scalar.addi v240 c9_i32_1241
  let c32_i32_1242 : BitVec 32 := 32#32
  let v1618 : BitVec 32 := Scalar.minsi v1617 c32_i32_1242
  let c256_i32_1243 : BitVec 32 := 256#32
  let v1619 : BitVec 32 := Scalar.muli v1618 c256_i32_1243
  v1619
def k0_mult40 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c9_i32_1274 : BitVec 32 := 9#32
  let v1660 : BitVec 32 := Scalar.addi v240 c9_i32_1274
  let c32_i32_1275 : BitVec 32 := 32#32
  let v1661 : BitVec 32 := Scalar.minsi v1660 c32_i32_1275
  let c256_i32_1276 : BitVec 32 := 256#32
  let v1662 : BitVec 32 := Scalar.muli v1661 c256_i32_1276
  v1662
def k0_mult41 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c10_i32 : BitVec 32 := 10#32
  let v1703 : BitVec 32 := Scalar.addi v240 c10_i32
  let c32_i32_1307 : BitVec 32 := 32#32
  let v1704 : BitVec 32 := Scalar.minsi v1703 c32_i32_1307
  let c256_i32_1308 : BitVec 32 := 256#32
  let v1705 : BitVec 32 := Scalar.muli v1704 c256_i32_1308
  v1705
def k0_mult42 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c10_i32_1339 : BitVec 32 := 10#32
  let v1746 : BitVec 32 := Scalar.addi v240 c10_i32_1339
  let c32_i32_1340 : BitVec 32 := 32#32
  let v1747 : BitVec 32 := Scalar.minsi v1746 c32_i32_1340
  let c256_i32_1341 : BitVec 32 := 256#32
  let v1748 : BitVec 32 := Scalar.muli v1747 c256_i32_1341
  v1748
def k0_mult43 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c10_i32_1372 : BitVec 32 := 10#32
  let v1789 : BitVec 32 := Scalar.addi v240 c10_i32_1372
  let c32_i32_1373 : BitVec 32 := 32#32
  let v1790 : BitVec 32 := Scalar.minsi v1789 c32_i32_1373
  let c256_i32_1374 : BitVec 32 := 256#32
  let v1791 : BitVec 32 := Scalar.muli v1790 c256_i32_1374
  v1791
def k0_mult44 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c10_i32_1405 : BitVec 32 := 10#32
  let v1832 : BitVec 32 := Scalar.addi v240 c10_i32_1405
  let c32_i32_1406 : BitVec 32 := 32#32
  let v1833 : BitVec 32 := Scalar.minsi v1832 c32_i32_1406
  let c256_i32_1407 : BitVec 32 := 256#32
  let v1834 : BitVec 32 := Scalar.muli v1833 c256_i32_1407
  v1834
def k0_mult45 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c11_i32 : BitVec 32 := 11#32
  let v1875 : BitVec 32 := Scalar.addi v240 c11_i32
  let c32_i32_1438 : BitVec 32 := 32#32
  let v1876 : BitVec 32 := Scalar.minsi v1875 c32_i32_1438
  let c256_i32_1439 : BitVec 32 := 256#32
  let v1877 : BitVec 32 := Scalar.muli v1876 c256_i32_1439
  v1877
def k0_mult46 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c11_i32_1470 : BitVec 32 := 11#32
  let v1918 : BitVec 32 := Scalar.addi v240 c11_i32_1470
  let c32_i32_1471 : BitVec 32 := 32#32
  let v1919 : BitVec 32 := Scalar.minsi v1918 c32_i32_1471
  let c256_i32_1472 : BitVec 32 := 256#32
  let v1920 : BitVec 32 := Scalar.muli v1919 c256_i32_1472
  v1920
def k0_mult47 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c11_i32_1503 : BitVec 32 := 11#32
  let v1961 : BitVec 32 := Scalar.addi v240 c11_i32_1503
  let c32_i32_1504 : BitVec 32 := 32#32
  let v1962 : BitVec 32 := Scalar.minsi v1961 c32_i32_1504
  let c256_i32_1505 : BitVec 32 := 256#32
  let v1963 : BitVec 32 := Scalar.muli v1962 c256_i32_1505
  v1963
def k0_mult48 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c11_i32_1536 : BitVec 32 := 11#32
  let v2004 : BitVec 32 := Scalar.addi v240 c11_i32_1536
  let c32_i32_1537 : BitVec 32 := 32#32
  let v2005 : BitVec 32 := Scalar.minsi v2004 c32_i32_1537
  let c256_i32_1538 : BitVec 32 := 256#32
  let v2006 : BitVec 32 := Scalar.muli v2005 c256_i32_1538
  v2006
def k0_mult49 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c12_i32 : BitVec 32 := 12#32
  let v2047 : BitVec 32 := Scalar.addi v240 c12_i32
  let c32_i32_1569 : BitVec 32 := 32#32
  let v2048 : BitVec 32 := Scalar.minsi v2047 c32_i32_1569
  let c256_i32_1570 : BitVec 32 := 256#32
  let v2049 : BitVec 32 := Scalar.muli v2048 c256_i32_1570
  v2049
def k0_mult50 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c12_i32_1601 : BitVec 32 := 12#32
  let v2090 : BitVec 32 := Scalar.addi v240 c12_i32_1601
  let c32_i32_1602 : BitVec 32 := 32#32
  let v2091 : BitVec 32 := Scalar.minsi v2090 c32_i32_1602
  let c256_i32_1603 : BitVec 32 := 256#32
  let v2092 : BitVec 32 := Scalar.muli v2091 c256_i32_1603
  v2092
def k0_mult51 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c12_i32_1634 : BitVec 32 := 12#32
  let v2133 : BitVec 32 := Scalar.addi v240 c12_i32_1634
  let c32_i32_1635 : BitVec 32 := 32#32
  let v2134 : BitVec 32 := Scalar.minsi v2133 c32_i32_1635
  let c256_i32_1636 : BitVec 32 := 256#32
  let v2135 : BitVec 32 := Scalar.muli v2134 c256_i32_1636
  v2135
def k0_mult52 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c12_i32_1667 : BitVec 32 := 12#32
  let v2176 : BitVec 32 := Scalar.addi v240 c12_i32_1667
  let c32_i32_1668 : BitVec 32 := 32#32
  let v2177 : BitVec 32 := Scalar.minsi v2176 c32_i32_1668
  let c256_i32_1669 : BitVec 32 := 256#32
  let v2178 : BitVec 32 := Scalar.muli v2177 c256_i32_1669
  v2178
def k0_mult53 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c13_i32 : BitVec 32 := 13#32
  let v2219 : BitVec 32 := Scalar.addi v240 c13_i32
  let c32_i32_1700 : BitVec 32 := 32#32
  let v2220 : BitVec 32 := Scalar.minsi v2219 c32_i32_1700
  let c256_i32_1701 : BitVec 32 := 256#32
  let v2221 : BitVec 32 := Scalar.muli v2220 c256_i32_1701
  v2221
def k0_mult54 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c13_i32_1732 : BitVec 32 := 13#32
  let v2262 : BitVec 32 := Scalar.addi v240 c13_i32_1732
  let c32_i32_1733 : BitVec 32 := 32#32
  let v2263 : BitVec 32 := Scalar.minsi v2262 c32_i32_1733
  let c256_i32_1734 : BitVec 32 := 256#32
  let v2264 : BitVec 32 := Scalar.muli v2263 c256_i32_1734
  v2264
def k0_mult55 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c13_i32_1765 : BitVec 32 := 13#32
  let v2305 : BitVec 32 := Scalar.addi v240 c13_i32_1765
  let c32_i32_1766 : BitVec 32 := 32#32
  let v2306 : BitVec 32 := Scalar.minsi v2305 c32_i32_1766
  let c256_i32_1767 : BitVec 32 := 256#32
  let v2307 : BitVec 32 := Scalar.muli v2306 c256_i32_1767
  v2307
def k0_mult56 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c13_i32_1798 : BitVec 32 := 13#32
  let v2348 : BitVec 32 := Scalar.addi v240 c13_i32_1798
  let c32_i32_1799 : BitVec 32 := 32#32
  let v2349 : BitVec 32 := Scalar.minsi v2348 c32_i32_1799
  let c256_i32_1800 : BitVec 32 := 256#32
  let v2350 : BitVec 32 := Scalar.muli v2349 c256_i32_1800
  v2350
def k0_mult57 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c14_i32 : BitVec 32 := 14#32
  let v2391 : BitVec 32 := Scalar.addi v240 c14_i32
  let c32_i32_1831 : BitVec 32 := 32#32
  let v2392 : BitVec 32 := Scalar.minsi v2391 c32_i32_1831
  let c256_i32_1832 : BitVec 32 := 256#32
  let v2393 : BitVec 32 := Scalar.muli v2392 c256_i32_1832
  v2393
def k0_mult58 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c14_i32_1863 : BitVec 32 := 14#32
  let v2434 : BitVec 32 := Scalar.addi v240 c14_i32_1863
  let c32_i32_1864 : BitVec 32 := 32#32
  let v2435 : BitVec 32 := Scalar.minsi v2434 c32_i32_1864
  let c256_i32_1865 : BitVec 32 := 256#32
  let v2436 : BitVec 32 := Scalar.muli v2435 c256_i32_1865
  v2436
def k0_mult59 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c14_i32_1896 : BitVec 32 := 14#32
  let v2477 : BitVec 32 := Scalar.addi v240 c14_i32_1896
  let c32_i32_1897 : BitVec 32 := 32#32
  let v2478 : BitVec 32 := Scalar.minsi v2477 c32_i32_1897
  let c256_i32_1898 : BitVec 32 := 256#32
  let v2479 : BitVec 32 := Scalar.muli v2478 c256_i32_1898
  v2479
def k0_mult60 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c14_i32_1929 : BitVec 32 := 14#32
  let v2520 : BitVec 32 := Scalar.addi v240 c14_i32_1929
  let c32_i32_1930 : BitVec 32 := 32#32
  let v2521 : BitVec 32 := Scalar.minsi v2520 c32_i32_1930
  let c256_i32_1931 : BitVec 32 := 256#32
  let v2522 : BitVec 32 := Scalar.muli v2521 c256_i32_1931
  v2522
def k0_mult61 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c15_i32 : BitVec 32 := 15#32
  let v2563 : BitVec 32 := Scalar.addi v240 c15_i32
  let c32_i32_1962 : BitVec 32 := 32#32
  let v2564 : BitVec 32 := Scalar.minsi v2563 c32_i32_1962
  let c256_i32_1963 : BitVec 32 := 256#32
  let v2565 : BitVec 32 := Scalar.muli v2564 c256_i32_1963
  v2565
def k0_mult62 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c15_i32_1994 : BitVec 32 := 15#32
  let v2606 : BitVec 32 := Scalar.addi v240 c15_i32_1994
  let c32_i32_1995 : BitVec 32 := 32#32
  let v2607 : BitVec 32 := Scalar.minsi v2606 c32_i32_1995
  let c256_i32_1996 : BitVec 32 := 256#32
  let v2608 : BitVec 32 := Scalar.muli v2607 c256_i32_1996
  v2608
def k0_mult63 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c15_i32_2027 : BitVec 32 := 15#32
  let v2649 : BitVec 32 := Scalar.addi v240 c15_i32_2027
  let c32_i32_2028 : BitVec 32 := 32#32
  let v2650 : BitVec 32 := Scalar.minsi v2649 c32_i32_2028
  let c256_i32_2029 : BitVec 32 := 256#32
  let v2651 : BitVec 32 := Scalar.muli v2650 c256_i32_2029
  v2651
def k0_mult64 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c15_i32_2060 : BitVec 32 := 15#32
  let v2692 : BitVec 32 := Scalar.addi v240 c15_i32_2060
  let c32_i32_2061 : BitVec 32 := 32#32
  let v2693 : BitVec 32 := Scalar.minsi v2692 c32_i32_2061
  let c256_i32_2062 : BitVec 32 := 256#32
  let v2694 : BitVec 32 := Scalar.muli v2693 c256_i32_2062
  v2694
def k0_mult65 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c16_i32_2093 : BitVec 32 := 16#32
  let v2735 : BitVec 32 := Scalar.addi v240 c16_i32_2093
  let c32_i32_2094 : BitVec 32 := 32#32
  let v2736 : BitVec 32 := Scalar.minsi v2735 c32_i32_2094
  let c256_i32_2095 : BitVec 32 := 256#32
  let v2737 : BitVec 32 := Scalar.muli v2736 c256_i32_2095
  v2737
def k0_mult66 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c16_i32_2126 : BitVec 32 := 16#32
  let v2778 : BitVec 32 := Scalar.addi v240 c16_i32_2126
  let c32_i32_2127 : BitVec 32 := 32#32
  let v2779 : BitVec 32 := Scalar.minsi v2778 c32_i32_2127
  let c256_i32_2128 : BitVec 32 := 256#32
  let v2780 : BitVec 32 := Scalar.muli v2779 c256_i32_2128
  v2780
def k0_mult67 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c16_i32_2159 : BitVec 32 := 16#32
  let v2821 : BitVec 32 := Scalar.addi v240 c16_i32_2159
  let c32_i32_2160 : BitVec 32 := 32#32
  let v2822 : BitVec 32 := Scalar.minsi v2821 c32_i32_2160
  let c256_i32_2161 : BitVec 32 := 256#32
  let v2823 : BitVec 32 := Scalar.muli v2822 c256_i32_2161
  v2823
def k0_mult68 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c16_i32_2192 : BitVec 32 := 16#32
  let v2864 : BitVec 32 := Scalar.addi v240 c16_i32_2192
  let c32_i32_2193 : BitVec 32 := 32#32
  let v2865 : BitVec 32 := Scalar.minsi v2864 c32_i32_2193
  let c256_i32_2194 : BitVec 32 := 256#32
  let v2866 : BitVec 32 := Scalar.muli v2865 c256_i32_2194
  v2866
def k0_mult69 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c17_i32 : BitVec 32 := 17#32
  let v2907 : BitVec 32 := Scalar.addi v240 c17_i32
  let c32_i32_2225 : BitVec 32 := 32#32
  let v2908 : BitVec 32 := Scalar.minsi v2907 c32_i32_2225
  let c256_i32_2226 : BitVec 32 := 256#32
  let v2909 : BitVec 32 := Scalar.muli v2908 c256_i32_2226
  v2909
def k0_mult70 (i : grid0.Coords) (k0_t1 : Fin (k0_t1_loop i).trips) : BitVec 32 :=
  let c16_i32_191 : BitVec 32 := 16#32
  let c0_i32_75 : BitVec 32 := 0#32
  let c1_i32_77 : BitVec 32 := 1#32
  let arg11 : BitVec 32 := Scf.iv c0_i32_75 c1_i32_77 k0_t1
  let v240 : BitVec 32 := Scalar.muli c16_i32_191 arg11
  let c17_i32_2257 : BitVec 32 := 17#32
  let v2950 : BitVec 32 := Scalar.addi v240 c17_i32_2257
  let c32_i32_2258 : BitVec 32 := 32#32
  let v2951 : BitVec 32 := Scalar.minsi v2950 c32_i32_2258
  let c256_i32_2259 : BitVec 32 := 256#32
  let v2952 : BitVec 32 := Scalar.muli v2951 c256_i32_2259
  v2952
@[reducible] def k0_t2_loop (i : grid0.Coords) : Scf.Loop 32 :=
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let v84 : BitVec 32 := Scalar.addi c0_i32_75 v83
  let c1_i32_78 : BitVec 32 := 1#32
  ⟨v87, v84, c1_i32_78⟩
def k0_mult71 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c1_i32_192 : BitVec 32 := 1#32
  let v241 : BitVec 32 := Scalar.addi v240 c1_i32_192
  let c32_i32_193 : BitVec 32 := 32#32
  let v242 : BitVec 32 := Scalar.minsi v241 c32_i32_193
  let c256_i32_194 : BitVec 32 := 256#32
  let v243 : BitVec 32 := Scalar.muli v242 c256_i32_194
  v243
def k0_off4 (i : grid0.Coords) (k0_t2 : Fin (k0_t2_loop i).trips) (c1_i32_192 : BitVec 32) : Fin 3 → Nat :=
  let c0_195 : Index := 0#32
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let v241 : BitVec 32 := Scalar.addi v240 c1_i32_192
  let c32_i32_193 : BitVec 32 := 32#32
  let v242 : BitVec 32 := Scalar.minsi v241 c32_i32_193
  let c256_i32_194 : BitVec 32 := 256#32
  let v243 : BitVec 32 := Scalar.muli v242 c256_i32_194
  let v244 : BitVec 32 := v243
  let v245 : Index := Scalar.indexCast v244
  let c0_196 : Index := 0#32
  ![0, v245.toNat, 0]
def k0_off5 (i : grid0.Coords) (k0_t2 : Fin (k0_t2_loop i).trips) (c0_i32_204 : BitVec 32) : Fin 4 → Nat :=
  let c0_205 : Index := 0#32
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let v254 : BitVec 32 := Scalar.addi v240 c0_i32_204
  let v255 : Index := Scalar.indexCast v254
  let c0_206 : Index := 0#32
  let c0_207 : Index := 0#32
  ![0, v255.toNat, 0, 0]
def k0_mult72 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c1_i32_225 : BitVec 32 := 1#32
  let v284 : BitVec 32 := Scalar.addi v240 c1_i32_225
  let c32_i32_226 : BitVec 32 := 32#32
  let v285 : BitVec 32 := Scalar.minsi v284 c32_i32_226
  let c256_i32_227 : BitVec 32 := 256#32
  let v286 : BitVec 32 := Scalar.muli v285 c256_i32_227
  v286
def k0_mult73 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c2_i32_258 : BitVec 32 := 2#32
  let v327 : BitVec 32 := Scalar.addi v240 c2_i32_258
  let c32_i32_259 : BitVec 32 := 32#32
  let v328 : BitVec 32 := Scalar.minsi v327 c32_i32_259
  let c256_i32_260 : BitVec 32 := 256#32
  let v329 : BitVec 32 := Scalar.muli v328 c256_i32_260
  v329
def k0_mult74 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c2_i32_291 : BitVec 32 := 2#32
  let v370 : BitVec 32 := Scalar.addi v240 c2_i32_291
  let c32_i32_292 : BitVec 32 := 32#32
  let v371 : BitVec 32 := Scalar.minsi v370 c32_i32_292
  let c256_i32_293 : BitVec 32 := 256#32
  let v372 : BitVec 32 := Scalar.muli v371 c256_i32_293
  v372
def k0_mult75 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c2_i32_324 : BitVec 32 := 2#32
  let v413 : BitVec 32 := Scalar.addi v240 c2_i32_324
  let c32_i32_325 : BitVec 32 := 32#32
  let v414 : BitVec 32 := Scalar.minsi v413 c32_i32_325
  let c256_i32_326 : BitVec 32 := 256#32
  let v415 : BitVec 32 := Scalar.muli v414 c256_i32_326
  v415
def k0_mult76 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c2_i32_357 : BitVec 32 := 2#32
  let v456 : BitVec 32 := Scalar.addi v240 c2_i32_357
  let c32_i32_358 : BitVec 32 := 32#32
  let v457 : BitVec 32 := Scalar.minsi v456 c32_i32_358
  let c256_i32_359 : BitVec 32 := 256#32
  let v458 : BitVec 32 := Scalar.muli v457 c256_i32_359
  v458
def k0_mult77 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c3_i32 : BitVec 32 := 3#32
  let v499 : BitVec 32 := Scalar.addi v240 c3_i32
  let c32_i32_390 : BitVec 32 := 32#32
  let v500 : BitVec 32 := Scalar.minsi v499 c32_i32_390
  let c256_i32_391 : BitVec 32 := 256#32
  let v501 : BitVec 32 := Scalar.muli v500 c256_i32_391
  v501
def k0_mult78 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c3_i32_422 : BitVec 32 := 3#32
  let v542 : BitVec 32 := Scalar.addi v240 c3_i32_422
  let c32_i32_423 : BitVec 32 := 32#32
  let v543 : BitVec 32 := Scalar.minsi v542 c32_i32_423
  let c256_i32_424 : BitVec 32 := 256#32
  let v544 : BitVec 32 := Scalar.muli v543 c256_i32_424
  v544
def k0_mult79 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c3_i32_455 : BitVec 32 := 3#32
  let v585 : BitVec 32 := Scalar.addi v240 c3_i32_455
  let c32_i32_456 : BitVec 32 := 32#32
  let v586 : BitVec 32 := Scalar.minsi v585 c32_i32_456
  let c256_i32_457 : BitVec 32 := 256#32
  let v587 : BitVec 32 := Scalar.muli v586 c256_i32_457
  v587
def k0_mult80 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c3_i32_488 : BitVec 32 := 3#32
  let v628 : BitVec 32 := Scalar.addi v240 c3_i32_488
  let c32_i32_489 : BitVec 32 := 32#32
  let v629 : BitVec 32 := Scalar.minsi v628 c32_i32_489
  let c256_i32_490 : BitVec 32 := 256#32
  let v630 : BitVec 32 := Scalar.muli v629 c256_i32_490
  v630
def k0_mult81 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c4_i32 : BitVec 32 := 4#32
  let v671 : BitVec 32 := Scalar.addi v240 c4_i32
  let c32_i32_521 : BitVec 32 := 32#32
  let v672 : BitVec 32 := Scalar.minsi v671 c32_i32_521
  let c256_i32_522 : BitVec 32 := 256#32
  let v673 : BitVec 32 := Scalar.muli v672 c256_i32_522
  v673
def k0_mult82 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c4_i32_553 : BitVec 32 := 4#32
  let v714 : BitVec 32 := Scalar.addi v240 c4_i32_553
  let c32_i32_554 : BitVec 32 := 32#32
  let v715 : BitVec 32 := Scalar.minsi v714 c32_i32_554
  let c256_i32_555 : BitVec 32 := 256#32
  let v716 : BitVec 32 := Scalar.muli v715 c256_i32_555
  v716
def k0_mult83 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c4_i32_586 : BitVec 32 := 4#32
  let v757 : BitVec 32 := Scalar.addi v240 c4_i32_586
  let c32_i32_587 : BitVec 32 := 32#32
  let v758 : BitVec 32 := Scalar.minsi v757 c32_i32_587
  let c256_i32_588 : BitVec 32 := 256#32
  let v759 : BitVec 32 := Scalar.muli v758 c256_i32_588
  v759
def k0_mult84 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c4_i32_619 : BitVec 32 := 4#32
  let v800 : BitVec 32 := Scalar.addi v240 c4_i32_619
  let c32_i32_620 : BitVec 32 := 32#32
  let v801 : BitVec 32 := Scalar.minsi v800 c32_i32_620
  let c256_i32_621 : BitVec 32 := 256#32
  let v802 : BitVec 32 := Scalar.muli v801 c256_i32_621
  v802
def k0_mult85 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c5_i32 : BitVec 32 := 5#32
  let v843 : BitVec 32 := Scalar.addi v240 c5_i32
  let c32_i32_652 : BitVec 32 := 32#32
  let v844 : BitVec 32 := Scalar.minsi v843 c32_i32_652
  let c256_i32_653 : BitVec 32 := 256#32
  let v845 : BitVec 32 := Scalar.muli v844 c256_i32_653
  v845
def k0_mult86 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c5_i32_684 : BitVec 32 := 5#32
  let v886 : BitVec 32 := Scalar.addi v240 c5_i32_684
  let c32_i32_685 : BitVec 32 := 32#32
  let v887 : BitVec 32 := Scalar.minsi v886 c32_i32_685
  let c256_i32_686 : BitVec 32 := 256#32
  let v888 : BitVec 32 := Scalar.muli v887 c256_i32_686
  v888
def k0_mult87 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c5_i32_717 : BitVec 32 := 5#32
  let v929 : BitVec 32 := Scalar.addi v240 c5_i32_717
  let c32_i32_718 : BitVec 32 := 32#32
  let v930 : BitVec 32 := Scalar.minsi v929 c32_i32_718
  let c256_i32_719 : BitVec 32 := 256#32
  let v931 : BitVec 32 := Scalar.muli v930 c256_i32_719
  v931
def k0_mult88 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c5_i32_750 : BitVec 32 := 5#32
  let v972 : BitVec 32 := Scalar.addi v240 c5_i32_750
  let c32_i32_751 : BitVec 32 := 32#32
  let v973 : BitVec 32 := Scalar.minsi v972 c32_i32_751
  let c256_i32_752 : BitVec 32 := 256#32
  let v974 : BitVec 32 := Scalar.muli v973 c256_i32_752
  v974
def k0_mult89 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c6_i32 : BitVec 32 := 6#32
  let v1015 : BitVec 32 := Scalar.addi v240 c6_i32
  let c32_i32_783 : BitVec 32 := 32#32
  let v1016 : BitVec 32 := Scalar.minsi v1015 c32_i32_783
  let c256_i32_784 : BitVec 32 := 256#32
  let v1017 : BitVec 32 := Scalar.muli v1016 c256_i32_784
  v1017
def k0_mult90 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c6_i32_815 : BitVec 32 := 6#32
  let v1058 : BitVec 32 := Scalar.addi v240 c6_i32_815
  let c32_i32_816 : BitVec 32 := 32#32
  let v1059 : BitVec 32 := Scalar.minsi v1058 c32_i32_816
  let c256_i32_817 : BitVec 32 := 256#32
  let v1060 : BitVec 32 := Scalar.muli v1059 c256_i32_817
  v1060
def k0_mult91 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c6_i32_848 : BitVec 32 := 6#32
  let v1101 : BitVec 32 := Scalar.addi v240 c6_i32_848
  let c32_i32_849 : BitVec 32 := 32#32
  let v1102 : BitVec 32 := Scalar.minsi v1101 c32_i32_849
  let c256_i32_850 : BitVec 32 := 256#32
  let v1103 : BitVec 32 := Scalar.muli v1102 c256_i32_850
  v1103
def k0_mult92 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c6_i32_881 : BitVec 32 := 6#32
  let v1144 : BitVec 32 := Scalar.addi v240 c6_i32_881
  let c32_i32_882 : BitVec 32 := 32#32
  let v1145 : BitVec 32 := Scalar.minsi v1144 c32_i32_882
  let c256_i32_883 : BitVec 32 := 256#32
  let v1146 : BitVec 32 := Scalar.muli v1145 c256_i32_883
  v1146
def k0_mult93 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c7_i32 : BitVec 32 := 7#32
  let v1187 : BitVec 32 := Scalar.addi v240 c7_i32
  let c32_i32_914 : BitVec 32 := 32#32
  let v1188 : BitVec 32 := Scalar.minsi v1187 c32_i32_914
  let c256_i32_915 : BitVec 32 := 256#32
  let v1189 : BitVec 32 := Scalar.muli v1188 c256_i32_915
  v1189
def k0_mult94 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c7_i32_946 : BitVec 32 := 7#32
  let v1230 : BitVec 32 := Scalar.addi v240 c7_i32_946
  let c32_i32_947 : BitVec 32 := 32#32
  let v1231 : BitVec 32 := Scalar.minsi v1230 c32_i32_947
  let c256_i32_948 : BitVec 32 := 256#32
  let v1232 : BitVec 32 := Scalar.muli v1231 c256_i32_948
  v1232
def k0_mult95 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c7_i32_979 : BitVec 32 := 7#32
  let v1273 : BitVec 32 := Scalar.addi v240 c7_i32_979
  let c32_i32_980 : BitVec 32 := 32#32
  let v1274 : BitVec 32 := Scalar.minsi v1273 c32_i32_980
  let c256_i32_981 : BitVec 32 := 256#32
  let v1275 : BitVec 32 := Scalar.muli v1274 c256_i32_981
  v1275
def k0_mult96 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c7_i32_1012 : BitVec 32 := 7#32
  let v1316 : BitVec 32 := Scalar.addi v240 c7_i32_1012
  let c32_i32_1013 : BitVec 32 := 32#32
  let v1317 : BitVec 32 := Scalar.minsi v1316 c32_i32_1013
  let c256_i32_1014 : BitVec 32 := 256#32
  let v1318 : BitVec 32 := Scalar.muli v1317 c256_i32_1014
  v1318
def k0_mult97 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c8_i32 : BitVec 32 := 8#32
  let v1359 : BitVec 32 := Scalar.addi v240 c8_i32
  let c32_i32_1045 : BitVec 32 := 32#32
  let v1360 : BitVec 32 := Scalar.minsi v1359 c32_i32_1045
  let c256_i32_1046 : BitVec 32 := 256#32
  let v1361 : BitVec 32 := Scalar.muli v1360 c256_i32_1046
  v1361
def k0_mult98 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c8_i32_1077 : BitVec 32 := 8#32
  let v1402 : BitVec 32 := Scalar.addi v240 c8_i32_1077
  let c32_i32_1078 : BitVec 32 := 32#32
  let v1403 : BitVec 32 := Scalar.minsi v1402 c32_i32_1078
  let c256_i32_1079 : BitVec 32 := 256#32
  let v1404 : BitVec 32 := Scalar.muli v1403 c256_i32_1079
  v1404
def k0_mult99 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c8_i32_1110 : BitVec 32 := 8#32
  let v1445 : BitVec 32 := Scalar.addi v240 c8_i32_1110
  let c32_i32_1111 : BitVec 32 := 32#32
  let v1446 : BitVec 32 := Scalar.minsi v1445 c32_i32_1111
  let c256_i32_1112 : BitVec 32 := 256#32
  let v1447 : BitVec 32 := Scalar.muli v1446 c256_i32_1112
  v1447
def k0_mult100 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c8_i32_1143 : BitVec 32 := 8#32
  let v1488 : BitVec 32 := Scalar.addi v240 c8_i32_1143
  let c32_i32_1144 : BitVec 32 := 32#32
  let v1489 : BitVec 32 := Scalar.minsi v1488 c32_i32_1144
  let c256_i32_1145 : BitVec 32 := 256#32
  let v1490 : BitVec 32 := Scalar.muli v1489 c256_i32_1145
  v1490
def k0_mult101 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c9_i32 : BitVec 32 := 9#32
  let v1531 : BitVec 32 := Scalar.addi v240 c9_i32
  let c32_i32_1176 : BitVec 32 := 32#32
  let v1532 : BitVec 32 := Scalar.minsi v1531 c32_i32_1176
  let c256_i32_1177 : BitVec 32 := 256#32
  let v1533 : BitVec 32 := Scalar.muli v1532 c256_i32_1177
  v1533
def k0_mult102 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c9_i32_1208 : BitVec 32 := 9#32
  let v1574 : BitVec 32 := Scalar.addi v240 c9_i32_1208
  let c32_i32_1209 : BitVec 32 := 32#32
  let v1575 : BitVec 32 := Scalar.minsi v1574 c32_i32_1209
  let c256_i32_1210 : BitVec 32 := 256#32
  let v1576 : BitVec 32 := Scalar.muli v1575 c256_i32_1210
  v1576
def k0_mult103 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c9_i32_1241 : BitVec 32 := 9#32
  let v1617 : BitVec 32 := Scalar.addi v240 c9_i32_1241
  let c32_i32_1242 : BitVec 32 := 32#32
  let v1618 : BitVec 32 := Scalar.minsi v1617 c32_i32_1242
  let c256_i32_1243 : BitVec 32 := 256#32
  let v1619 : BitVec 32 := Scalar.muli v1618 c256_i32_1243
  v1619
def k0_mult104 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c9_i32_1274 : BitVec 32 := 9#32
  let v1660 : BitVec 32 := Scalar.addi v240 c9_i32_1274
  let c32_i32_1275 : BitVec 32 := 32#32
  let v1661 : BitVec 32 := Scalar.minsi v1660 c32_i32_1275
  let c256_i32_1276 : BitVec 32 := 256#32
  let v1662 : BitVec 32 := Scalar.muli v1661 c256_i32_1276
  v1662
def k0_mult105 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c10_i32 : BitVec 32 := 10#32
  let v1703 : BitVec 32 := Scalar.addi v240 c10_i32
  let c32_i32_1307 : BitVec 32 := 32#32
  let v1704 : BitVec 32 := Scalar.minsi v1703 c32_i32_1307
  let c256_i32_1308 : BitVec 32 := 256#32
  let v1705 : BitVec 32 := Scalar.muli v1704 c256_i32_1308
  v1705
def k0_mult106 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c10_i32_1339 : BitVec 32 := 10#32
  let v1746 : BitVec 32 := Scalar.addi v240 c10_i32_1339
  let c32_i32_1340 : BitVec 32 := 32#32
  let v1747 : BitVec 32 := Scalar.minsi v1746 c32_i32_1340
  let c256_i32_1341 : BitVec 32 := 256#32
  let v1748 : BitVec 32 := Scalar.muli v1747 c256_i32_1341
  v1748
def k0_mult107 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c10_i32_1372 : BitVec 32 := 10#32
  let v1789 : BitVec 32 := Scalar.addi v240 c10_i32_1372
  let c32_i32_1373 : BitVec 32 := 32#32
  let v1790 : BitVec 32 := Scalar.minsi v1789 c32_i32_1373
  let c256_i32_1374 : BitVec 32 := 256#32
  let v1791 : BitVec 32 := Scalar.muli v1790 c256_i32_1374
  v1791
def k0_mult108 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c10_i32_1405 : BitVec 32 := 10#32
  let v1832 : BitVec 32 := Scalar.addi v240 c10_i32_1405
  let c32_i32_1406 : BitVec 32 := 32#32
  let v1833 : BitVec 32 := Scalar.minsi v1832 c32_i32_1406
  let c256_i32_1407 : BitVec 32 := 256#32
  let v1834 : BitVec 32 := Scalar.muli v1833 c256_i32_1407
  v1834
def k0_mult109 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c11_i32 : BitVec 32 := 11#32
  let v1875 : BitVec 32 := Scalar.addi v240 c11_i32
  let c32_i32_1438 : BitVec 32 := 32#32
  let v1876 : BitVec 32 := Scalar.minsi v1875 c32_i32_1438
  let c256_i32_1439 : BitVec 32 := 256#32
  let v1877 : BitVec 32 := Scalar.muli v1876 c256_i32_1439
  v1877
def k0_mult110 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c11_i32_1470 : BitVec 32 := 11#32
  let v1918 : BitVec 32 := Scalar.addi v240 c11_i32_1470
  let c32_i32_1471 : BitVec 32 := 32#32
  let v1919 : BitVec 32 := Scalar.minsi v1918 c32_i32_1471
  let c256_i32_1472 : BitVec 32 := 256#32
  let v1920 : BitVec 32 := Scalar.muli v1919 c256_i32_1472
  v1920
def k0_mult111 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c11_i32_1503 : BitVec 32 := 11#32
  let v1961 : BitVec 32 := Scalar.addi v240 c11_i32_1503
  let c32_i32_1504 : BitVec 32 := 32#32
  let v1962 : BitVec 32 := Scalar.minsi v1961 c32_i32_1504
  let c256_i32_1505 : BitVec 32 := 256#32
  let v1963 : BitVec 32 := Scalar.muli v1962 c256_i32_1505
  v1963
def k0_mult112 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c11_i32_1536 : BitVec 32 := 11#32
  let v2004 : BitVec 32 := Scalar.addi v240 c11_i32_1536
  let c32_i32_1537 : BitVec 32 := 32#32
  let v2005 : BitVec 32 := Scalar.minsi v2004 c32_i32_1537
  let c256_i32_1538 : BitVec 32 := 256#32
  let v2006 : BitVec 32 := Scalar.muli v2005 c256_i32_1538
  v2006
def k0_mult113 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c12_i32 : BitVec 32 := 12#32
  let v2047 : BitVec 32 := Scalar.addi v240 c12_i32
  let c32_i32_1569 : BitVec 32 := 32#32
  let v2048 : BitVec 32 := Scalar.minsi v2047 c32_i32_1569
  let c256_i32_1570 : BitVec 32 := 256#32
  let v2049 : BitVec 32 := Scalar.muli v2048 c256_i32_1570
  v2049
def k0_mult114 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c12_i32_1601 : BitVec 32 := 12#32
  let v2090 : BitVec 32 := Scalar.addi v240 c12_i32_1601
  let c32_i32_1602 : BitVec 32 := 32#32
  let v2091 : BitVec 32 := Scalar.minsi v2090 c32_i32_1602
  let c256_i32_1603 : BitVec 32 := 256#32
  let v2092 : BitVec 32 := Scalar.muli v2091 c256_i32_1603
  v2092
def k0_mult115 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c12_i32_1634 : BitVec 32 := 12#32
  let v2133 : BitVec 32 := Scalar.addi v240 c12_i32_1634
  let c32_i32_1635 : BitVec 32 := 32#32
  let v2134 : BitVec 32 := Scalar.minsi v2133 c32_i32_1635
  let c256_i32_1636 : BitVec 32 := 256#32
  let v2135 : BitVec 32 := Scalar.muli v2134 c256_i32_1636
  v2135
def k0_mult116 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c12_i32_1667 : BitVec 32 := 12#32
  let v2176 : BitVec 32 := Scalar.addi v240 c12_i32_1667
  let c32_i32_1668 : BitVec 32 := 32#32
  let v2177 : BitVec 32 := Scalar.minsi v2176 c32_i32_1668
  let c256_i32_1669 : BitVec 32 := 256#32
  let v2178 : BitVec 32 := Scalar.muli v2177 c256_i32_1669
  v2178
def k0_mult117 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c13_i32 : BitVec 32 := 13#32
  let v2219 : BitVec 32 := Scalar.addi v240 c13_i32
  let c32_i32_1700 : BitVec 32 := 32#32
  let v2220 : BitVec 32 := Scalar.minsi v2219 c32_i32_1700
  let c256_i32_1701 : BitVec 32 := 256#32
  let v2221 : BitVec 32 := Scalar.muli v2220 c256_i32_1701
  v2221
def k0_mult118 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c13_i32_1732 : BitVec 32 := 13#32
  let v2262 : BitVec 32 := Scalar.addi v240 c13_i32_1732
  let c32_i32_1733 : BitVec 32 := 32#32
  let v2263 : BitVec 32 := Scalar.minsi v2262 c32_i32_1733
  let c256_i32_1734 : BitVec 32 := 256#32
  let v2264 : BitVec 32 := Scalar.muli v2263 c256_i32_1734
  v2264
def k0_mult119 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c13_i32_1765 : BitVec 32 := 13#32
  let v2305 : BitVec 32 := Scalar.addi v240 c13_i32_1765
  let c32_i32_1766 : BitVec 32 := 32#32
  let v2306 : BitVec 32 := Scalar.minsi v2305 c32_i32_1766
  let c256_i32_1767 : BitVec 32 := 256#32
  let v2307 : BitVec 32 := Scalar.muli v2306 c256_i32_1767
  v2307
def k0_mult120 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c13_i32_1798 : BitVec 32 := 13#32
  let v2348 : BitVec 32 := Scalar.addi v240 c13_i32_1798
  let c32_i32_1799 : BitVec 32 := 32#32
  let v2349 : BitVec 32 := Scalar.minsi v2348 c32_i32_1799
  let c256_i32_1800 : BitVec 32 := 256#32
  let v2350 : BitVec 32 := Scalar.muli v2349 c256_i32_1800
  v2350
def k0_mult121 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c14_i32 : BitVec 32 := 14#32
  let v2391 : BitVec 32 := Scalar.addi v240 c14_i32
  let c32_i32_1831 : BitVec 32 := 32#32
  let v2392 : BitVec 32 := Scalar.minsi v2391 c32_i32_1831
  let c256_i32_1832 : BitVec 32 := 256#32
  let v2393 : BitVec 32 := Scalar.muli v2392 c256_i32_1832
  v2393
def k0_mult122 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c14_i32_1863 : BitVec 32 := 14#32
  let v2434 : BitVec 32 := Scalar.addi v240 c14_i32_1863
  let c32_i32_1864 : BitVec 32 := 32#32
  let v2435 : BitVec 32 := Scalar.minsi v2434 c32_i32_1864
  let c256_i32_1865 : BitVec 32 := 256#32
  let v2436 : BitVec 32 := Scalar.muli v2435 c256_i32_1865
  v2436
def k0_mult123 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c14_i32_1896 : BitVec 32 := 14#32
  let v2477 : BitVec 32 := Scalar.addi v240 c14_i32_1896
  let c32_i32_1897 : BitVec 32 := 32#32
  let v2478 : BitVec 32 := Scalar.minsi v2477 c32_i32_1897
  let c256_i32_1898 : BitVec 32 := 256#32
  let v2479 : BitVec 32 := Scalar.muli v2478 c256_i32_1898
  v2479
def k0_mult124 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c14_i32_1929 : BitVec 32 := 14#32
  let v2520 : BitVec 32 := Scalar.addi v240 c14_i32_1929
  let c32_i32_1930 : BitVec 32 := 32#32
  let v2521 : BitVec 32 := Scalar.minsi v2520 c32_i32_1930
  let c256_i32_1931 : BitVec 32 := 256#32
  let v2522 : BitVec 32 := Scalar.muli v2521 c256_i32_1931
  v2522
def k0_mult125 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c15_i32 : BitVec 32 := 15#32
  let v2563 : BitVec 32 := Scalar.addi v240 c15_i32
  let c32_i32_1962 : BitVec 32 := 32#32
  let v2564 : BitVec 32 := Scalar.minsi v2563 c32_i32_1962
  let c256_i32_1963 : BitVec 32 := 256#32
  let v2565 : BitVec 32 := Scalar.muli v2564 c256_i32_1963
  v2565
def k0_mult126 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c15_i32_1994 : BitVec 32 := 15#32
  let v2606 : BitVec 32 := Scalar.addi v240 c15_i32_1994
  let c32_i32_1995 : BitVec 32 := 32#32
  let v2607 : BitVec 32 := Scalar.minsi v2606 c32_i32_1995
  let c256_i32_1996 : BitVec 32 := 256#32
  let v2608 : BitVec 32 := Scalar.muli v2607 c256_i32_1996
  v2608
def k0_mult127 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c15_i32_2027 : BitVec 32 := 15#32
  let v2649 : BitVec 32 := Scalar.addi v240 c15_i32_2027
  let c32_i32_2028 : BitVec 32 := 32#32
  let v2650 : BitVec 32 := Scalar.minsi v2649 c32_i32_2028
  let c256_i32_2029 : BitVec 32 := 256#32
  let v2651 : BitVec 32 := Scalar.muli v2650 c256_i32_2029
  v2651
def k0_mult128 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c15_i32_2060 : BitVec 32 := 15#32
  let v2692 : BitVec 32 := Scalar.addi v240 c15_i32_2060
  let c32_i32_2061 : BitVec 32 := 32#32
  let v2693 : BitVec 32 := Scalar.minsi v2692 c32_i32_2061
  let c256_i32_2062 : BitVec 32 := 256#32
  let v2694 : BitVec 32 := Scalar.muli v2693 c256_i32_2062
  v2694
def k0_mult129 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c16_i32_2093 : BitVec 32 := 16#32
  let v2735 : BitVec 32 := Scalar.addi v240 c16_i32_2093
  let c32_i32_2094 : BitVec 32 := 32#32
  let v2736 : BitVec 32 := Scalar.minsi v2735 c32_i32_2094
  let c256_i32_2095 : BitVec 32 := 256#32
  let v2737 : BitVec 32 := Scalar.muli v2736 c256_i32_2095
  v2737
def k0_mult130 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c16_i32_2126 : BitVec 32 := 16#32
  let v2778 : BitVec 32 := Scalar.addi v240 c16_i32_2126
  let c32_i32_2127 : BitVec 32 := 32#32
  let v2779 : BitVec 32 := Scalar.minsi v2778 c32_i32_2127
  let c256_i32_2128 : BitVec 32 := 256#32
  let v2780 : BitVec 32 := Scalar.muli v2779 c256_i32_2128
  v2780
def k0_mult131 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c16_i32_2159 : BitVec 32 := 16#32
  let v2821 : BitVec 32 := Scalar.addi v240 c16_i32_2159
  let c32_i32_2160 : BitVec 32 := 32#32
  let v2822 : BitVec 32 := Scalar.minsi v2821 c32_i32_2160
  let c256_i32_2161 : BitVec 32 := 256#32
  let v2823 : BitVec 32 := Scalar.muli v2822 c256_i32_2161
  v2823
def k0_mult132 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c16_i32_2192 : BitVec 32 := 16#32
  let v2864 : BitVec 32 := Scalar.addi v240 c16_i32_2192
  let c32_i32_2193 : BitVec 32 := 32#32
  let v2865 : BitVec 32 := Scalar.minsi v2864 c32_i32_2193
  let c256_i32_2194 : BitVec 32 := 256#32
  let v2866 : BitVec 32 := Scalar.muli v2865 c256_i32_2194
  v2866
def k0_mult133 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c17_i32 : BitVec 32 := 17#32
  let v2907 : BitVec 32 := Scalar.addi v240 c17_i32
  let c32_i32_2225 : BitVec 32 := 32#32
  let v2908 : BitVec 32 := Scalar.minsi v2907 c32_i32_2225
  let c256_i32_2226 : BitVec 32 := 256#32
  let v2909 : BitVec 32 := Scalar.muli v2908 c256_i32_2226
  v2909
def k0_mult134 (i : grid0.Coords) (k0_t2 : Fin (k0_t2_loop i).trips) : BitVec 32 :=
  let c16_i32_191 : BitVec 32 := 16#32
  let c0_i32_75 : BitVec 32 := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v83 : BitVec 32 := Scalar.subi v1 c0_i32_75
  let c1_i32_76 : BitVec 32 := 1#32
  let v85 : BitVec 32 := Scalar.divsi v83 c1_i32_76
  let v86 : BitVec 32 := Scalar.muli v85 c1_i32_76
  let v87 : BitVec 32 := Scalar.addi c0_i32_75 v86
  let c1_i32_78 : BitVec 32 := 1#32
  let arg11 : BitVec 32 := Scf.iv v87 c1_i32_78 k0_t2
  let v240 : BitVec 32 := Scalar.muli c16_i32_191 arg11
  let c17_i32_2257 : BitVec 32 := 17#32
  let v2950 : BitVec 32 := Scalar.addi v240 c17_i32_2257
  let c32_i32_2258 : BitVec 32 := 32#32
  let v2951 : BitVec 32 := Scalar.minsi v2950 c32_i32_2258
  let c256_i32_2259 : BitVec 32 := 256#32
  let v2952 : BitVec 32 := Scalar.muli v2951 c256_i32_2259
  v2952
def k0_off6 (i : grid0.Coords) : Fin 4 → Nat :=
  let c0_80 : Index := 0#32
  let c16_i32 : BitVec 32 := 16#32
  let arg2 : BitVec 32 := BitVec.ofNat 32 (i 2).val
  let c0_i32 : BitVec 32 := 0#32
  let v0 : BitVec 1 := Scalar.cmpi .eq arg2 c0_i32
  let c0_i32_0 : BitVec 32 := 0#32
  let c2_i32 : BitVec 32 := 2#32
  let v1 : BitVec 32 := Scalar.select v0 c0_i32_0 c2_i32
  let v88 : BitVec 32 := Scalar.muli c16_i32 v1
  let c0_i32_79 : BitVec 32 := 0#32
  let v89 : BitVec 32 := Scalar.addi v88 c0_i32_79
  let v90 : Index := Scalar.indexCast v89
  let c0_81 : Index := 0#32
  let c0_82 : Index := 0#32
  ![0, v90.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c33_i32 : BitVec 32 := 33#32
  let v1 : BitVec 32 := Scalar.muli arg0 c33_i32
  let v2 : BitVec 32 := Scalar.addi v1 arg2
  let c0_i32_0 : BitVec 32 := 0#32
  let c0_i32_1 : BitVec 32 := 0#32
  ![v0.toNat, c0_i32_0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let v1 : BitVec 32 := Scalar.addi v0 arg2
  let c0_i32 : BitVec 32 := 0#32
  ![v1.toNat, arg1.toNat]

abbrev stage0_0 : Fin 2 → Memref sig .tc .vmem S4x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x33x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8448x1024 : Shape := ⟨3, ![4, 8448, 1024]⟩
abbrev S4x8448x2x64 : Shape := ⟨4, ![4, 8448, 2, 64]⟩
abbrev S4x8448x512 : Shape := ⟨3, ![4, 8448, 512]⟩
abbrev S4x256x512 : Shape := ⟨3, ![4, 256, 512]⟩
abbrev S4x256x2x64 : Shape := ⟨4, ![4, 256, 2, 64]⟩
abbrev S4x256x2x4x64 : Shape := ⟨5, ![4, 256, 2, 4, 64]⟩
abbrev S4x2x256x256x4 : Shape := ⟨5, ![4, 2, 256, 256, 4]⟩
abbrev S4x2x4x256x256 : Shape := ⟨5, ![4, 2, 4, 256, 256]⟩
abbrev S_ : Shape := ⟨0, ![]⟩
abbrev S4x2x4x256 : Shape := ⟨4, ![4, 2, 4, 256]⟩
abbrev S4x2x4x256x1 : Shape := ⟨5, ![4, 2, 4, 256, 1]⟩
abbrev S4x2x64x4x256 : Shape := ⟨5, ![4, 2, 64, 4, 256]⟩
abbrev S4x8192x512 : Shape := ⟨3, ![4, 8192, 512]⟩
abbrev S4x8192x2x4x64 : Shape := ⟨5, ![4, 8192, 2, 4, 64]⟩
abbrev S4x2x8448x8192x4 : Shape := ⟨5, ![4, 2, 8448, 8192, 4]⟩
abbrev S4x2x4x8192x8448 : Shape := ⟨5, ![4, 2, 4, 8192, 8448]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S33792x512 : Shape := ⟨2, ![33792, 512]⟩

abbrev nBuf : Space → Nat
  | .hbm => 57
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x8448x2x64, .f32⟩
  | .hbm, ⟨2, _⟩ => ⟨S4x8448x2x64, .f32⟩
  | .hbm, ⟨3, _⟩ => ⟨S4x8448x512, .f32⟩
  | .hbm, ⟨4, _⟩ => ⟨S4x256x512, .f32⟩
  | .hbm, ⟨5, _⟩ => ⟨S4x256x2x64, .f32⟩
  | .hbm, ⟨6, _⟩ => ⟨S4x256x2x64, .f32⟩
  | .hbm, ⟨7, _⟩ => ⟨S4x256x2x4x64, .f32⟩
  | .hbm, ⟨8, _⟩ => ⟨S4x2x256x256x4, .f32⟩
  | .hbm, ⟨9, _⟩ => ⟨S4x2x4x256x256, .f32⟩
  | .hbm, ⟨10, _⟩ => ⟨S_, .f32⟩
  | .hbm, ⟨11, _⟩ => ⟨S4x2x4x256x256, .f32⟩
  | .hbm, ⟨12, _⟩ => ⟨S4x2x4x256x256, .f32⟩
  | .hbm, ⟨13, _⟩ => ⟨S_, .f32⟩
  | .hbm, ⟨14, _⟩ => ⟨S4x2x4x256, .f32⟩
  | .hbm, ⟨15, _⟩ => ⟨S_, .f32⟩
  | .hbm, ⟨16, _⟩ => ⟨S4x2x4x256, .f32⟩
  | .hbm, ⟨17, _⟩ => ⟨S4x2x4x256, .f32⟩
  | .hbm, ⟨18, _⟩ => ⟨S4x2x4x256x1, .f32⟩
  | .hbm, ⟨19, _⟩ => ⟨S4x2x4x256x256, .f32⟩
  | .hbm, ⟨20, _⟩ => ⟨S4x2x4x256x256, .f32⟩
  | .hbm, ⟨21, _⟩ => ⟨S4x2x4x256x256, .f32⟩
  | .hbm, ⟨22, _⟩ => ⟨S_, .f32⟩
  | .hbm, ⟨23, _⟩ => ⟨S4x2x4x256, .f32⟩
  | .hbm, ⟨24, _⟩ => ⟨S4x2x4x256x1, .f32⟩
  | .hbm, ⟨25, _⟩ => ⟨S4x2x4x256x256, .f32⟩
  | .hbm, ⟨26, _⟩ => ⟨S4x2x4x256x256, .f32⟩
  | .hbm, ⟨27, _⟩ => ⟨S4x2x64x4x256, .f32⟩
  | .hbm, ⟨28, _⟩ => ⟨S4x256x2x4x64, .f32⟩
  | .hbm, ⟨29, _⟩ => ⟨S4x256x512, .f32⟩
  | .hbm, ⟨30, _⟩ => ⟨S4x8192x512, .f32⟩
  | .hbm, ⟨31, _⟩ => ⟨S4x8192x2x4x64, .f32⟩
  | .hbm, ⟨32, _⟩ => ⟨S4x2x8448x8192x4, .f32⟩
  | .hbm, ⟨33, _⟩ => ⟨S4x2x4x8192x8448, .f32⟩
  | .hbm, ⟨34, _⟩ => ⟨S_, .f32⟩
  | .hbm, ⟨35, _⟩ => ⟨S4x2x4x8192x8448, .f32⟩
  | .hbm, ⟨36, _⟩ => ⟨S4x2x4x8192x8448, .f32⟩
  | .hbm, ⟨37, _⟩ => ⟨S_, .f32⟩
  | .hbm, ⟨38, _⟩ => ⟨S4x2x4x8192, .f32⟩
  | .hbm, ⟨39, _⟩ => ⟨S_, .f32⟩
  | .hbm, ⟨40, _⟩ => ⟨S4x2x4x8192, .f32⟩
  | .hbm, ⟨41, _⟩ => ⟨S4x2x4x8192, .f32⟩
  | .hbm, ⟨42, _⟩ => ⟨S4x2x4x8192x1, .f32⟩
  | .hbm, ⟨43, _⟩ => ⟨S4x2x4x8192x8448, .f32⟩
  | .hbm, ⟨44, _⟩ => ⟨S4x2x4x8192x8448, .f32⟩
  | .hbm, ⟨45, _⟩ => ⟨S4x2x4x8192x8448, .f32⟩
  | .hbm, ⟨46, _⟩ => ⟨S_, .f32⟩
  | .hbm, ⟨47, _⟩ => ⟨S4x2x4x8192, .f32⟩
  | .hbm, ⟨48, _⟩ => ⟨S4x2x4x8192x1, .f32⟩
  | .hbm, ⟨49, _⟩ => ⟨S4x2x4x8192x8448, .f32⟩
  | .hbm, ⟨50, _⟩ => ⟨S4x2x4x8192x8448, .f32⟩
  | .hbm, ⟨51, _⟩ => ⟨S4x2x64x4x8192, .f32⟩
  | .hbm, ⟨52, _⟩ => ⟨S4x8192x2x4x64, .f32⟩
  | .hbm, ⟨53, _⟩ => ⟨S4x8192x512, .f32⟩
  | .hbm, ⟨54, _⟩ => ⟨S4x8448x512, .f32⟩
  | .hbm, ⟨55, _⟩ => ⟨S33792x512, .f32⟩
  | .hbm, ⟨56, _⟩ => ⟨S33792x512, .bf16⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel2.lean ====
abbrev S33792x1024 : Shape := ⟨2, ![33792, 1024]⟩
abbrev S143360 : Shape := ⟨1, ![143360]⟩
abbrev S560 : Shape := ⟨1, ![560]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S143360x1 : Shape := ⟨2, ![143360, 1]⟩
abbrev S143360x1024 : Shape := ⟨2, ![143360, 1024]⟩
abbrev S4x32x1x2048 : Shape := ⟨4, ![4, 32, 1, 2048]⟩
abbrev S4x32x1x1024 : Shape := ⟨4, ![4, 32, 1, 1024]⟩
abbrev S256x1024 : Shape := ⟨2, ![256, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S1x1024 : Shape := ⟨2, ![1, 1024]⟩

abbrev nBuf : Space → Nat
  | .hbm => 18
  | .vmem => 14
  | .smem => 2
  | _ => 0

abbrev bufTy : (tb : Table) → Fin (tcTables nBuf tb) → BufTy
  | .hbm, ⟨0, _⟩ => ⟨S33792x1024, .bf16⟩
  | .hbm, ⟨1, _⟩ => ⟨S143360, .i32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S_, .i32⟩
  | .hbm, ⟨7, _⟩ => ⟨S143360, .i32⟩
  | .hbm, ⟨8, _⟩ => ⟨S143360, .i1⟩
  | .hbm, ⟨9, _⟩ => ⟨S_, .i32⟩
  | .hbm, ⟨10, _⟩ => ⟨S143360, .i32⟩
  | .hbm, ⟨11, _⟩ => ⟨S143360, .i32⟩
  | .hbm, ⟨12, _⟩ => ⟨S143360, .i32⟩
  | .hbm, ⟨13, _⟩ => ⟨S143360x1, .i32⟩
  | .hbm, ⟨14, _⟩ => ⟨S143360x1024, .bf16⟩
  | .hbm, ⟨15, _⟩ => ⟨S4x32x1x2048, .f32⟩
  | .hbm, ⟨16, _⟩ => ⟨S4x32x1x1024, .f32⟩
  | .hbm, ⟨17, _⟩ => ⟨S143360x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .bf16⟩
  | .local _ .vmem, ⟨11, _⟩ => ⟨S256x1024, .bf16⟩
  | .local _ .vmem, ⟨12, _⟩ => ⟨S1024x2048, .bf16⟩
  | .local _ .vmem, ⟨13, _⟩ => ⟨S1024x1024, .bf16⟩
  | .local _ .smem, ⟨0, _⟩ => ⟨S560, .i32⟩
  | .local _ .smem, ⟨1, _⟩ => ⟨S1, .i32⟩
  | _, _ => ⟨S33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![560], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S560.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S560.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S560.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S560.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S33792x1024 : Shape := ⟨2, ![33792, 1024]⟩
abbrev S143360 : Shape := ⟨1, ![143360]⟩
abbrev S560 : Shape := ⟨1, ![560]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S143360x1 : Shape := ⟨2, ![143360, 1]⟩
abbrev S143360x1024 : Shape := ⟨2, ![143360, 1024]⟩
abbrev S560x256x1024 : Shape := ⟨3, ![560, 256, 1024]⟩
abbrev S1x32x1024x2048 : Shape := ⟨4, ![1, 32, 1024, 2048]⟩
abbrev S32x1024x2048 : Shape := ⟨3, ![32, 1024, 2048]⟩
abbrev S560x1 : Shape := ⟨2, ![560, 1]⟩
abbrev S560x1024x2048 : Shape := ⟨3, ![560, 1024, 2048]⟩
abbrev S560x256x2048 : Shape := ⟨3, ![560, 256, 2048]⟩
abbrev S1x32x2048 : Shape := ⟨3, ![1, 32, 2048]⟩
abbrev S32x2048 : Shape := ⟨2, ![32, 2048]⟩
abbrev S560x2048 : Shape := ⟨2, ![560, 2048]⟩
abbrev S560x1x2048 : Shape := ⟨3, ![560, 1, 2048]⟩
abbrev S1x32x1024x1024 : Shape := ⟨4, ![1, 32, 1024, 1024]⟩
abbrev S32x1024x1024 : Shape := ⟨3, ![32, 1024, 1024]⟩
abbrev S560x1024x1024 : Shape := ⟨3, ![560, 1024, 1024]⟩
abbrev S1x32x1024 : Shape := ⟨3, ![1, 32, 1024]⟩
abbrev S32x1024 : Shape := ⟨2, ![32, 1024]⟩
abbrev S560x1024 : Shape := ⟨2, ![560, 1024]⟩
abbrev S560x1x1024 : Shape := ⟨3, ![560, 1, 1024]⟩
abbrev S560x1x1 : Shape := ⟨3, ![560, 1, 1]⟩

abbrev nBuf : Space → Nat
  | .hbm => 112
  | .vmem => 0
  | .smem => 0
  | _ => 0

abbrev bufTy : (tb : Table) → Fin (tcTables nBuf tb) → BufTy
  | .hbm, ⟨0, _⟩ => ⟨S33792x1024, .bf16⟩
  | .hbm, ⟨1, _⟩ => ⟨S143360, .i32⟩
  | .hbm, ⟨2, _⟩ => ⟨S560, .i32⟩
  | .hbm, ⟨3, _⟩ => ⟨S1, .i32⟩
  | .hbm, ⟨4, _⟩ => ⟨S4x32x1024x2048, .f32⟩
  | .hbm, ⟨5, _⟩ => ⟨S4x32x2048, .f32⟩
  | .hbm, ⟨6, _⟩ => ⟨S4x32x1024x1024, .f32⟩
  | .hbm, ⟨7, _⟩ => ⟨S4x32x1024, .f32⟩
  | .hbm, ⟨8, _⟩ => ⟨S33792x1024, .f32⟩
  | .hbm, ⟨9, _⟩ => ⟨S_, .i32⟩
  | .hbm, ⟨10, _⟩ => ⟨S143360, .i32⟩
  | .hbm, ⟨11, _⟩ => ⟨S143360, .i1⟩
  | .hbm, ⟨12, _⟩ => ⟨S_, .i32⟩
  | .hbm, ⟨13, _⟩ => ⟨S143360, .i32⟩
  | .hbm, ⟨14, _⟩ => ⟨S143360, .i32⟩
  | .hbm, ⟨15, _⟩ => ⟨S143360, .i32⟩
  | .hbm, ⟨16, _⟩ => ⟨S143360x1, .i32⟩
  | .hbm, ⟨17, _⟩ => ⟨S143360x1024, .f32⟩
  | .hbm, ⟨18, _⟩ => ⟨S560x256x1024, .f32⟩
  | .hbm, ⟨19, _⟩ => ⟨S1x32x1024x2048, .f32⟩
  | .hbm, ⟨20, _⟩ => ⟨S32x1024x2048, .f32⟩
  | .hbm, ⟨21, _⟩ => ⟨S_, .i32⟩
  | .hbm, ⟨22, _⟩ => ⟨S560, .i32⟩
  | .hbm, ⟨23, _⟩ => ⟨S560, .i1⟩
  | .hbm, ⟨24, _⟩ => ⟨S_, .i32⟩
  | .hbm, ⟨25, _⟩ => ⟨S560, .i32⟩
  | .hbm, ⟨26, _⟩ => ⟨S560, .i32⟩
  | .hbm, ⟨27, _⟩ => ⟨S560, .i32⟩
  | .hbm, ⟨28, _⟩ => ⟨S560x1, .i32⟩
  | .hbm, ⟨29, _⟩ => ⟨S560x1024x2048, .f32⟩
  | .hbm, ⟨30, _⟩ => ⟨S560x256x2048, .f32⟩
  | .hbm, ⟨31, _⟩ => ⟨S1x32x2048, .f32⟩
  | .hbm, ⟨32, _⟩ => ⟨S32x2048, .f32⟩
  | .hbm, ⟨33, _⟩ => ⟨S_, .i32⟩
  | .hbm, ⟨34, _⟩ => ⟨S560, .i32⟩
  | .hbm, ⟨35, _⟩ => ⟨S560, .i1⟩
  | .hbm, ⟨36, _⟩ => ⟨S_, .i32⟩
  | .hbm, ⟨37, _⟩ => ⟨S560, .i32⟩
  | .hbm, ⟨38, _⟩ => ⟨S560, .i32⟩
  | .hbm, ⟨39, _⟩ => ⟨S560, .i32⟩
  | .hbm, ⟨40, _⟩ => ⟨S560x1, .i32⟩
  | .hbm, ⟨41, _⟩ => ⟨S560x2048, .f32⟩
  | .hbm, ⟨42, _⟩ => ⟨S560x1x2048, .f32⟩
  | .hbm, ⟨43, _⟩ => ⟨S560x256x2048, .f32⟩
  | .hbm, ⟨44, _⟩ => ⟨S560x256x2048, .f32⟩
  | .hbm, ⟨45, _⟩ => ⟨S560x256x1024, .f32⟩
  | .hbm, ⟨46, _⟩ => ⟨S_, .f32⟩
  | .hbm, ⟨47, _⟩ => ⟨S560x256x1024, .f32⟩
  | .hbm, ⟨48, _⟩ => ⟨S560x256x1024, .f32⟩
  | .hbm, ⟨49, _⟩ => ⟨S560x256x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S560x256x1024, .f32⟩
  | .hbm, ⟨54, _⟩ => ⟨S560x256x1024, .f32⟩
  | .hbm, ⟨55, _⟩ => ⟨S_, .f32⟩
  | .hbm, ⟨56, _⟩ => ⟨S560x256x1024, .f32⟩
  | .hbm, ⟨57, _⟩ => ⟨S560x256x1024, .f32⟩
  | .hbm, ⟨58, _⟩ => ⟨S_, .f32⟩
  | .hbm, ⟨59, _⟩ => ⟨S560x256x1024, .f32⟩
  | .hbm, ⟨60, _⟩ => ⟨S560x256x1024, .f32⟩
  | .hbm, ⟨61, _⟩ => ⟨S_, .f32⟩
  | .hbm, ⟨62, _⟩ => ⟨S560x256x1024, .f32⟩
  | .hbm, ⟨63, _⟩ => ⟨S560x256x1024, .f32⟩
  | .hbm, ⟨64, _⟩ => ⟨S560x256x1024, .f32⟩
  | .hbm, ⟨65, _⟩ => ⟨S560x256x1024, .f32⟩
  | .hbm, ⟨66, _⟩ => ⟨S_, .f32⟩
  | .hbm, ⟨67, _⟩ => ⟨S560x256x1024, .f32⟩
  | .hbm, ⟨68, _⟩ => ⟨S560x256x1024, .f32⟩
  | .hbm, ⟨69, _⟩ => ⟨S_, .f32⟩
  | .hbm, ⟨70, _⟩ => ⟨S560x256x1024, .f32⟩
  | .hbm, ⟨71, _⟩ => ⟨S560x256x1024, .f32⟩
  | .hbm, ⟨72, _⟩ => ⟨S560x256x1024, .f32⟩
  | .hbm, ⟨73, _⟩ => ⟨S560x256x1024, .f32⟩
  | .hbm, ⟨74, _⟩ => ⟨S1x32x1024x1024, .f32⟩
  | .hbm, ⟨75, _⟩ => ⟨S32x1024x1024, .f32⟩
  | .hbm, ⟨76, _⟩ => ⟨S_, .i32⟩
  | .hbm, ⟨77, _⟩ => ⟨S560, .i32⟩
  | .hbm, ⟨78, _⟩ => ⟨S560, .i1⟩
  | .hbm, ⟨79, _⟩ => ⟨S_, .i32⟩
  | .hbm, ⟨80, _⟩ => ⟨S560, .i32⟩
  | .hbm, ⟨81, _⟩ => ⟨S560, .i32⟩
  | .hbm, ⟨82, _⟩ => ⟨S560, .i32⟩
  | .hbm, ⟨83, _⟩ => ⟨S560x1, .i32⟩
  | .hbm, ⟨84, _⟩ => ⟨S560x1024x1024, .f32⟩
  | .hbm, ⟨85, _⟩ => ⟨S560x256x1024, .f32⟩
  | .hbm, ⟨86, _⟩ => ⟨S1x32x1024, .f32⟩
  | .hbm, ⟨87, _⟩ => ⟨S32x1024, .f32⟩
  | .hbm, ⟨88, _⟩ => ⟨S_, .i32⟩
  | .hbm, ⟨89, _⟩ => ⟨S560, .i32⟩
  | .hbm, ⟨90, _⟩ => ⟨S560, .i1⟩
  | .hbm, ⟨91, _⟩ => ⟨S_, .i32⟩
  | .hbm, ⟨92, _⟩ => ⟨S560, .i32⟩
  | .hbm, ⟨93, _⟩ => ⟨S560, .i32⟩
  | .hbm, ⟨94, _⟩ => ⟨S560, .i32⟩
  | .hbm, ⟨95, _⟩ => ⟨S560x1, .i32⟩
  | .hbm, ⟨96, _⟩ => ⟨S560x1024, .f32⟩
  | .hbm, ⟨97, _⟩ => ⟨S560x1x1024, .f32⟩
  | .hbm, ⟨98, _⟩ => ⟨S560x256x1024, .f32⟩
  | .hbm, ⟨99, _⟩ => ⟨S560x256x1024, .f32⟩
  | .hbm, ⟨100, _⟩ => ⟨S560, .i32⟩
  | .hbm, ⟨101, _⟩ => ⟨S_, .i32⟩
  | .hbm, ⟨102, _⟩ => ⟨S560, .i32⟩
  | .hbm, ⟨103, _⟩ => ⟨S560, .i1⟩
  | .hbm, ⟨104, _⟩ => ⟨S560x1x1, .i1⟩
  | .hbm, ⟨105, _⟩ => ⟨S_, .f32⟩
  | .hbm, ⟨106, _⟩ => ⟨S_, .f32⟩
  | .hbm, ⟨107, _⟩ => ⟨S560x256x1024, .i1⟩
  | .hbm, ⟨108, _⟩ => ⟨S560x256x1024, .f32⟩
  | .hbm, ⟨109, _⟩ => ⟨S560x256x1024, .f32⟩
  | .hbm, ⟨110, _⟩ => ⟨S143360x1024, .f32⟩
  | .hbm, ⟨111, _⟩ => ⟨S143360x1024, .bf16⟩
  | _, _ => ⟨S33792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_cst_6 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x256x1024 : Shape := ⟨3, ![4, 256, 1024]⟩
abbrev S143360x1024 : Shape := ⟨2, ![143360, 1024]⟩
abbrev S135168 : Shape := ⟨1, ![135168]⟩
abbrev S4x33792 : Shape := ⟨2, ![4, 33792]⟩
abbrev S4x6144 : Shape := ⟨2, ![4, 6144]⟩
abbrev S6144 : Shape := ⟨1, ![6144]⟩
abbrev S4x8448x1024 : Shape := ⟨3, ![4, 8448, 1024]⟩
abbrev S33792x1024 : Shape := ⟨2, ![33792, 1024]⟩
abbrev S1x6144 : Shape := ⟨2, ![1, 6144]⟩
abbrev S_ : Shape := ⟨0, ![]⟩
abbrev S3x6144 : Shape := ⟨2, ![3, 6144]⟩
abbrev S8x6144 : Shape := ⟨2, ![8, 6144]⟩
abbrev S8x6x1024 : Shape := ⟨3, ![8, 6, 1024]⟩
abbrev S135168x1 : Shape := ⟨2, ![135168, 1]⟩
abbrev S135168x1024 : Shape := ⟨2, ![135168, 1024]⟩
abbrev S4x33792x1024 : Shape := ⟨3, ![4, 33792, 1024]⟩
abbrev S33792x4 : Shape := ⟨2, ![33792, 4]⟩
abbrev S256x1024 : Shape := ⟨2, ![256, 1024]⟩
abbrev S256x4 : Shape := ⟨2, ![256, 4]⟩
abbrev S1x6x1024 : Shape := ⟨3, ![1, 6, 1024]⟩
abbrev S256x1 : Shape := ⟨2, ![256, 1]⟩
abbrev S1x256x1024 : Shape := ⟨3, ![1, 256, 1024]⟩
abbrev S1x1x1024 : Shape := ⟨3, ![1, 1, 1024]⟩
abbrev S1x1024 : Shape := ⟨2, ![1, 1024]⟩

abbrev nBuf : Space → Nat
  | .hbm => 26
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S143360x1024, .bf16⟩
  | .hbm, ⟨3, _⟩ => ⟨S135168, .i32⟩
  | .hbm, ⟨4, _⟩ => ⟨S4x33792, .f32⟩
  | .hbm, ⟨5, _⟩ => ⟨S4x6144, .f32⟩
  | .hbm, ⟨6, _⟩ => ⟨S6144, .f32⟩
  | .hbm, ⟨7, _⟩ => ⟨S4x8448x1024, .f32⟩
  | .hbm, ⟨8, _⟩ => ⟨S33792x1024, .f32⟩
  | .hbm, ⟨9, _⟩ => ⟨S1x6144, .f32⟩
  | .hbm, ⟨10, _⟩ => ⟨S_, .f32⟩
  | .hbm, ⟨11, _⟩ => ⟨S3x6144, .f32⟩
  | .hbm, ⟨12, _⟩ => ⟨S8x6144, .f32⟩
  | .hbm, ⟨13, _⟩ => ⟨S8x6x1024, .f32⟩
  | .hbm, ⟨14, _⟩ => ⟨S_, .i32⟩
  | .hbm, ⟨15, _⟩ => ⟨S135168, .i32⟩
  | .hbm, ⟨16, _⟩ => ⟨S135168, .i1⟩
  | .hbm, ⟨17, _⟩ => ⟨S_, .i32⟩
  | .hbm, ⟨18, _⟩ => ⟨S135168, .i32⟩
  | .hbm, ⟨19, _⟩ => ⟨S135168, .i32⟩
  | .hbm, ⟨20, _⟩ => ⟨S135168, .i32⟩
  | .hbm, ⟨21, _⟩ => ⟨S135168x1, .i32⟩
  | .hbm, ⟨22, _⟩ => ⟨S135168x1024, .bf16⟩
  | .hbm, ⟨23, _⟩ => ⟨S4x33792x1024, .bf16⟩
  | .hbm, ⟨24, _⟩ => ⟨S33792x4, .f32⟩
  | .hbm, ⟨25, _⟩ => ⟨S33792x1024, .f32⟩
  | .local _ .vmem, ⟨0, _⟩ => ⟨S256x1024, .f32⟩
  | .local _ .vmem, ⟨1, _⟩ => ⟨S256x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S256x4, .f32⟩
  | .local _ .vmem, ⟨5, _⟩ => ⟨S256x4, .f32⟩
  | .local _ .vmem, ⟨6, _⟩ => ⟨S1x6x1024, .f32⟩
  | .local _ .vmem, ⟨7, _⟩ => ⟨S1x6x1024, .f32⟩
  | .local _ .vmem, ⟨8, _⟩ => ⟨S256x1024, .f32⟩
  | .local _ .vmem, ⟨9, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x8192x1024 : Shape := ⟨3, ![4, 8192, 1024]⟩
abbrev S4x256x1024 : Shape := ⟨3, ![4, 256, 1024]⟩
abbrev S143360x1024 : Shape := ⟨2, ![143360, 1024]⟩
abbrev S135168 : Shape := ⟨1, ![135168]⟩
abbrev S4x33792 : Shape := ⟨2, ![4, 33792]⟩
abbrev S4x6144 : Shape := ⟨2, ![4, 6144]⟩
abbrev S6144 : Shape := ⟨1, ![6144]⟩
abbrev S4x1x6144 : Shape := ⟨3, ![4, 1, 6144]⟩
abbrev S4x1x1024 : Shape := ⟨3, ![4, 1, 1024]⟩
abbrev S1024 : Shape := ⟨1, ![1024]⟩
abbrev S_ : Shape := ⟨0, ![]⟩
abbrev S135168x1 : Shape := ⟨2, ![135168, 1]⟩
abbrev S135168x1024 : Shape := ⟨2, ![135168, 1024]⟩
abbrev S4x33792x1024 : Shape := ⟨3, ![4, 33792, 1024]⟩
abbrev S33792x1024 : Shape := ⟨2, ![33792, 1024]⟩
abbrev S4x8448x1024 : Shape := ⟨3, ![4, 8448, 1024]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S143360x1024, .bf16⟩
  | .hbm, ⟨3, _⟩ => ⟨S135168, .i32⟩
  | .hbm, ⟨4, _⟩ => ⟨S4x33792, .f32⟩
  | .hbm, ⟨5, _⟩ => ⟨S4x6144, .f32⟩
  | .hbm, ⟨6, _⟩ => ⟨S6144, .f32⟩
  | .hbm, ⟨7, _⟩ => ⟨S4x1x6144, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S_, .i32⟩
  | .hbm, ⟨21, _⟩ => ⟨S135168, .i32⟩
  | .hbm, ⟨22, _⟩ => ⟨S135168, .i1⟩
  | .hbm, ⟨23, _⟩ => ⟨S_, .i32⟩
  | .hbm, ⟨24, _⟩ => ⟨S135168, .i32⟩
  | .hbm, ⟨25, _⟩ => ⟨S135168, .i32⟩
  | .hbm, ⟨26, _⟩ => ⟨S135168, .i32⟩
  | .hbm, ⟨27, _⟩ => ⟨S135168x1, .i32⟩
  | .hbm, ⟨28, _⟩ => ⟨S135168x1024, .bf16⟩
  | .hbm, ⟨29, _⟩ => ⟨S135168x1024, .f32⟩
  | .hbm, ⟨30, _⟩ => ⟨S4x33792x1024, .f32⟩
  | .hbm, ⟨31, _⟩ => ⟨S33792x1024, .f32⟩
  | .hbm, ⟨32, _⟩ => ⟨S4x8448x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x256x1024, .f32⟩
  | .hbm, ⟨38, _⟩ => ⟨S1x1x1024, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S4x8448x1024, .f32⟩
  | .hbm, ⟨43, _⟩ => ⟨S33792x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x256x1024 : Shape := ⟨3, ![4, 256, 1024]⟩
abbrev S1024 : Shape := ⟨1, ![1024]⟩
abbrev S1024x6400 : Shape := ⟨2, ![1024, 6400]⟩
abbrev S3072 : Shape := ⟨1, ![3072]⟩
abbrev S64 : Shape := ⟨1, ![64]⟩
abbrev S4x6144 : Shape := ⟨2, ![4, 6144]⟩
abbrev S6144 : Shape := ⟨1, ![6144]⟩
abbrev S4x8448x1024 : Shape := ⟨3, ![4, 8448, 1024]⟩
abbrev S33792x1024 : Shape := ⟨2, ![33792, 1024]⟩
abbrev S1x6144 : Shape := ⟨2, ![1, 6144]⟩
abbrev S_ : Shape := ⟨0, ![]⟩
abbrev S3x6144 : Shape := ⟨2, ![3, 6144]⟩
abbrev S8x6144 : Shape := ⟨2, ![8, 6144]⟩
abbrev S8x6x1024 : Shape := ⟨3, ![8, 6, 1024]⟩
abbrev S8192 : Shape := ⟨1, ![8192]⟩
abbrev S16 : Shape := ⟨1, ![16]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S128x1 : Shape := ⟨2, ![128, 1]⟩
abbrev S256x128 : Shape := ⟨2, ![256, 128]⟩
abbrev S8448x128 : Shape := ⟨2, ![8448, 128]⟩
abbrev S1x64 : Shape := ⟨2, ![1, 64]⟩
abbrev S2x64 : Shape := ⟨2, ![2, 64]⟩
abbrev S1664 : Shape := ⟨1, ![1664]⟩
abbrev S1x1664 : Shape := ⟨2, ![1, 1664]⟩
abbrev S1x1024 : Shape := ⟨2, ![1, 1024]⟩
abbrev S1024x128 : Shape := ⟨2, ![1024, 128]⟩
abbrev S1024x512 : Shape := ⟨2, ![1024, 512]⟩
abbrev S1024x1024 : Shape := ⟨2, ![1024, 1024]⟩
abbrev S1024x4096 : Shape := ⟨2, ![1024, 4096]⟩
abbrev S1x3072 : Shape := ⟨2, ![1, 3072]⟩
abbrev S2x33792x64 : Shape := ⟨3, ![2, 33792, 64]⟩
abbrev S8x33792x64 : Shape := ⟨3, ![8, 33792, 64]⟩
abbrev S16x64x33792 : Shape := ⟨3, ![16, 64, 33792]⟩
abbrev S132x128x256 : Shape := ⟨3, ![132, 128, 256]⟩
abbrev S132x512x256 : Shape := ⟨3, ![132, 512, 256]⟩
abbrev S33792x512 : Shape := ⟨2, ![33792, 512]⟩
abbrev S33792x3072 : Shape := ⟨2, ![33792, 3072]⟩
abbrev S256x1024 : Shape := ⟨2, ![256, 1024]⟩
abbrev S1x6x1024 : Shape := ⟨3, ![1, 6, 1024]⟩
abbrev S2x256x64 : Shape := ⟨3, ![2, 256, 64]⟩
abbrev S8x256x64 : Shape := ⟨3, ![8, 256, 64]⟩
abbrev S16x64x256 : Shape := ⟨3, ![16, 64, 256]⟩
abbrev S1x128x256 : Shape := ⟨3, ![1, 128, 256]⟩
abbrev S1x512x256 : Shape := ⟨3, ![1, 512, 256]⟩
abbrev S256x512 : Shape := ⟨2, ![256, 512]⟩
abbrev S256x3072 : Shape := ⟨2, ![256, 3072]⟩
abbrev S1x1x1024 : Shape := ⟨3, ![1, 1, 1024]⟩
abbrev S256 : Shape := ⟨1, ![256]⟩
abbrev S256x1 : Shape := ⟨2, ![256, 1]⟩
abbrev S128x128 : Shape := ⟨2, ![128, 128]⟩
abbrev S256x64 : Shape := ⟨2, ![256, 64]⟩
abbrev S1x256x64 : Shape := ⟨3, ![1, 256, 64]⟩
abbrev S128x256 : Shape := ⟨2, ![128, 256]⟩
abbrev S64x256 : Shape := ⟨2, ![64, 256]⟩
abbrev S1x64x256 : Shape := ⟨3, ![1, 64, 256]⟩
abbrev S1024x640 : Shape := ⟨2, ![1024, 640]⟩
abbrev S256x640 : Shape := ⟨2, ![256, 640]⟩

abbrev nBuf : Space → Nat
  | .hbm => 195
  | .vmem => 26
  | .smem => 0
  | _ => 0

abbrev hbmTy0_0 (i : Nat) : BufTy := match i % 128 with
  | 0 => ⟨S4x8192x1024, .f32⟩
  | 1 => ⟨S4x256x1024, .f32⟩
  | 2 => ⟨S1024, .f32⟩
  | 3 => ⟨S1024x6400, .f32⟩
  | 4 => ⟨S3072, .f32⟩
  | 5 => ⟨S64, .f32⟩
  | 6 => ⟨S64, .f32⟩
  | 7 => ⟨S64, .f32⟩
  | 8 => ⟨S64, .f32⟩
  | 9 => ⟨S4x6144, .f32⟩
  | 10 => ⟨S6144, .f32⟩
  | 11 => ⟨S4x8448x1024, .f32⟩
  | 12 => ⟨S33792x1024, .f32⟩
  | 13 => ⟨S1x6144, .f32⟩
  | 14 => ⟨S_, .f32⟩
  | 15 => ⟨S3x6144, .f32⟩
  | 16 => ⟨S8x6144, .f32⟩
  | 17 => ⟨S8x6x1024, .f32⟩
  | 18 => ⟨S8192, .f32⟩
  | 19 => ⟨S_, .f32⟩
  | 20 => ⟨S8192, .f32⟩
  | 21 => ⟨S8192, .f32⟩
  | 22 => ⟨S8192, .f32⟩
  | 23 => ⟨S_, .f32⟩
  | 24 => ⟨S8192, .f32⟩
  | 25 => ⟨S8192, .f32⟩
  | 26 => ⟨S8192, .f32⟩
  | 27 => ⟨S16, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S128, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S128, .i32⟩
  | 43 => ⟨S128, .i32⟩
  | 44 => ⟨S_, .i32⟩
  | 45 => ⟨S128, .i32⟩
  | 46 => ⟨S128, .i1⟩
  | 47 => ⟨S_, .i32⟩
  | 48 => ⟨S128, .i32⟩
  | 49 => ⟨S128, .i1⟩
  | 50 => ⟨S_, .i32⟩
  | 51 => ⟨S_, .i1⟩
  | 52 => ⟨S128, .i1⟩
  | 53 => ⟨S128, .i1⟩
  | 54 => ⟨S128, .i1⟩
  | 55 => ⟨S128, .i32⟩
  | 56 => ⟨S128, .i32⟩
  | 57 => ⟨S128, .i32⟩
  | 58 => ⟨S_, .i32⟩
  | 59 => ⟨S_, .i32⟩
  | 60 => ⟨S128, .i32⟩
  | 61 => ⟨S128, .i32⟩
  | 62 => ⟨S128, .i32⟩
  | 63 => ⟨S_, .i32⟩
  | 64 => ⟨S128, .i32⟩
  | 65 => ⟨S128, .i1⟩
  | 66 => ⟨S128, .i32⟩
  | 67 => ⟨S128, .i32⟩
  | 68 => ⟨S_, .i32⟩
  | 69 => ⟨S128, .i32⟩
  | 70 => ⟨S128, .i1⟩
  | 71 => ⟨S128, .i1⟩
  | 72 => ⟨S_, .i32⟩
  | 73 => ⟨S128, .i32⟩
  | 74 => ⟨S128, .i32⟩
  | 75 => ⟨S128, .i32⟩
  | 76 => ⟨S_, .i32⟩
  | 77 => ⟨S128, .i32⟩
  | 78 => ⟨S128, .i1⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S128, .i32⟩
  | 86 => ⟨S128, .i32⟩
  | 87 => ⟨S_, .i32⟩
  | 88 => ⟨S128, .i32⟩
  | 89 => ⟨S128, .i1⟩
  | 90 => ⟨S_, .i32⟩
  | 91 => ⟨S128, .i32⟩
  | 92 => ⟨S128, .i1⟩
  | 93 => ⟨S_, .i32⟩
  | 94 => ⟨S_, .i1⟩
  | 95 => ⟨S128, .i1⟩
  | 96 => ⟨S128, .i1⟩
  | 97 => ⟨S128, .i1⟩
  | 98 => ⟨S128, .i32⟩
  | 99 => ⟨S128, .i32⟩
  | 100 => ⟨S128, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S128, .i32⟩
  | 108 => ⟨S128, .i32⟩
  | 109 => ⟨S_, .i32⟩
  | 110 => ⟨S128, .i32⟩
  | 111 => ⟨S128, .i1⟩
  | 112 => ⟨S_, .i32⟩
  | 113 => ⟨S128, .i32⟩
  | 114 => ⟨S128, .i1⟩
  | 115 => ⟨S_, .i32⟩
  | 116 => ⟨S_, .i1⟩
  | 117 => ⟨S128, .i1⟩
  | 118 => ⟨S128, .i1⟩
  | 119 => ⟨S128, .i1⟩
  | 120 => ⟨S128, .i32⟩
  | 121 => ⟨S128, .i32⟩
  | 122 => ⟨S128, .i32⟩
  | 123 => ⟨S_, .i32⟩
  | 124 => ⟨S128, .i32⟩
  | 125 => ⟨S128, .i1⟩
  | 126 => ⟨S1x128, .i1⟩
  | 127 => ⟨S8192x1, .f32⟩
  | _ => ⟨S4x8192x1024, .f32⟩

abbrev hbmTy0_1 (i : Nat) : BufTy := match i % 128 with
  | 0 => ⟨S8192x1, .f32⟩
  | 1 => ⟨S8192x128, .i1⟩
  | 2 => ⟨S8192x128, .f32⟩
  | 3 => ⟨S8192x128, .f32⟩
  | 4 => ⟨S8192x128, .f32⟩
  | 5 => ⟨S_, .i32⟩
  | 6 => ⟨S128, .i32⟩
  | 7 => ⟨S128, .i1⟩
  | 8 => ⟨S_, .i32⟩
  | 9 => ⟨S128, .i32⟩
  | 10 => ⟨S128, .i32⟩
  | 11 => ⟨S128, .i32⟩
  | 12 => ⟨S128x1, .i32⟩
  | 13 => ⟨S128, .f32⟩
  | 14 => ⟨S1x128, .f32⟩
  | 15 => ⟨S8192x128, .f32⟩
  | 16 => ⟨S8192x128, .f32⟩
  | 17 => ⟨S8192x128, .f32⟩
  | 18 => ⟨S1x128, .i1⟩
  | 19 => ⟨S8192x128, .f32⟩
  | 20 => ⟨S8192x128, .f32⟩
  | 21 => ⟨S8192x128, .f32⟩
  | 22 => ⟨S8192x128, .i1⟩
  | 23 => ⟨S8192x128, .f32⟩
  | 24 => ⟨S_, .f32⟩
  | 25 => ⟨S256x128, .f32⟩
  | 26 => ⟨S8448x128, .f32⟩
  | 27 => ⟨S_, .f32⟩
  | 28 => ⟨S256x128, .f32⟩
  | 29 => ⟨S8448x128, .f32⟩
  | 30 => ⟨S1x64, .f32⟩
  | 31 => ⟨S2x64, .f32⟩
  | 32 => ⟨S128, .f32⟩
  | 33 => ⟨S1x64, .f32⟩
  | 34 => ⟨S2x64, .f32⟩
  | 35 => ⟨S128, .f32⟩
  | 36 => ⟨S1x64, .f32⟩
  | 37 => ⟨S2x64, .f32⟩
  | 38 => ⟨S128, .f32⟩
  | 39 => ⟨S_, .f32⟩
  | 40 => ⟨S128, .f32⟩
  | 41 => ⟨S128, .f32⟩
  | 42 => ⟨S1x64, .f32⟩
  | 43 => ⟨S2x64, .f32⟩
  | 44 => ⟨S128, .f32⟩
  | 45 => ⟨S_, .f32⟩
  | 46 => ⟨S128, .f32⟩
  | 47 => ⟨S128, .f32⟩
  | 48 => ⟨S1664, .f32⟩
  | 49 => ⟨S1x1664, .f32⟩
  | 50 => ⟨S1x1024, .f32⟩
  | 51 => ⟨S1024x128, .f32⟩
  | 52 => ⟨S1024x128, .f32⟩
  | 53 => ⟨S1024x512, .f32⟩
  | 54 => ⟨S1024x512, .f32⟩
  | 55 => ⟨S1024x1024, .f32⟩
  | 56 => ⟨S1024x4096, .f32⟩
  | 57 => ⟨S1024x6400, .f32⟩
  | 58 => ⟨S1024x6400, .bf16⟩
  | 59 => ⟨S1x3072, .f32⟩
  | 60 => ⟨S2x33792x64, .bf16⟩
  | 61 => ⟨S8x33792x64, .bf16⟩
  | 62 => ⟨S16x64x33792, .bf16⟩
  | 63 => ⟨S132x128x256, .bf16⟩
  | 64 => ⟨S132x512x256, .bf16⟩
  | 65 => ⟨S33792x512, .f32⟩
  | 66 => ⟨S33792x3072, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x6400, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x1664, .f32⟩
  | .local _ .vmem, ⟨11, _⟩ => ⟨S1x3072, .f32⟩
  | .local _ .vmem, ⟨12, _⟩ => ⟨S2x256x64, .bf16⟩
  | .local _ .vmem, ⟨13, _⟩ => ⟨S2x256x64, .bf16⟩
  | .local _ .vmem, ⟨14, _⟩ => ⟨S8x256x64, .bf16⟩
  | .local _ .vmem, ⟨15, _⟩ => ⟨S8x256x64, .bf16⟩
  | .local _ .vmem, ⟨16, _⟩ => ⟨S16x64x256, .bf16⟩
  | .local _ .vmem, ⟨17, _⟩ => ⟨S16x64x256, .bf16⟩
  | .local _ .vmem, ⟨18, _⟩ => ⟨S1x128x256, .bf16⟩
  | .local _ .vmem, ⟨19, _⟩ => ⟨S1x128x256, .bf16⟩
  | .local _ .vmem, ⟨20, _⟩ => ⟨S1x512x256, .bf16⟩
  | .local _ .vmem, ⟨21, _⟩ => ⟨S1x512x256, .bf16⟩
  | .local _ .vmem, ⟨22, _⟩ => ⟨S256x512, .f32⟩
  | .local _ .vmem, ⟨23, _⟩ => ⟨S256x512, .f32⟩
  | .local _ .vmem, ⟨24, _⟩ => ⟨S256x3072, .bf16⟩
  | .local _ .vmem, ⟨25, _⟩ => ⟨S256x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v20 : Ref sig .tc := ⟨.hbm, 57, rfl⟩
abbrev main_c_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v21 : Ref sig .tc := ⟨.hbm, 75, rfl⟩
abbrev main_c_5 : Ref sig .tc := ⟨.hbm, 76, rfl⟩
abbrev main_v22 : Ref sig .tc := ⟨.hbm, 77, rfl⟩
abbrev main_v23 : Ref sig .tc := ⟨.hbm, 78, rfl⟩
abbrev main_c_6 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_c_1 : Ref sig .tc := ⟨.hbm, 87, rfl⟩
abbrev main_call2_v5 : Ref sig .tc := ⟨.hbm, 88, rfl⟩
abbrev main_call2_v6 : Ref sig .tc := ⟨.hbm, 89, rfl⟩
abbrev main_call2_c_2 : Ref sig .tc := ⟨.hbm, 90, rfl⟩
abbrev main_call2_v7 : Ref sig .tc := ⟨.hbm, 91, rfl⟩
abbrev main_call2_v8 : Ref sig .tc := ⟨.hbm, 92, rfl⟩
abbrev main_call2_c_3 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_v24 : Ref sig .tc := ⟨.hbm, 100, rfl⟩
abbrev main_c_7 : Ref sig .tc := ⟨.hbm, 101, rfl⟩
abbrev main_call3_v0 : Ref sig .tc := ⟨.hbm, 102, rfl⟩
abbrev main_call3_c : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_c_1 : Ref sig .tc := ⟨.hbm, 109, rfl⟩
abbrev main_call3_v5 : Ref sig .tc := ⟨.hbm, 110, rfl⟩
abbrev main_call3_v6 : Ref sig .tc := ⟨.hbm, 111, rfl⟩
abbrev main_call3_c_2 : Ref sig .tc := ⟨.hbm, 112, rfl⟩
abbrev main_call3_v7 : Ref sig .tc := ⟨.hbm, 113, rfl⟩
abbrev main_call3_v8 : Ref sig .tc := ⟨.hbm, 114, rfl⟩
abbrev main_call3_c_3 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_v25 : Ref sig .tc := ⟨.hbm, 122, rfl⟩
abbrev main_c_8 : Ref sig .tc := ⟨.hbm, 123, rfl⟩
abbrev main_v26 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_v31 : Ref sig .tc := ⟨.hbm, 132, rfl⟩
abbrev main_c_9 : Ref sig .tc := ⟨.hbm, 133, rfl⟩
abbrev main_v32 : Ref sig .tc := ⟨.hbm, 134, rfl⟩
abbrev main_v33 : Ref sig .tc := ⟨.hbm, 135, rfl⟩
abbrev main_c_10 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_call5_v0 : Ref sig .tc := ⟨.hbm, 150, rfl⟩
abbrev main_v47 : Ref sig .tc := ⟨.hbm, 151, rfl⟩
abbrev main_cst_11 : Ref sig .tc := ⟨.hbm, 152, rfl⟩
abbrev main_v48 : Ref sig .tc := ⟨.hbm, 153, rfl⟩
abbrev main_v49 : Ref sig .tc := ⟨.hbm, 154, rfl⟩
abbrev main_cst_12 : Ref sig .tc := ⟨.hbm, 155, rfl⟩
abbrev main_v50 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_cst_13 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_cst_14 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_v80_0 : Ref sig .tc := ⟨.hbm, 188, rfl⟩
abbrev main_v80_1 : Ref sig .tc := ⟨.hbm, 189, rfl⟩
abbrev main_v80_2 : Ref sig .tc := ⟨.hbm, 190, rfl⟩
abbrev main_v80_3 : Ref sig .tc := ⟨.hbm, 191, rfl⟩
abbrev main_v80_4 : Ref sig .tc := ⟨.hbm, 192, rfl⟩
abbrev main_v80_5 : Ref sig .tc := ⟨.hbm, 193, rfl⟩
abbrev main_v80_6 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1664 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x64x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S4x8192x1024 : Shape := ⟨3, ![4, 8192, 1024]⟩
abbrev S4x256x1024 : Shape := ⟨3, ![4, 256, 1024]⟩
abbrev S1024 : Shape := ⟨1, ![1024]⟩
abbrev S1024x6400 : Shape := ⟨2, ![1024, 6400]⟩
abbrev S3072 : Shape := ⟨1, ![3072]⟩
abbrev S64 : Shape := ⟨1, ![64]⟩
abbrev S4x6144 : Shape := ⟨2, ![4, 6144]⟩
abbrev S6144 : Shape := ⟨1, ![6144]⟩
abbrev S4x1x6144 : Shape := ⟨3, ![4, 1, 6144]⟩
abbrev S4x1x1024 : Shape := ⟨3, ![4, 1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x8192 : Shape := ⟨2, ![4, 8192]⟩
abbrev S4x8192x1 : Shape := ⟨3, ![4, 8192, 1]⟩
abbrev S4x8448x1024 : Shape := ⟨3, ![4, 8448, 1024]⟩
abbrev S33792x1024 : Shape := ⟨2, ![33792, 1024]⟩
abbrev S33792x6400 : Shape := ⟨2, ![33792, 6400]⟩
abbrev S33792x128 : Shape := ⟨2, ![33792, 128]⟩
abbrev S33792x512 : Shape := ⟨2, ![33792, 512]⟩
abbrev S33792x3072 : Shape := ⟨2, ![33792, 3072]⟩
abbrev S132x256x128 : Shape := ⟨3, ![132, 256, 128]⟩
abbrev S132x128x256 : Shape := ⟨3, ![132, 128, 256]⟩
abbrev S132x256x512 : Shape := ⟨3, ![132, 256, 512]⟩
abbrev S132x512x256 : Shape := ⟨3, ![132, 512, 256]⟩
abbrev S1x3072 : Shape := ⟨2, ![1, 3072]⟩

abbrev nBuf : Space → Nat
  | .hbm => 108
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S1024, .f32⟩
  | .hbm, ⟨3, _⟩ => ⟨S1024x6400, .f32⟩
  | .hbm, ⟨4, _⟩ => ⟨S3072, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S4x6144, .f32⟩
  | .hbm, ⟨10, _⟩ => ⟨S6144, .f32⟩
  | .hbm, ⟨11, _⟩ => ⟨S4x1x6144, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S4x256x1024, .f32⟩
  | .hbm, ⟨25, _⟩ => ⟨S_, .f32⟩
  | .hbm, ⟨26, _⟩ => ⟨S4x256, .f32⟩
  | .hbm, ⟨27, _⟩ => ⟨S4x256x1, .f32⟩
  | .hbm, ⟨28, _⟩ => ⟨S_, .f32⟩
  | .hbm, ⟨29, _⟩ => ⟨S4x256x1, .f32⟩
  | .hbm, ⟨30, _⟩ => ⟨S4x256x1, .f32⟩
  | .hbm, ⟨31, _⟩ => ⟨S_, .f32⟩
  | .hbm, ⟨32, _⟩ => ⟨S4x256x1, .f32⟩
  | .hbm, ⟨33, _⟩ => ⟨S4x256x1, .f32⟩
  | .hbm, ⟨34, _⟩ => ⟨S4x256x1, .f32⟩
  | .hbm, ⟨35, _⟩ => ⟨S4x256x1024, .f32⟩
  | .hbm, ⟨36, _⟩ => ⟨S4x256x1024, .f32⟩
  | .hbm, ⟨37, _⟩ => ⟨S1x1x1024, .f32⟩
  | .hbm, ⟨38, _⟩ => ⟨S4x256x1024, .f32⟩
  | .hbm, ⟨39, _⟩ => ⟨S4x256x1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1x1x1024, .f32⟩
  | .hbm, ⟨44, _⟩ => ⟨S4x256x1024, .f32⟩
  | .hbm, ⟨45, _⟩ => ⟨S4x256x1024, .f32⟩
  | .hbm, ⟨46, _⟩ => ⟨S1x1x1024, .f32⟩
  | .hbm, ⟨47, _⟩ => ⟨S4x256x1024, .f32⟩
  | .hbm, ⟨48, _⟩ => ⟨S4x256x1024, .f32⟩
  | .hbm, ⟨49, _⟩ => ⟨S4x8192x1024, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x8192x1, .f32⟩
  | .hbm, ⟨60, _⟩ => ⟨S4x8192x1024, .f32⟩
  | .hbm, ⟨61, _⟩ => ⟨S4x8192x1024, .f32⟩
  | .hbm, ⟨62, _⟩ => ⟨S1x1x1024, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x1x1024, .f32⟩
  | .hbm, ⟨67, _⟩ => ⟨S4x1x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S4x8448x1024, .f32⟩
  | .hbm, ⟨73, _⟩ => ⟨S33792x1024, .f32⟩
  | .hbm, ⟨74, _⟩ => ⟨S33792x6400, .f32⟩
  | .hbm, ⟨75, _⟩ => ⟨S33792x128, .f32⟩
  | .hbm, ⟨76, _⟩ => ⟨S33792x512, .f32⟩
  | .hbm, ⟨77, _⟩ => ⟨S33792x1024, .f32⟩
  | .hbm, ⟨78, _⟩ => ⟨S33792x3072, .f32⟩
  | .hbm, ⟨79, _⟩ => ⟨S33792x512, .f32⟩
  | .hbm, ⟨80, _⟩ => ⟨S33792x512, .f32⟩
  | .hbm, ⟨81, _⟩ => ⟨S33792x512, .f32⟩
  | .hbm, ⟨82, _⟩ => ⟨S33792x512, .f32⟩
  | .hbm, ⟨83, _⟩ => ⟨S_, .f32⟩
  | .hbm, ⟨84, _⟩ => ⟨S33792x512, .f32⟩
  | .hbm, ⟨85, _⟩ => ⟨S33792x512, .f32⟩
  | .hbm, ⟨86, _⟩ => ⟨S_, .f32⟩
  | .hbm, ⟨87, _⟩ => ⟨S33792x512, .f32⟩
  | .hbm, ⟨88, _⟩ => ⟨S33792x512, .f32⟩
  | .hbm, ⟨89, _⟩ => ⟨S33792x512, .f32⟩
  | .hbm, ⟨90, _⟩ => ⟨S132x256x128, .f32⟩
  | .hbm, ⟨91, _⟩ => ⟨S132x128x256, .f32⟩
  | .hbm, ⟨92, _⟩ => ⟨S132x128x256, .bf16⟩
  | .hbm, ⟨93, _⟩ => ⟨S132x256x512, .f32⟩
  | .hbm, ⟨94, _⟩ => ⟨S132x512x256, .f32⟩
  | .hbm, ⟨95, _⟩ => ⟨S132x512x256, .bf16⟩
  | .hbm, ⟨96, _⟩ => ⟨S1x3072, .f32⟩
  | .hbm, ⟨97, _⟩ => ⟨S33792x3072, .f32⟩
  | .hbm, ⟨98, _⟩ => ⟨S33792x3072, .f32⟩
  | .hbm, ⟨99, _⟩ => ⟨S33792x3072, .f32⟩
  | .hbm, ⟨100, _⟩ => ⟨S33792x3072, .f32⟩
  | .hbm, ⟨101, _⟩ => ⟨S_, .f32⟩
  | .hbm, ⟨102, _⟩ => ⟨S33792x3072, .f32⟩
  | .hbm, ⟨103, _⟩ => ⟨S33792x3072, .f32⟩
  | .hbm, ⟨104, _⟩ => ⟨S_, .f32⟩
  | .hbm, ⟨105, _⟩ => ⟨S33792x3072, .f32⟩
  | .hbm, ⟨106, _⟩ => ⟨S33792x3072, .f32⟩
  | .hbm, ⟨107, _⟩ => ⟨S33792x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_9 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]
-- ==== Proof.Rules.lean ====
/- # Loads and stores of a buffer held whole

The rules the body's run is made of: a load through a rectangle of a buffer whose contents are known reads those contents at the
rectangle's places, and a store through a rectangle leaves known contents. Then arrays of four slabs, one per query head. -/
module

public import Idealize.ShloMosaic.Lib.Pipeline.Regions
public import Idealize.ShloMosaic.Lib.Memref
public import Idealize.ShloMosaic.Lib.Pointwise.Index

@[expose] public section

noncomputable section

namespace Cert.Attn

open Idealize.ShloMosaic Idealize.SL Idealize.SL.RA Idealize.SL.BI
open scoped Idealize.SL.BI
open Idealize.SL.BI.BIBase Idealize.SL.BI.Laws Idealize.SL.ProofMode Idealize.SL.Sem

section Ops

variable {nD : Nat} {τ : Topo} {sig : RefSig} {Ix : Type} [DecidableEq Ix] {Val : EltTy → Type} {Name : Type} [DecidableEq Name]
  {U : Type} [URA U] {Lvl : Type} [Preorder Lvl] {Λ : Labels} {defs : Defs nD τ sig Val Λ} (𝒱 : Variants) (c : Thread nD τ)
  (bd : Option 𝒱.V) {Γ : PendingWaitsCtx sig Ix} (E : Set Name)
  {s : Shape} {e : EltTy} {α : Type} {Q : α → sProp (MT nD τ sig Ix Val Name U Lvl)}

/-- A load reads the known contents at the rectangle's places. -/
theorem wp_loadO {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    iprop(owns c m q X ∗ (owns c m q X -∗ wp frame (wpE' defs 𝒱 c bd Γ) E (k fun x => X (r.idx x)) Q))
      ⊢ wp frame (wpE' defs 𝒱 c bd Γ) E (.op (.load m r hl) k) Q := by
  unfold owns
  iintro ⟨⟨%f, %hf, H⟩, HK⟩
  subst hf
  iapply (wp_load (q := q) (f := f) 𝒱 c bd E (S := m.view.set) (Finset.map_subset_map.mpr (Finset.subset_univ _))) $$ H
  iintro H
  iapply HK
  iexists f
  isplitr
  · ipureintro; rfl
  · iexact H

/-- A store through a rectangle leaves any contents that hold what was written at its places and agree with the old elsewhere. -/
theorem wp_storeO {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X X' : s.Idx → Val e}
    (hin : ∀ x, X' (r.idx x) = w x) (hout : ∀ y, y ∉ r.set → X' y = X y) :
    iprop(owns c m fullShare X ∗ (owns c m fullShare X' -∗ wp frame (wpE' defs 𝒱 c bd Γ) E (k ⟨⟩) Q))
      ⊢ wp frame (wpE' defs 𝒱 c bd Γ) E (.op (.store m r w Finset.univ hx hm) k) Q := by
  unfold owns
  iintro ⟨⟨%f, %hf, H⟩, HK⟩
  subst hf
  have hset : (m.access r).setOn Finset.univ ⊆ m.view.set := by
    intro y hy
    obtain ⟨x, -, rfl⟩ := Finset.mem_map.mp hy
    exact m.view.emb_mem_set (r.emb x)
  have hw := wp_store (defs := defs) (Γ := Γ) (m := m) (r := r) (w := w) (hx := hx) (hm := hm) (k := k) (Q := Q) (f := f) 𝒱 c bd E (S := m.view.set) hset
  iapply hw $$ H
  iintro H
  iapply HK
  iexists _
  isplitr
  swap
  · iexact H
  ipureintro
  funext y
  by_cases hy : y ∈ r.set
  · obtain ⟨x, rfl⟩ := r.exists_idx_of_mem hy
    rw [hin]
    exact View.read_slice_write_emb r f w (Finset.mem_univ x)
  · rw [hout y hy]
    exact View.read_slice_write_of_not_mem r f w Finset.univ (by rwa [Rect.map_emb_univ])

end Ops

/-! ## Four slabs -/

section Slabs

variable {β : Type} {a b : ℕ}

/-- An array of four slabs. -/
def slabs (σ : Fin 4 → (⟨3, ![1, a, b]⟩ : Shape).Idx → β) : (⟨3, ![4, a, b]⟩ : Shape).Idx → β :=
  fun y => σ (y 0) (ix3 0 (y 1) (y 2))

/-- A slab of an array. -/
def slabOf (X : (⟨3, ![4, a, b]⟩ : Shape).Idx → β) (m : Fin 4) : (⟨3, ![1, a, b]⟩ : Shape).Idx → β :=
  fun x => X (ix3 m (x 1) (x 2))

theorem slabs_slabOf (X : (⟨3, ![4, a, b]⟩ : Shape).Idx → β) : slabs (slabOf X) = X := by
  funext y
  exact congrArg X (eq_ix3 y).symm

/-- A head's slab lies within its array. -/
theorem slab_inb {m : ℕ} (hm : m < 4) :
    ∀ x, (![m, 0, 0] : Fin 3 → ℕ) x + (⟨3, ![1, a, b]⟩ : Shape).size x ≤ (⟨3, ![4, a, b]⟩ : Shape).size x := by
  intro x
  fin_cases x
  · show m + 1 ≤ 4; omega
  · show 0 + a ≤ a; omega
  · show 0 + b ≤ b; omega

/-- The rectangle of head `m` in an array of four slabs. -/
@[reducible] def slabR (a b m : ℕ) (hm : m < 4) : Rect (⟨3, ![4, a, b]⟩ : Shape) :=
  Rect.unit (s := ⟨3, ![4, a, b]⟩) ![m, 0, 0] (⟨3, ![1, a, b]⟩ : Shape).size (slab_inb hm)

theorem slabR_idx (m : ℕ) (hm : m < 4) (x : (⟨3, ![1, a, b]⟩ : Shape).Idx) :
    (slabR a b m hm).idx x = ix3 (⟨m, hm⟩ : Fin 4) (x 1) (x 2) := by
  have hx : (x 0).val = 0 := by have := (x 0).isLt; simp at this; omega
  funext i
  apply Fin.ext
  fin_cases i
  · show m + 1 * (x 0).val = m; omega
  · show 0 + 1 * (x 1).val = (x 1).val; omega
  · show 0 + 1 * (x 2).val = (x 2).val; omega

theorem ix3_zero (x : (⟨3, ![1, a, b]⟩ : Shape).Idx) : (ix3 0 (x 1) (x 2) : (⟨3, ![1, a, b]⟩ : Shape).Idx) = x := by
  have hx : x 0 = (0 : Fin 1) := Subsingleton.elim (α := Fin 1) _ _
  conv_rhs => rw [eq_ix3 x]
  rw [hx]

/-- A load of a head's slab. -/
theorem slabs_read (σ : Fin 4 → (⟨3, ![1, a, b]⟩ : Shape).Idx → β) (m : ℕ) (hm : m < 4) :
    (fun x : (⟨3, ![1, a, b]⟩ : Shape).Idx => slabs σ ((slabR a b m hm).idx x)) = σ ⟨m, hm⟩ := by
  funext x
  rw [slabR_idx]
  exact congrArg (σ ⟨m, hm⟩) (ix3_zero x)

theorem slabOf_read (X : (⟨3, ![4, a, b]⟩ : Shape).Idx → β) (m : ℕ) (hm : m < 4) :
    (fun x : (⟨3, ![1, a, b]⟩ : Shape).Idx => X ((slabR a b m hm).idx x)) = slabOf X ⟨m, hm⟩ := by
  funext x
  rw [slabR_idx]; rfl

theorem slabs_update_in (σ : Fin 4 → (⟨3, ![1, a, b]⟩ : Shape).Idx → β) (m : ℕ) (hm : m < 4)
    (w : (⟨3, ![1, a, b]⟩ : Shape).Idx → β) (x : (⟨3, ![1, a, b]⟩ : Shape).Idx) :
    slabs (Function.update σ ⟨m, hm⟩ w) ((slabR a b m hm).idx x) = w x := by
  have := congrFun (slabs_read (Function.update σ ⟨m, hm⟩ w) m hm) x
  rw [Function.update_self] at this
  exact this

theorem slabs_update_out (σ : Fin 4 → (⟨3, ![1, a, b]⟩ : Shape).Idx → β) (m : ℕ) (hm : m < 4)
    (w : (⟨3, ![1, a, b]⟩ : Shape).Idx → β) (y : (⟨3, ![4, a, b]⟩ : Shape).Idx) (hy : y ∉ (slabR a b m hm).set) :
    slabs (Function.update σ ⟨m, hm⟩ w) y = slabs σ y := by
  have hne : y 0 ≠ (⟨m, hm⟩ : Fin 4) := by
    intro h0
    apply hy
    rw [Rect.mem_set_unit]
    have h0v : (y 0).val = m := congrArg Fin.val h0
    have h1 : (y 1).val < a := (y 1).isLt
    have h2 : (y 2).val < b := (y 2).isLt
    intro i
    fin_cases i
    · show m ≤ (y 0).val ∧ (y 0).val < m + 1; omega
    · show 0 ≤ (y 1).val ∧ (y 1).val < 0 + a; omega
    · show 0 ≤ (y 2).val ∧ (y 2).val < 0 + b; omega
  unfold slabs
  exact congrFun (Function.update_of_ne hne _ _) _

end Slabs

end Cert.Attn

end
-- ==== Proof.Steps.lean ====
/- # The attention kernel as a list of its steps

The kernel of grouped-query attention takes the keys of a tile in chunks of 256. Per chunk and per query head of the group
it does two things: a SCORE step (the chunk's keys times the head's queries, into one of two buffers) and a PV step (the online
softmax: the new running maximum, the rescaled accumulator plus the chunk's weighted values, with a row of ones below the values
whose sum is the denominator). Here the printed kernel is shown to be exactly these steps, in the order in which the software
pipeline interleaves them. -/
module

public import proofs.«01_k».proof.Proof.Gen.KernelIdeal.Skeleton
public import proofs.«01_k».proof.Proof.Rules

@[expose] public section

set_option maxRecDepth 65536

noncomputable section

namespace Cert.KernelIdeal.Attn

open Idealize.ShloMosaic Idealize.SL.Sem Cert.KernelIdeal.Gen Cert.Attn

variable {F : FTy → Type} [FloatOps F]

/-- A program of the kernel's core that returns an `α`. -/
abbrev Pr (F : FTy → Type) [FloatOps F] (α : Type) := Prog (TpuEff nD τ sig (Elt F) Λ₀ .tc) α

/-! ## What a step computes -/

/-- The scores of a chunk of keys and one head's queries: rows are keys, columns queries. -/
def scoreVal (kc : Vec F S1x256x64 .bf16) (q : Vec F S1x64x256 .bf16) : Vec F S1x256x256 .f32 :=
  shapeCast S1x256x256 (matmul dot_S256x64_S64x256_S256x256_1_0_0_1_n_n none (shapeCast S256x64 kc shapeCasts_S1x256x64_S256x64)
    (shapeCast S64x256 q shapeCasts_S1x64x256_S64x256) (constant S256x256 .f32 0x00000000#32)) shapeCasts_S256x256_S1x256x256

/-- The running maximum of each query after a chunk. -/
def maxVal (s : Vec F S1x256x256 .f32) (mo : Vec F S1x1x256 .f32) : FVec F S1x256 .f32 :=
  maximumf (shapeCast S1x256 mo shapeCasts_S1x1x256_S1x256)
    (shapeCast S1x256 (multiReduction .maximumf [0] S256 (shapeCast S256x256 s shapeCasts_S1x256x256_S256x256) 0xFF800000#32
      reduces_S256x256_S256 (.inl rfl) rfl) shapeCasts_S256_S1x256)

/-- The running maximum as it is stored. -/
def maxStored (v : FVec F S1x256 .f32) : Vec F S1x1x256 .f32 := shapeCast S1x1x256 v shapeCasts_S1x256_S1x1x256

/-- The sixteen rows of ones that are put below the values. -/
def ones : FVec F S16x256 .bf16 := broadcast S16x256 (Scalar.ofBits .bf16 0x3F80#16)

/-- The accumulator of a head after a chunk: the old one rescaled, plus the values (and the ones) times the weights. -/
def accVal (vt : Vec F S1x1x64x256 .bf16) (s : Vec F S1x256x256 .f32) (mo : Vec F S1x1x256 .f32)
    (ao : Vec F S1x80x256 .f32) : Vec F S1x80x256 .f32 :=
  shapeCast S1x80x256
    (addf (mulf (broadcastTo S80x256 (exp2 (subf (shapeCast S1x256 mo shapeCasts_S1x1x256_S1x256) (maxVal s mo))) broadcasts_S1x256_S80x256)
        (shapeCast S80x256 ao shapeCasts_S1x80x256_S80x256))
      (matmul dot_S80x256_S256x256_S80x256_1_0_0_1_n_n none
        (concatenate S80x256 0 [⟨S64x256, shapeCast S64x256 vt shapeCasts_S1x1x64x256_S64x256⟩, ⟨S16x256, ones⟩]
          concatenates_S64x256_S16x256_S80x256_d0)
        (truncf .bf16 (exp2 (subf (shapeCast S256x256 s shapeCasts_S1x256x256_S256x256)
          (broadcastTo S256x256 (maxVal s mo) broadcasts_S1x256_S256x256))) bitsLt_bf16_f32)
        (constant S80x256 .f32 0x00000000#32)))
    shapeCasts_S80x256_S1x80x256

/-- The running maxima at the start. -/
def max0 : Vec F S4x1x256 .f32 := shapeCast S4x1x256 (broadcast S4x1x256 (Scalar.ofBits .f32 0xFF800000#32)) shapeCasts_S4x1x256_S4x1x256

/-- The accumulators at the start. -/
def acc0 : Vec F S4x80x256 .f32 := shapeCast S4x80x256 (broadcast S4x80x256 (Scalar.ofBits .f32 0x00000000#32)) shapeCasts_S4x80x256_S4x80x256

/-- One head's result: the weighted values over the denominator. -/
def quot (u : Vec F S1x64x256 .f32) (d : Vec F S1x1x256 .f32) : FVec F S64x256 .f32 :=
  divf (shapeCast S64x256 u shapeCasts_S1x64x256_S64x256)
    (broadcastTo S64x256 (shapeCast S1x256 d shapeCasts_S1x1x256_S1x256) broadcasts_S1x256_S64x256)

/-- The block of the result: the four heads' results on top of each other, a row per query. -/
def outVal (a b c d : FVec F S64x256 .f32) : Vec F S256x256 .bf16 :=
  truncf .bf16 (transpose S256x256 [1, 0] (concatenate S256x256 0 [⟨S64x256, a⟩, ⟨S64x256, b⟩, ⟨S64x256, c⟩, ⟨S64x256, d⟩]
    concatenates_S64x256_S64x256_S64x256_S64x256_S256x256_d0) transposes_S256x256_p1_0_S256x256) bitsLt_bf16_f32

/-! ## The steps -/

section Steps

variable (arg3 : Memref sig .tc .vmem S4x64x256 .bf16) (arg4 : Memref sig .tc .vmem S1x8448x64 .bf16)
  (arg5 : Memref sig .tc .vmem S1x33x64x256 .bf16) (arg6 : Memref sig .tc .vmem S256x256 .bf16) (harg6 : arg6.IsWhole)
  (arg7 arg8 : Memref sig .tc .vmem S4x256x256 .f32) (arg9 : Memref sig .tc .vmem S4x1x256 .f32)
  (arg10 : Memref sig .tc .vmem S4x80x256 .f32)

variable {α : Type}

/-- The score step of head `m` on the chunk of keys at `off`, into `buf`. -/
def scoreK (buf : Memref sig .tc .vmem S4x256x256 .f32) (off : Fin 3 → ℕ) (hoff : ∀ a, off a + S1x256x64.size a ≤ S1x8448x64.size a)
    (m : ℕ) (hm : m < 4) (k : Pr F α) : Pr F α :=
  .op (.load arg4 (Rect.unit (s := S1x8448x64) off S1x256x64.size hoff).toLoadRect (View.loadsAt_vmem h_S1x256x64)) fun kc =>
  .op (.load arg3 (slabR 64 256 m hm).toLoadRect (View.loadsAt_vmem h_S1x64x256)) fun q =>
  .op (.load buf (slabR 256 256 m hm).toLoadRect (View.loadsAt_vmem h_S1x256x256)) fun _ =>
  .op (.store buf (slabR 256 256 m hm) (scoreVal kc q) Finset.univ (View.stores_vmem_bits_univ h_S1x256x256 rfl) (.inl rfl)) fun _ => k

/-- The first part of the PV step of head `m`: up to the store of the accumulator. It hands on the new maximum. -/
def pvA (buf : Memref sig .tc .vmem S4x256x256 .f32) (off : Fin 4 → ℕ) (hoff : ∀ a, off a + S1x1x64x256.size a ≤ S1x33x64x256.size a)
    (m : ℕ) (hm : m < 4) (k : FVec F S1x256 .f32 → Pr F α) : Pr F α :=
  .op (.load arg5 (Rect.unit (s := S1x33x64x256) off S1x1x64x256.size hoff).toLoadRect (View.loadsAt_vmem h_S1x1x64x256)) fun vt =>
  .op (.load buf (slabR 256 256 m hm).toLoadRect (View.loadsAt_vmem h_S1x256x256)) fun s =>
  .op (.load arg9 (slabR 1 256 m hm).toLoadRect (View.loadsAt_vmem h_S1x1x256)) fun mo =>
  .op (.load arg10 (slabR 80 256 m hm).toLoadRect (View.loadsAt_vmem h_S1x80x256)) fun ao =>
  .op (.load arg10 (slabR 80 256 m hm).toLoadRect (View.loadsAt_vmem h_S1x80x256)) fun _ =>
  .op (.store arg10 (slabR 80 256 m hm) (accVal vt s mo ao) Finset.univ (View.stores_vmem_bits_univ h_S1x80x256 rfl) (.inl rfl)) fun _ =>
  k (maxVal s mo)

/-- The second part of the PV step: the store of the new maximum. -/
def pvB (m : ℕ) (hm : m < 4) (v : FVec F S1x256 .f32) (k : Pr F α) : Pr F α :=
  .op (.load arg9 (slabR 1 256 m hm).toLoadRect (View.loadsAt_vmem h_S1x1x256)) fun _ =>
  .op (.store arg9 (slabR 1 256 m hm) (maxStored v) Finset.univ (View.stores_vmem_bits_univ h_S1x1x256 rfl) (.inl rfl)) fun _ => k

/-- The PV step of head `m` on the scores in `buf` and the chunk of values at `off`. -/
def pvK (buf : Memref sig .tc .vmem S4x256x256 .f32) (off : Fin 4 → ℕ) (hoff : ∀ a, off a + S1x1x64x256.size a ≤ S1x33x64x256.size a)
    (m : ℕ) (hm : m < 4) (k : Pr F α) : Pr F α :=
  pvA arg5 arg9 arg10 buf off hoff m hm fun v => pvB arg9 m hm v k

/-- Two chunks: PV steps of the chunk in the first buffer, then of the chunk in the second, each with a score step running ahead. -/
def pairK (o1 o2 o3 : Fin 3 → ℕ) (h1 : ∀ a, o1 a + S1x256x64.size a ≤ S1x8448x64.size a)
    (h2 : ∀ a, o2 a + S1x256x64.size a ≤ S1x8448x64.size a) (h3 : ∀ a, o3 a + S1x256x64.size a ≤ S1x8448x64.size a)
    (w0 w1 : Fin 4 → ℕ) (g0 : ∀ a, w0 a + S1x1x64x256.size a ≤ S1x33x64x256.size a)
    (g1 : ∀ a, w1 a + S1x1x64x256.size a ≤ S1x33x64x256.size a) (k : Pr F α) : Pr F α :=
  scoreK arg3 arg4 arg8 o1 h1 2 (by decide) <| pvK arg5 arg9 arg10 arg7 w0 g0 0 (by decide) <|
  scoreK arg3 arg4 arg8 o1 h1 3 (by decide) <| pvK arg5 arg9 arg10 arg7 w0 g0 1 (by decide) <|
  scoreK arg3 arg4 arg7 o2 h2 0 (by decide) <| pvK arg5 arg9 arg10 arg7 w0 g0 2 (by decide) <|
  scoreK arg3 arg4 arg7 o2 h2 1 (by decide) <| pvK arg5 arg9 arg10 arg7 w0 g0 3 (by decide) <|
  scoreK arg3 arg4 arg7 o2 h2 2 (by decide) <| pvK arg5 arg9 arg10 arg8 w1 g1 0 (by decide) <|
  scoreK arg3 arg4 arg7 o2 h2 3 (by decide) <| pvK arg5 arg9 arg10 arg8 w1 g1 1 (by decide) <|
  scoreK arg3 arg4 arg8 o3 h3 0 (by decide) <| pvK arg5 arg9 arg10 arg8 w1 g1 2 (by decide) <|
  scoreK arg3 arg4 arg8 o3 h3 1 (by decide) <| pvK arg5 arg9 arg10 arg8 w1 g1 3 (by decide) k

/-- One trip of the loop: sixteen chunks. -/
def tripK (i : grid0.Coords) (t : Fin (k0_t1_loop i).trips) (k : Pr F α) : Pr F α :=
  pairK arg3 arg4 arg5 arg7 arg8 arg9 arg10 (k0_off2 i t 1#32) (k0_off2 i t 2#32) (k0_off2 i t 3#32) (k0_off2_inb i t 0) (k0_off2_inb i t 1) (k0_off2_inb i t 2)
    (k0_off3 i t 0#32) (k0_off3 i t 1#32) (k0_off3_inb i t 0) (k0_off3_inb i t 1) <|
  pairK arg3 arg4 arg5 arg7 arg8 arg9 arg10 (k0_off2 i t 3#32) (k0_off2 i t 4#32) (k0_off2 i t 5#32) (k0_off2_inb i t 2) (k0_off2_inb i t 3) (k0_off2_inb i t 4)
    (k0_off3 i t 2#32) (k0_off3 i t 3#32) (k0_off3_inb i t 2) (k0_off3_inb i t 3) <|
  pairK arg3 arg4 arg5 arg7 arg8 arg9 arg10 (k0_off2 i t 5#32) (k0_off2 i t 6#32) (k0_off2 i t 7#32) (k0_off2_inb i t 4) (k0_off2_inb i t 5) (k0_off2_inb i t 6)
    (k0_off3 i t 4#32) (k0_off3 i t 5#32) (k0_off3_inb i t 4) (k0_off3_inb i t 5) <|
  pairK arg3 arg4 arg5 arg7 arg8 arg9 arg10 (k0_off2 i t 7#32) (k0_off2 i t 8#32) (k0_off2 i t 9#32) (k0_off2_inb i t 6) (k0_off2_inb i t 7) (k0_off2_inb i t 8)
    (k0_off3 i t 6#32) (k0_off3 i t 7#32) (k0_off3_inb i t 6) (k0_off3_inb i t 7) <|
  pairK arg3 arg4 arg5 arg7 arg8 arg9 arg10 (k0_off2 i t 9#32) (k0_off2 i t 10#32) (k0_off2 i t 11#32) (k0_off2_inb i t 8) (k0_off2_inb i t 9) (k0_off2_inb i t 10)
    (k0_off3 i t 8#32) (k0_off3 i t 9#32) (k0_off3_inb i t 8) (k0_off3_inb i t 9) <|
  pairK arg3 arg4 arg5 arg7 arg8 arg9 arg10 (k0_off2 i t 11#32) (k0_off2 i t 12#32) (k0_off2 i t 13#32) (k0_off2_inb i t 10) (k0_off2_inb i t 11) (k0_off2_inb i t 12)
    (k0_off3 i t 10#32) (k0_off3 i t 11#32) (k0_off3_inb i t 10) (k0_off3_inb i t 11) <|
  pairK arg3 arg4 arg5 arg7 arg8 arg9 arg10 (k0_off2 i t 13#32) (k0_off2 i t 14#32) (k0_off2 i t 15#32) (k0_off2_inb i t 12) (k0_off2_inb i t 13) (k0_off2_inb i t 14)
    (k0_off3 i t 12#32) (k0_off3 i t 13#32) (k0_off3_inb i t 12) (k0_off3_inb i t 13) <|
  pairK arg3 arg4 arg5 arg7 arg8 arg9 arg10 (k0_off2 i t 15#32) (k0_off2 i t 16#32) (k0_off2 i t 17#32) (k0_off2_inb i t 14) (k0_off2_inb i t 15) (k0_off2_inb i t 16)
    (k0_off3 i t 14#32) (k0_off3 i t 15#32) (k0_off3_inb i t 14) (k0_off3_inb i t 15) k

/-- The steps before the loop: maxima and accumulators are set, the first chunk's scores of every head and the second chunk's of
the first two are computed. -/
def prologueK (k : Pr F α) : Pr F α :=
  .op (.load arg9 (Rect.unit (s := S4x1x256) ![0, 0, 0] S4x1x256.size inb_S4x1x256_S4x1x256_0_0_0).toLoadRect (View.loadsAt_vmem h_S4x1x256)) fun _ =>
  .op (.store arg9 (Rect.unit (s := S4x1x256) ![0, 0, 0] S4x1x256.size inb_S4x1x256_S4x1x256_0_0_0) max0 Finset.univ (View.stores_vmem_bits_univ h_S4x1x256 rfl) (.inl rfl)) fun _ =>
  .op (.load arg10 (Rect.unit (s := S4x80x256) ![0, 0, 0] S4x80x256.size inb_S4x80x256_S4x80x256_0_0_0).toLoadRect (View.loadsAt_vmem h_S4x80x256)) fun _ =>
  .op (.store arg10 (Rect.unit (s := S4x80x256) ![0, 0, 0] S4x80x256.size inb_S4x80x256_S4x80x256_0_0_0) acc0 Finset.univ (View.stores_vmem_bits_univ h_S4x80x256 rfl) (.inl rfl)) fun _ =>
  scoreK arg3 arg4 arg7 (k0_off1 0#32) (k0_off1_inb 0) 0 (by decide) <|
  scoreK arg3 arg4 arg7 (k0_off1 0#32) (k0_off1_inb 0) 1 (by decide) <|
  scoreK arg3 arg4 arg7 (k0_off1 0#32) (k0_off1_inb 0) 2 (by decide) <|
  scoreK arg3 arg4 arg7 (k0_off1 0#32) (k0_off1_inb 0) 3 (by decide) <|
  scoreK arg3 arg4 arg8 (k0_off1 1#32) (k0_off1_inb 1) 0 (by decide) <|
  scoreK arg3 arg4 arg8 (k0_off1 1#32) (k0_off1_inb 1) 1 (by decide) k

/-- A head's weighted values and denominator are read from its accumulator. -/
def quotK (m : ℕ) (h1 : ∀ a, (![m, 0, 0] : Fin 3 → ℕ) a + S1x64x256.size a ≤ S4x80x256.size a)
    (h2 : ∀ a, (![m, 64, 0] : Fin 3 → ℕ) a + S1x1x256.size a ≤ S4x80x256.size a) (k : FVec F S64x256 .f32 → Pr F α) : Pr F α :=
  .op (.load arg10 (Rect.unit (s := S4x80x256) ![m, 0, 0] S1x64x256.size h1).toLoadRect (View.loadsAt_vmem h_S1x64x256)) fun u =>
  .op (.load arg10 (Rect.unit (s := S4x80x256) ![m, 64, 0] S1x1x256.size h2).toLoadRect (View.loadsAt_vmem h_S1x1x256)) fun d =>
  k (quot u d)

/-- The steps after the loop, from the first head's new maximum on. -/
def epilogueK (i : grid0.Coords) (v : FVec F S1x256 .f32) : Pr F PUnit :=
  pvB arg9 0 (by decide) v <|
  pvK arg5 arg9 arg10 arg7 (k0_off6 i) (k0_off6_inb i) 1 (by decide) <|
  pvK arg5 arg9 arg10 arg7 (k0_off6 i) (k0_off6_inb i) 2 (by decide) <|
  pvK arg5 arg9 arg10 arg7 (k0_off6 i) (k0_off6_inb i) 3 (by decide) <|
  quotK arg10 0 inb_S4x80x256_S1x64x256_0_0_0 inb_S4x80x256_S1x1x256_0_64_0 fun a =>
  quotK arg10 1 inb_S4x80x256_S1x64x256_1_0_0 inb_S4x80x256_S1x1x256_1_64_0 fun b =>
  quotK arg10 2 inb_S4x80x256_S1x64x256_2_0_0 inb_S4x80x256_S1x1x256_2_64_0 fun c =>
  quotK arg10 3 inb_S4x80x256_S1x64x256_3_0_0 inb_S4x80x256_S1x1x256_3_64_0 fun d =>
  .op (.load arg6 (Rect.unit (s := S256x256) ![0, 0] S256x256.size inb_S256x256_S256x256_0_0).toLoadRect (View.loadsAt_vmem h_S256x256)) fun _ =>
  .op (.store arg6 (Rect.unit (s := S256x256) ![0, 0] S256x256.size inb_S256x256_S256x256_0_0) (outVal a b c d) Finset.univ
    (View.stores_vmem h_S256x256 (harg6.storeExact_slice rfl _ packedbf16_S256x256_S256x256_0_0) (fun _ => rfl)) (.inl rfl)) fun _ =>
  .ret ⟨⟩

end Steps

/-! ## The printed kernel is these steps -/

/-- The region of the first loop is a trip. -/
theorem t1_body_eq (i : grid0.Coords) (arg3 : Memref sig .tc .vmem S4x64x256 .bf16) (harg3 : arg3.IsWhole) (arg4 : Memref sig .tc .vmem S1x8448x64 .bf16) (harg4 : arg4.IsWhole) (arg5 : Memref sig .tc .vmem S1x33x64x256 .bf16) (harg5 : arg5.IsWhole) (arg6 : Memref sig .tc .vmem S256x256 .bf16) (harg6 : arg6.IsWhole)
  (arg7 : Memref sig .tc .vmem S4x256x256 .f32) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x80x256 .f32) (harg10 : arg10.IsWhole)
    (v1 : BitVec 32) (t : Fin (k0_t1_loop i).trips) (u : Unit) :
    k0_t1_body (F := F) i arg3 harg3 arg4 harg4 arg5 harg5 arg6 harg6 arg7 harg7 arg8 harg8 arg9 harg9 arg10 harg10 v1 ones 0#32 t u
      = tripK arg3 arg4 arg5 arg7 arg8 arg9 arg10 i t (.ret ⟨⟩) := by
  chain_rfl

/-- The upper bound of the first loop, `n_iter` of the grid point. -/
def nIter (i : grid0.Coords) : BitVec 32 := Scalar.select (Scalar.cmpi .eq (BitVec.ofNat 32 (i 2).val) 0#32) 0#32 2#32

/-- The kernel: the steps before the loop, the loop, its empty remainder, and the last chunk. -/
theorem kernel_eq (i : grid0.Coords) (arg3 : Memref sig .tc .vmem S4x64x256 .bf16) (harg3 : arg3.IsWhole) (arg4 : Memref sig .tc .vmem S1x8448x64 .bf16) (harg4 : arg4.IsWhole) (arg5 : Memref sig .tc .vmem S1x33x64x256 .bf16) (harg5 : arg5.IsWhole) (arg6 : Memref sig .tc .vmem S256x256 .bf16) (harg6 : arg6.IsWhole)
  (arg7 : Memref sig .tc .vmem S4x256x256 .f32) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x80x256 .f32) (harg10 : arg10.IsWhole) :
    cc0__attn_kernel (F := F) i arg3 harg3 arg4 harg4 arg5 harg5 arg6 harg6 arg7 harg7 arg8 harg8 arg9 harg9 arg10 harg10
      = prologueK arg3 arg4 arg7 arg8 arg9 arg10
          ((Scf.Loop.for (k0_t1_loop i) (k0_t1_ok i) ⟨⟩ (k0_t1_body i arg3 harg3 arg4 harg4 arg5 harg5 arg6 harg6 arg7 harg7 arg8 harg8 arg9 harg9 arg10 harg10 (nIter i) ones 0#32) >>= fun _ =>
            Scf.Loop.for (k0_t2_loop i) (k0_t2_ok i) ⟨⟩ (k0_t2_body i arg3 harg3 arg4 harg4 arg5 harg5 arg6 harg6 arg7 harg7 arg8 harg8 arg9 harg9 arg10 harg10 (nIter i) ones 0#32
                (Scalar.addi 0#32 (Scalar.muli (Scalar.divsi (Scalar.subi (nIter i) 0#32) 1#32) 1#32))) >>= fun _ =>
              pvA arg5 arg9 arg10 arg7 (k0_off6 i) (k0_off6_inb i) 0 (by decide) .ret) >>= fun v =>
            epilogueK arg5 arg6 harg6 arg7 arg9 arg10 i v) := by
  simp only [cc0__attn_kernel, k0_part174_eq_skeleton]
  chain_rfl

end Cert.KernelIdeal.Attn

end
-- ==== Proof.Pass.lean ====
/- # The body's run

What the kernel's body does at a grid point, over any float values: the contents of the score buffers, of the running maxima and of
the accumulators after each chunk, and the block of the result it leaves. -/
module

public import proofs.«01_k».proof.Proof.Steps
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Attn

variable {F : FTy → Type} [FloatOps F]

/-! ## The contents, chunk by chunk -/

theorem kchunk_inb (n : ℕ) : ∀ a, (![0, 256 * min n 32, 0] : Fin 3 → ℕ) a + S1x256x64.size a ≤ S1x8448x64.size a := by
  intro a
  fin_cases a
  · show 0 + 1 ≤ 1; omega
  · show 256 * min n 32 + 256 ≤ 8448; omega
  · show 0 + 64 ≤ 64; omega

theorem vchunk_inb (n : ℕ) : ∀ a, (![0, min n 32, 0, 0] : Fin 4 → ℕ) a + S1x1x64x256.size a ≤ S1x33x64x256.size a := by
  intro a
  fin_cases a
  · show 0 + 1 ≤ 1; omega
  · show min n 32 + 1 ≤ 33; omega
  · show 0 + 64 ≤ 64; omega
  · show 0 + 256 ≤ 256; omega

/-- Chunk `n` of the keys (the last one for every number above 32). -/
def kchunk (x4 : Vec F S1x8448x64 .bf16) (n : ℕ) : Vec F S1x256x64 .bf16 :=
  fun x => x4 ((Rect.unit (s := S1x8448x64) ![0, 256 * min n 32, 0] S1x256x64.size (kchunk_inb n)).idx x)

/-- Chunk `n` of the values, a column per key. -/
def vchunk (x5 : Vec F S1x33x64x256 .bf16) (n : ℕ) : Vec F S1x1x64x256 .bf16 :=
  fun x => x5 ((Rect.unit (s := S1x33x64x256) ![0, min n 32, 0, 0] S1x1x64x256.size (vchunk_inb n)).idx x)

/-- The scores of chunk `n`, per head. -/
def scoreAt (x3 : Vec F S4x64x256 .bf16) (x4 : Vec F S1x8448x64 .bf16) (n : ℕ) (m : Fin 4) : Vec F S1x256x256 .f32 :=
  scoreVal (kchunk x4 n) (slabOf x3 m)

/-- The running maxima before chunk `n`, per head. -/
def maxAt (x3 : Vec F S4x64x256 .bf16) (x4 : Vec F S1x8448x64 .bf16) : ℕ → Fin 4 → Vec F S1x1x256 .f32
  | 0, m => slabOf (max0 (F := F)) m
  | n + 1, m => maxStored (maxVal (scoreAt x3 x4 n m) (maxAt x3 x4 n m))

/-- The accumulators before chunk `n`, per head. -/
def accAt (x3 : Vec F S4x64x256 .bf16) (x4 : Vec F S1x8448x64 .bf16) (x5 : Vec F S1x33x64x256 .bf16) : ℕ → Fin 4 → Vec F S1x80x256 .f32
  | 0, m => slabOf (acc0 (F := F)) m
  | n + 1, m => accVal (vchunk x5 n) (scoreAt x3 x4 n m) (maxAt x3 x4 n m) (accAt x3 x4 x5 n m)

/-- The weighted values of an accumulator. -/
def top (a : Vec F S1x80x256 .f32) : Vec F S1x64x256 .f32 :=
  fun x => a (ix3 (0 : Fin 1) (⟨(x 1).val, lt_trans (x 1).isLt (by decide : 64 < 80)⟩ : Fin 80) (x 2))

/-- The denominator of an accumulator. -/
def den (a : Vec F S1x80x256 .f32) : Vec F S1x1x256 .f32 :=
  fun x => a (ix3 (0 : Fin 1) (64 : Fin 80) (x 2))

/-- A head's result after `n` chunks. -/
def headOut (x3 : Vec F S4x64x256 .bf16) (x4 : Vec F S1x8448x64 .bf16) (x5 : Vec F S1x33x64x256 .bf16) (n : ℕ) (m : Fin 4) : FVec F S64x256 .f32 :=
  quot (top (accAt x3 x4 x5 n m)) (den (accAt x3 x4 x5 n m))

/-- The block of the result after `n` chunks. -/
def blockOut (x3 : Vec F S4x64x256 .bf16) (x4 : Vec F S1x8448x64 .bf16) (x5 : Vec F S1x33x64x256 .bf16) (n : ℕ) : Vec F S256x256 .bf16 :=
  outVal (headOut x3 x4 x5 n 0) (headOut x3 x4 x5 n 1) (headOut x3 x4 x5 n 2) (headOut x3 x4 x5 n 3)

/-! ## The offsets, and the trips -/

/-- A grid point's first tile runs no trip, every other two. -/
theorem t1_trips (i : grid0.Coords) : (k0_t1_loop i).trips = if (i 2).val = 0 then 0 else 2 := by
  have h : ∀ n : Fin 33, Scf.trips (0#32) (Scalar.addi 0#32 (Scalar.muli (Scalar.divsi (Scalar.subi (Scalar.select (Scalar.cmpi .eq (BitVec.ofNat 32 n.val) 0#32) 0#32 2#32) 0#32) 1#32) 1#32)) 1#32
      = if n.val = 0 then 0 else 2 := by decide +kernel
  exact h ⟨(i 2).val, (i 2).isLt⟩

theorem t2_trips (i : grid0.Coords) : (k0_t2_loop i).trips = 0 := by
  have h : ∀ n : Fin 33, Scf.trips (Scalar.addi 0#32 (Scalar.muli (Scalar.divsi (Scalar.subi (Scalar.select (Scalar.cmpi .eq (BitVec.ofNat 32 n.val) 0#32) 0#32 2#32) 0#32) 1#32) 1#32))
      (Scalar.addi 0#32 (Scalar.subi (Scalar.select (Scalar.cmpi .eq (BitVec.ofNat 32 n.val) 0#32) 0#32 2#32) 0#32)) 1#32 = 0 := by decide +kernel
  exact h ⟨(i 2).val, (i 2).isLt⟩

theorem t1_lt (i : grid0.Coords) (t : Fin (k0_t1_loop i).trips) : t.val < 2 := by
  have h := lt_of_lt_of_eq t.isLt (t1_trips i)
  split at h <;> omega

/-- The keys' offset in trip `t`: the chunk `16 t + r`. -/
theorem off2_eq (i : grid0.Coords) (t : Fin (k0_t1_loop i).trips) (r : Fin 18) :
    k0_off2 i t (BitVec.ofNat 32 r.val) = ![0, 256 * min (16 * t.val + r.val) 32, 0] := by
  have h : ∀ (n : Fin 2) (r : Fin 18), (Scalar.indexCast (Scalar.muli (Scalar.minsi (Scalar.addi (Scalar.muli 16#32 (Scf.iv 0#32 1#32 n.val)) (BitVec.ofNat 32 r.val)) 32#32) 256#32)).toNat
      = 256 * min (16 * n.val + r.val) 32 := by decide +kernel
  have h' := h ⟨t.val, t1_lt i t⟩ r
  show (![0, _, 0] : Fin 3 → ℕ) = _
  exact congrArg (fun z => (![0, z, 0] : Fin 3 → ℕ)) h'

/-- The values' offset in trip `t`: the chunk `16 t + r`. -/
theorem off3_eq (i : grid0.Coords) (t : Fin (k0_t1_loop i).trips) (r : Fin 16) :
    k0_off3 i t (BitVec.ofNat 32 r.val) = ![0, min (16 * t.val + r.val) 32, 0, 0] := by
  have h : ∀ (n : Fin 2) (r : Fin 16), (Scalar.indexCast (Scalar.addi (Scalar.muli 16#32 (Scf.iv 0#32 1#32 n.val)) (BitVec.ofNat 32 r.val))).toNat
      = min (16 * n.val + r.val) 32 := by decide +kernel
  have h' := h ⟨t.val, t1_lt i t⟩ r
  show (![0, _, 0, 0] : Fin 4 → ℕ) = _
  exact congrArg (fun z => (![0, z, 0, 0] : Fin 4 → ℕ)) h'

/-- The chunk the point ends with: 0 at a batch's first tile, 32 elsewhere. -/
def lastChunk (i : grid0.Coords) : ℕ := if (i 2).val = 0 then 0 else 32

theorem off6_eq (i : grid0.Coords) : k0_off6 i = ![0, min (lastChunk i) 32, 0, 0] := by
  have h : ∀ n : Fin 33, (Scalar.indexCast (Scalar.addi (Scalar.muli 16#32 (Scalar.select (Scalar.cmpi .eq (BitVec.ofNat 32 n.val) 0#32) 0#32 2#32)) 0#32)).toNat
      = min (if n.val = 0 then 0 else 32) 32 := by decide +kernel
  have h' := h ⟨(i 2).val, (i 2).isLt⟩
  show (![0, _, 0, 0] : Fin 4 → ℕ) = _
  exact congrArg (fun z => (![0, z, 0, 0] : Fin 4 → ℕ)) h'

theorem off1_0 : k0_off1 0#32 = ![0, 256 * min 0 32, 0] := by decide +kernel
theorem off1_1 : k0_off1 1#32 = ![0, 256 * min 1 32, 0] := by decide +kernel

/-! ## The steps' rules -/

section Rules

variable (c : Dev nD) (arg3 : Memref sig .tc .vmem S4x64x256 .bf16) (arg4 : Memref sig .tc .vmem S1x8448x64 .bf16)
  (arg5 : Memref sig .tc .vmem S1x33x64x256 .bf16) (arg6 : Memref sig .tc .vmem S256x256 .bf16) (harg6 : arg6.IsWhole)
  (arg7 arg8 : Memref sig .tc .vmem S4x256x256 .f32) (arg9 : Memref sig .tc .vmem S4x1x256 .f32)
  (arg10 : Memref sig .tc .vmem S4x80x256 .f32)
  (x3 : Vec F S4x64x256 .bf16) (x4 : Vec F S1x8448x64 .bf16) (x5 : Vec F S1x33x64x256 .bf16)

/-- The buffers' contents between steps. -/
def St (σ7 σ8 : Fin 4 → Vec F S1x256x256 .f32) (μ : Fin 4 → Vec F S1x1x256 .f32) (α : Fin 4 → Vec F S1x80x256 .f32) (R : sProp (MT nD τ sig Unit (Elt F) ℕ (UR sig nD τ) ℕ)) : sProp (MT nD τ sig Unit (Elt F) ℕ (UR sig nD τ) ℕ) :=
  iprop(owns (c : Thread nD τ) arg3 fullShare x3 ∗ owns (c : Thread nD τ) arg4 fullShare x4 ∗ owns (c : Thread nD τ) arg5 fullShare x5
    ∗ owns (c : Thread nD τ) arg7 fullShare (slabs σ7 : S4x256x256.Idx → _) ∗ owns (c : Thread nD τ) arg8 fullShare (slabs σ8 : S4x256x256.Idx → _)
    ∗ owns (c : Thread nD τ) arg9 fullShare (slabs μ : S4x1x256.Idx → _) ∗ owns (c : Thread nD τ) arg10 fullShare (slabs α : S4x80x256.Idx → _) ∗ R)

variable {σ7 σ8 : Fin 4 → Vec F S1x256x256 .f32} {μ : Fin 4 → Vec F S1x1x256 .f32} {α : Fin 4 → Vec F S1x80x256 .f32} {R : sProp (MT nD τ sig Unit (Elt F) ℕ (UR sig nD τ) ℕ)}
  {E : Set ℕ} {γ : Type} {Q : γ → sProp (MT nD τ sig Unit (Elt F) ℕ (UR sig nD τ) ℕ)}

theorem score7 {off : Fin 3 → ℕ} {hoff : ∀ a, off a + S1x256x64.size a ≤ S1x8448x64.size a} {m : ℕ} {hm : m < 4} {k : Pr F γ}
    (n : ℕ) (ho : off = ![0, 256 * min n 32, 0])
    (h : St c arg3 arg4 arg5 arg7 arg8 arg9 arg10 x3 x4 x5 (Function.update σ7 ⟨m, hm⟩ (scoreAt x3 x4 n ⟨m, hm⟩)) σ8 μ α R ⊢ wp frame (wpE (defs₀ (F := F)) Variants.none (c : Thread nD τ) none) E k Q) :
    St c arg3 arg4 arg5 arg7 arg8 arg9 arg10 x3 x4 x5 σ7 σ8 μ α R ⊢ wp frame (wpE (defs₀ (F := F)) Variants.none (c : Thread nD τ) none) E (scoreK arg3 arg4 arg7 off hoff m hm k) Q := by
  subst ho
  unfold scoreK
  have h' := h
  unfold St at h' ⊢
  iintro ⟨H3, H4, H5, H7, H8, H9, H10, HR⟩
  iapply (wp_loadO (defs := defs₀ (F := F)) Variants.none (c : Thread nD τ) none E)
  isplitl [H4]; · iexact H4
  iintro H4
  iapply (wp_loadO (defs := defs₀ (F := F)) Variants.none (c : Thread nD τ) none E)
  isplitl [H3]; · iexact H3
  iintro H3
  iapply (wp_loadO (defs := defs₀ (F := F)) Variants.none (c : Thread nD τ) none E)
  isplitl [H7]; · iexact H7
  iintro H7
  iapply (wp_storeO (defs := defs₀ (F := F)) Variants.none (c : Thread nD τ) none E
    (X' := (slabs (Function.update σ7 ⟨m, hm⟩ (scoreAt x3 x4 n ⟨m, hm⟩)) : S4x256x256.Idx → _))
    (fun x => (slabs_update_in σ7 m hm _ x).trans (congrArg (fun z => scoreVal (kchunk x4 n) z x) (slabOf_read x3 m hm).symm))
    (fun y hy => slabs_update_out σ7 m hm _ y hy))
  isplitl [H7]; · iexact H7
  iintro H7
  iapply h'
  isplitl [H3]; · iexact H3
  isplitl [H4]; · iexact H4
  isplitl [H5]; · iexact H5
  isplitl [H7]; · iexact H7
  isplitl [H8]; · iexact H8
  isplitl [H9]; · iexact H9
  isplitl [H10]; · iexact H10
  iexact HR

theorem score8 {off : Fin 3 → ℕ} {hoff : ∀ a, off a + S1x256x64.size a ≤ S1x8448x64.size a} {m : ℕ} {hm : m < 4} {k : Pr F γ}
    (n : ℕ) (ho : off = ![0, 256 * min n 32, 0])
    (h : St c arg3 arg4 arg5 arg7 arg8 arg9 arg10 x3 x4 x5 σ7 (Function.update σ8 ⟨m, hm⟩ (scoreAt x3 x4 n ⟨m, hm⟩)) μ α R ⊢ wp frame (wpE (defs₀ (F := F)) Variants.none (c : Thread nD τ) none) E k Q) :
    St c arg3 arg4 arg5 arg7 arg8 arg9 arg10 x3 x4 x5 σ7 σ8 μ α R ⊢ wp frame (wpE (defs₀ (F := F)) Variants.none (c : Thread nD τ) none) E (scoreK arg3 arg4 arg8 off hoff m hm k) Q := by
  subst ho
  unfold scoreK
  have h' := h
  unfold St at h' ⊢
  iintro ⟨H3, H4, H5, H7, H8, H9, H10, HR⟩
  iapply (wp_loadO (defs := defs₀ (F := F)) Variants.none (c : Thread nD τ) none E)
  isplitl [H4]; · iexact H4
  iintro H4
  iapply (wp_loadO (defs := defs₀ (F := F)) Variants.none (c : Thread nD τ) none E)
  isplitl [H3]; · iexact H3
  iintro H3
  iapply (wp_loadO (defs := defs₀ (F := F)) Variants.none (c : Thread nD τ) none E)
  isplitl [H8]; · iexact H8
  iintro H8
  iapply (wp_storeO (defs := defs₀ (F := F)) Variants.none (c : Thread nD τ) none E
    (X' := (slabs (Function.update σ8 ⟨m, hm⟩ (scoreAt x3 x4 n ⟨m, hm⟩)) : S4x256x256.Idx → _))
    (fun x => (slabs_update_in σ8 m hm _ x).trans (congrArg (fun z => scoreVal (kchunk x4 n) z x) (slabOf_read x3 m hm).symm))
    (fun y hy => slabs_update_out σ8 m hm _ y hy))
  isplitl [H8]; · iexact H8
  iintro H8
  iapply h'
  isplitl [H3]; · iexact H3
  isplitl [H4]; · iexact H4
  isplitl [H5]; · iexact H5
  isplitl [H7]; · iexact H7
  isplitl [H8]; · iexact H8
  isplitl [H9]; · iexact H9
  isplitl [H10]; · iexact H10
  iexact HR

theorem pvA7 {off : Fin 4 → ℕ} {hoff : ∀ a, off a + S1x1x64x256.size a ≤ S1x33x64x256.size a} {m : ℕ} {hm : m < 4} {k : FVec F S1x256 .f32 → Pr F γ}
    (n : ℕ) (ho : off = ![0, min n 32, 0, 0])
    (h : St c arg3 arg4 arg5 arg7 arg8 arg9 arg10 x3 x4 x5 σ7 σ8 μ (Function.update α ⟨m, hm⟩ (accVal (vchunk x5 n) (σ7 ⟨m, hm⟩) (μ ⟨m, hm⟩) (α ⟨m, hm⟩))) R
      ⊢ wp frame (wpE (defs₀ (F := F)) Variants.none (c : Thread nD τ) none) E (k (maxVal (σ7 ⟨m, hm⟩) (μ ⟨m, hm⟩))) Q) :
    St c arg3 arg4 arg5 arg7 arg8 arg9 arg10 x3 x4 x5 σ7 σ8 μ α R ⊢ wp frame (wpE (defs₀ (F := F)) Variants.none (c : Thread nD τ) none) E (pvA arg5 arg9 arg10 arg7 off hoff m hm k) Q := by
  subst ho
  unfold pvA
  have h' := h
  rw [← slabs_read σ7 m hm, ← slabs_read μ m hm] at h'
  unfold St at h' ⊢
  iintro ⟨H3, H4, H5, H7, H8, H9, H10, HR⟩
  iapply (wp_loadO (defs := defs₀ (F := F)) Variants.none (c : Thread nD τ) none E)
  isplitl [H5]; · iexact H5
  iintro H5
  iapply (wp_loadO (defs := defs₀ (F := F)) Variants.none (c : Thread nD τ) none E)
  isplitl [H7]; · iexact H7
  iintro H7
  iapply (wp_loadO (defs := defs₀ (F := F)) Variants.none (c : Thread nD τ) none E)
  isplitl [H9]; · iexact H9
  iintro H9
  iapply (wp_loadO (defs := defs₀ (F := F)) Variants.none (c : Thread nD τ) none E)
  isplitl [H10]; · iexact H10
  iintro H10
  iapply (wp_loadO (defs := defs₀ (F := F)) Variants.none (c : Thread nD τ) none E)
  isplitl [H10]; · iexact H10
  iintro H10
  iapply (wp_storeO (defs := defs₀ (F := F)) Variants.none (c : Thread nD τ) none E
    (X' := (slabs (Function.update α ⟨m, hm⟩ (accVal (vchunk x5 n) (fun x => slabs σ7 ((slabR 256 256 m hm).idx x)) (fun x => slabs μ ((slabR 1 256 m hm).idx x)) (α ⟨m, hm⟩))) : S4x80x256.Idx → _))
    (fun x => (slabs_update_in α m hm _ x).trans (congrArg (fun z => accVal (vchunk x5 n) (fun x => slabs σ7 ((slabR 256 256 m hm).idx x)) (fun x => slabs μ ((slabR 1 256 m hm).idx x)) z x) (slabs_read α m hm).symm))
    (fun y hy => slabs_update_out α m hm _ y hy))
  isplitl [H10]; · iexact H10
  iintro H10
  iapply h'
  isplitl [H3]; · iexact H3
  isplitl [H4]; · iexact H4
  isplitl [H5]; · iexact H5
  isplitl [H7]; · iexact H7
  isplitl [H8]; · iexact H8
  isplitl [H9]; · iexact H9
  isplitl [H10]; · iexact H10
  iexact HR

theorem pvA8 {off : Fin 4 → ℕ} {hoff : ∀ a, off a + S1x1x64x256.size a ≤ S1x33x64x256.size a} {m : ℕ} {hm : m < 4} {k : FVec F S1x256 .f32 → Pr F γ}
    (n : ℕ) (ho : off = ![0, min n 32, 0, 0])
    (h : St c arg3 arg4 arg5 arg7 arg8 arg9 arg10 x3 x4 x5 σ7 σ8 μ (Function.update α ⟨m, hm⟩ (accVal (vchunk x5 n) (σ8 ⟨m, hm⟩) (μ ⟨m, hm⟩) (α ⟨m, hm⟩))) R
      ⊢ wp frame (wpE (defs₀ (F := F)) Variants.none (c : Thread nD τ) none) E (k (maxVal (σ8 ⟨m, hm⟩) (μ ⟨m, hm⟩))) Q) :
    St c arg3 arg4 arg5 arg7 arg8 arg9 arg10 x3 x4 x5 σ7 σ8 μ α R ⊢ wp frame (wpE (defs₀ (F := F)) Variants.none (c : Thread nD τ) none) E (pvA arg5 arg9 arg10 arg8 off hoff m hm k) Q := by
  subst ho
  unfold pvA
  have h' := h
  rw [← slabs_read σ8 m hm, ← slabs_read μ m hm] at h'
  unfold St at h' ⊢
  iintro ⟨H3, H4, H5, H7, H8, H9, H10, HR⟩
  iapply (wp_loadO (defs := defs₀ (F := F)) Variants.none (c : Thread nD τ) none E)
  isplitl [H5]; · iexact H5
  iintro H5
  iapply (wp_loadO (defs := defs₀ (F := F)) Variants.none (c : Thread nD τ) none E)
  isplitl [H8]; · iexact H8
  iintro H8
  iapply (wp_loadO (defs := defs₀ (F := F)) Variants.none (c : Thread nD τ) none E)
  isplitl [H9]; · iexact H9
  iintro H9
  iapply (wp_loadO (defs := defs₀ (F := F)) Variants.none (c : Thread nD τ) none E)
  isplitl [H10]; · iexact H10
  iintro H10
  iapply (wp_loadO (defs := defs₀ (F := F)) Variants.none (c : Thread nD τ) none E)
  isplitl [H10]; · iexact H10
  iintro H10
  iapply (wp_storeO (defs := defs₀ (F := F)) Variants.none (c : Thread nD τ) none E
    (X' := (slabs (Function.update α ⟨m, hm⟩ (accVal (vchunk x5 n) (fun x => slabs σ8 ((slabR 256 256 m hm).idx x)) (fun x => slabs μ ((slabR 1 256 m hm).idx x)) (α ⟨m, hm⟩))) : S4x80x256.Idx → _))
    (fun x => (slabs_update_in α m hm _ x).trans (congrArg (fun z => accVal (vchunk x5 n) (fun x => slabs σ8 ((slabR 256 256 m hm).idx x)) (fun x => slabs μ ((slabR 1 256 m hm).idx x)) z x) (slabs_read α m hm).symm))
    (fun y hy => slabs_update_out α m hm _ y hy))
  isplitl [H10]; · iexact H10
  iintro H10
  iapply h'
  isplitl [H3]; · iexact H3
  isplitl [H4]; · iexact H4
  isplitl [H5]; · iexact H5
  isplitl [H7]; · iexact H7
  isplitl [H8]; · iexact H8
  isplitl [H9]; · iexact H9
  isplitl [H10]; · iexact H10
  iexact HR

theorem pvBr {m : ℕ} {hm : m < 4} {v : FVec F S1x256 .f32} {k : Pr F γ}
    (h : St c arg3 arg4 arg5 arg7 arg8 arg9 arg10 x3 x4 x5 σ7 σ8 (Function.update μ ⟨m, hm⟩ (maxStored v)) α R ⊢ wp frame (wpE (defs₀ (F := F)) Variants.none (c : Thread nD τ) none) E k Q) :
    St c arg3 arg4 arg5 arg7 arg8 arg9 arg10 x3 x4 x5 σ7 σ8 μ α R ⊢ wp frame (wpE (defs₀ (F := F)) Variants.none (c : Thread nD τ) none) E (pvB arg9 m hm v k) Q := by
  unfold pvB
  have h' := h
  unfold St at h' ⊢
  iintro ⟨H3, H4, H5, H7, H8, H9, H10, HR⟩
  iapply (wp_loadO (defs := defs₀ (F := F)) Variants.none (c : Thread nD τ) none E)
  isplitl [H9]; · iexact H9
  iintro H9
  iapply (wp_storeO (defs := defs₀ (F := F)) Variants.none (c : Thread nD τ) none E
    (X' := (slabs (Function.update μ ⟨m, hm⟩ (maxStored v)) : S4x1x256.Idx → _))
    (fun x => slabs_update_in μ m hm _ x) (fun y hy => slabs_update_out μ m hm _ y hy))
  isplitl [H9]; · iexact H9
  iintro H9
  iapply h'
  isplitl [H3]; · iexact H3
  isplitl [H4]; · iexact H4
  isplitl [H5]; · iexact H5
  isplitl [H7]; · iexact H7
  isplitl [H8]; · iexact H8
  isplitl [H9]; · iexact H9
  isplitl [H10]; · iexact H10
  iexact HR

theorem pv7 {off : Fin 4 → ℕ} {hoff : ∀ a, off a + S1x1x64x256.size a ≤ S1x33x64x256.size a} {m : ℕ} {hm : m < 4} {k : Pr F γ}
    (n : ℕ) (ho : off = ![0, min n 32, 0, 0])
    (h : St c arg3 arg4 arg5 arg7 arg8 arg9 arg10 x3 x4 x5 σ7 σ8 (Function.update μ ⟨m, hm⟩ (maxStored (maxVal (σ7 ⟨m, hm⟩) (μ ⟨m, hm⟩))))
      (Function.update α ⟨m, hm⟩ (accVal (vchunk x5 n) (σ7 ⟨m, hm⟩) (μ ⟨m, hm⟩) (α ⟨m, hm⟩))) R ⊢ wp frame (wpE (defs₀ (F := F)) Variants.none (c : Thread nD τ) none) E k Q) :
    St c arg3 arg4 arg5 arg7 arg8 arg9 arg10 x3 x4 x5 σ7 σ8 μ α R ⊢ wp frame (wpE (defs₀ (F := F)) Variants.none (c : Thread nD τ) none) E (pvK arg5 arg9 arg10 arg7 off hoff m hm k) Q :=
  pvA7 c arg3 arg4 arg5 arg7 arg8 arg9 arg10 x3 x4 x5 n ho (pvBr c arg3 arg4 arg5 arg7 arg8 arg9 arg10 x3 x4 x5 h)

theorem pv8 {off : Fin 4 → ℕ} {hoff : ∀ a, off a + S1x1x64x256.size a ≤ S1x33x64x256.size a} {m : ℕ} {hm : m < 4} {k : Pr F γ}
    (n : ℕ) (ho : off = ![0, min n 32, 0, 0])
    (h : St c arg3 arg4 arg5 arg7 arg8 arg9 arg10 x3 x4 x5 σ7 σ8 (Function.update μ ⟨m, hm⟩ (maxStored (maxVal (σ8 ⟨m, hm⟩) (μ ⟨m, hm⟩))))
      (Function.update α ⟨m, hm⟩ (accVal (vchunk x5 n) (σ8 ⟨m, hm⟩) (μ ⟨m, hm⟩) (α ⟨m, hm⟩))) R ⊢ wp frame (wpE (defs₀ (F := F)) Variants.none (c : Thread nD τ) none) E k Q) :
    St c arg3 arg4 arg5 arg7 arg8 arg9 arg10 x3 x4 x5 σ7 σ8 μ α R ⊢ wp frame (wpE (defs₀ (F := F)) Variants.none (c : Thread nD τ) none) E (pvK arg5 arg9 arg10 arg8 off hoff m hm k) Q :=
  pvA8 c arg3 arg4 arg5 arg7 arg8 arg9 arg10 x3 x4 x5 n ho (pvBr c arg3 arg4 arg5 arg7 arg8 arg9 arg10 x3 x4 x5 h)

theorem St_congr {σ7' : Fin 4 → Vec F S1x256x256 .f32} {μ' : Fin 4 → Vec F S1x1x256 .f32} {α' : Fin 4 → Vec F S1x80x256 .f32} {X : sProp (MT nD τ sig Unit (Elt F) ℕ (UR sig nD τ) ℕ)}
    (h7 : σ7 = σ7') (hμ : μ = μ') (hα : α = α') (h : St c arg3 arg4 arg5 arg7 arg8 arg9 arg10 x3 x4 x5 σ7' σ8 μ' α' R ⊢ X) : St c arg3 arg4 arg5 arg7 arg8 arg9 arg10 x3 x4 x5 σ7 σ8 μ α R ⊢ X := by
  subst h7 hμ hα; exact h

/-- Two chunks: the state moves on by two. -/
theorem pair {o1 o2 o3 : Fin 3 → ℕ} {h1 : ∀ a, o1 a + S1x256x64.size a ≤ S1x8448x64.size a}
    {h2 : ∀ a, o2 a + S1x256x64.size a ≤ S1x8448x64.size a} {h3 : ∀ a, o3 a + S1x256x64.size a ≤ S1x8448x64.size a}
    {w0 w1 : Fin 4 → ℕ} {g0 : ∀ a, w0 a + S1x1x64x256.size a ≤ S1x33x64x256.size a}
    {g1 : ∀ a, w1 a + S1x1x64x256.size a ≤ S1x33x64x256.size a} {k : Pr F γ} (n : ℕ)
    (e1 : o1 = ![0, 256 * min (n + 1) 32, 0]) (e2 : o2 = ![0, 256 * min (n + 2) 32, 0]) (e3 : o3 = ![0, 256 * min (n + 3) 32, 0])
    (f0 : w0 = ![0, min n 32, 0, 0]) (f1 : w1 = ![0, min (n + 1) 32, 0, 0])
    (i0 : σ8 0 = scoreAt x3 x4 (n + 1) 0) (i1 : σ8 1 = scoreAt x3 x4 (n + 1) 1)
    (h : ∀ σ8' : Fin 4 → Vec F S1x256x256 .f32, σ8' 0 = scoreAt x3 x4 (n + 3) 0 → σ8' 1 = scoreAt x3 x4 (n + 3) 1 →
      St c arg3 arg4 arg5 arg7 arg8 arg9 arg10 x3 x4 x5 (scoreAt x3 x4 (n + 2)) σ8' (maxAt x3 x4 (n + 2)) (accAt x3 x4 x5 (n + 2)) R ⊢ wp frame (wpE (defs₀ (F := F)) Variants.none (c : Thread nD τ) none) E k Q) :
    St c arg3 arg4 arg5 arg7 arg8 arg9 arg10 x3 x4 x5 (scoreAt x3 x4 n) σ8 (maxAt x3 x4 n) (accAt x3 x4 x5 n) R
      ⊢ wp frame (wpE (defs₀ (F := F)) Variants.none (c : Thread nD τ) none) E (pairK arg3 arg4 arg5 arg7 arg8 arg9 arg10 o1 o2 o3 h1 h2 h3 w0 w1 g0 g1 k) Q := by
  unfold pairK
  refine score8 c arg3 arg4 arg5 arg7 arg8 arg9 arg10 x3 x4 x5 (n + 1) e1 ?_
  refine pv7 c arg3 arg4 arg5 arg7 arg8 arg9 arg10 x3 x4 x5 n f0 ?_
  refine score8 c arg3 arg4 arg5 arg7 arg8 arg9 arg10 x3 x4 x5 (n + 1) e1 ?_
  refine pv7 c arg3 arg4 arg5 arg7 arg8 arg9 arg10 x3 x4 x5 n f0 ?_
  refine score7 c arg3 arg4 arg5 arg7 arg8 arg9 arg10 x3 x4 x5 (n + 2) e2 ?_
  refine pv7 c arg3 arg4 arg5 arg7 arg8 arg9 arg10 x3 x4 x5 n f0 ?_
  refine score7 c arg3 arg4 arg5 arg7 arg8 arg9 arg10 x3 x4 x5 (n + 2) e2 ?_
  refine pv7 c arg3 arg4 arg5 arg7 arg8 arg9 arg10 x3 x4 x5 n f0 ?_
  refine score7 c arg3 arg4 arg5 arg7 arg8 arg9 arg10 x3 x4 x5 (n + 2) e2 ?_
  refine pv8 c arg3 arg4 arg5 arg7 arg8 arg9 arg10 x3 x4 x5 (n + 1) f1 ?_
  refine score7 c arg3 arg4 arg5 arg7 arg8 arg9 arg10 x3 x4 x5 (n + 2) e2 ?_
  refine pv8 c arg3 arg4 arg5 arg7 arg8 arg9 arg10 x3 x4 x5 (n + 1) f1 ?_
  refine score8 c arg3 arg4 arg5 arg7 arg8 arg9 arg10 x3 x4 x5 (n + 3) e3 ?_
  refine pv8 c arg3 arg4 arg5 arg7 arg8 arg9 arg10 x3 x4 x5 (n + 1) f1 ?_
  refine score8 c arg3 arg4 arg5 arg7 arg8 arg9 arg10 x3 x4 x5 (n + 3) e3 ?_
  refine pv8 c arg3 arg4 arg5 arg7 arg8 arg9 arg10 x3 x4 x5 (n + 1) f1 ?_
  refine St_congr c arg3 arg4 arg5 arg7 arg8 arg9 arg10 x3 x4 x5 ?_ ?_ ?_ (h _ ?_ ?_)
  · funext x; fin_cases x <;> simp [Function.update]
  · funext x; fin_cases x <;> simp [Function.update, maxAt, i0, i1]
  · funext x; fin_cases x <;> simp [Function.update, maxAt, accAt, i0, i1]
  · simp [Function.update]
  · simp [Function.update]

end Rules

end Cert.KernelIdeal.Attn

end
-- ==== Proof.Body.lean ====
/- # The body at a grid point

The loop's trips, the steps before and after the loop, and the whole body: from the three input blocks, the block of the result. -/
module

public import proofs.«01_k».proof.Proof.Pass

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Attn

variable {F : FTy → Type} [FloatOps F]

section Rules

variable (c : Dev nD) (arg3 : Memref sig .tc .vmem S4x64x256 .bf16) (arg4 : Memref sig .tc .vmem S1x8448x64 .bf16)
  (arg5 : Memref sig .tc .vmem S1x33x64x256 .bf16) (arg6 : Memref sig .tc .vmem S256x256 .bf16) (harg6 : arg6.IsWhole)
  (arg7 arg8 : Memref sig .tc .vmem S4x256x256 .f32) (arg9 : Memref sig .tc .vmem S4x1x256 .f32)
  (arg10 : Memref sig .tc .vmem S4x80x256 .f32)
  (x3 : Vec F S4x64x256 .bf16) (x4 : Vec F S1x8448x64 .bf16) (x5 : Vec F S1x33x64x256 .bf16)

variable {σ7 σ8 : Fin 4 → Vec F S1x256x256 .f32} {μ : Fin 4 → Vec F S1x1x256 .f32} {α : Fin 4 → Vec F S1x80x256 .f32} {R : sProp (MT nD τ sig Unit (Elt F) ℕ (UR sig nD τ) ℕ)}
  {E : Set ℕ} {γ : Type} {Q : γ → sProp (MT nD τ sig Unit (Elt F) ℕ (UR sig nD τ) ℕ)}

/-- The state before chunk `n`: the chunk's scores, two heads' scores of the next chunk, maxima and accumulators of the chunks so far. -/
def Inv (n : ℕ) (R : sProp (MT nD τ sig Unit (Elt F) ℕ (UR sig nD τ) ℕ)) : sProp (MT nD τ sig Unit (Elt F) ℕ (UR sig nD τ) ℕ) :=
  iprop(∃ σ8, ⌜σ8 0 = scoreAt x3 x4 (n + 1) 0 ∧ σ8 1 = scoreAt x3 x4 (n + 1) 1⌝
    ∗ St c arg3 arg4 arg5 arg7 arg8 arg9 arg10 x3 x4 x5 (scoreAt x3 x4 n) σ8 (maxAt x3 x4 n) (accAt x3 x4 x5 n) R)

theorem Inv_intro {n : ℕ} {X : sProp (MT nD τ sig Unit (Elt F) ℕ (UR sig nD τ) ℕ)} (h7 : σ7 = scoreAt x3 x4 n) (i0 : σ8 0 = scoreAt x3 x4 (n + 1) 0)
    (i1 : σ8 1 = scoreAt x3 x4 (n + 1) 1) (h : Inv c arg3 arg4 arg5 arg7 arg8 arg9 arg10 x3 x4 x5 n R ⊢ X) :
    St c arg3 arg4 arg5 arg7 arg8 arg9 arg10 x3 x4 x5 σ7 σ8 (maxAt x3 x4 n) (accAt x3 x4 x5 n) R ⊢ X := by
  subst h7
  refine BIBase.Entails.trans ?_ h
  unfold Inv
  iintro H
  iexists σ8
  isplitr
  · ipureintro; exact ⟨i0, i1⟩
  · iexact H

/-- Two chunks, as a step of the state. -/
theorem pairInv {o1 o2 o3 : Fin 3 → ℕ} {h1 : ∀ a, o1 a + S1x256x64.size a ≤ S1x8448x64.size a}
    {h2 : ∀ a, o2 a + S1x256x64.size a ≤ S1x8448x64.size a} {h3 : ∀ a, o3 a + S1x256x64.size a ≤ S1x8448x64.size a}
    {w0 w1 : Fin 4 → ℕ} {g0 : ∀ a, w0 a + S1x1x64x256.size a ≤ S1x33x64x256.size a}
    {g1 : ∀ a, w1 a + S1x1x64x256.size a ≤ S1x33x64x256.size a} {k : Pr F γ} (n n1 n2 n3 n' : ℕ)
    (q1 : n1 = n + 1) (q2 : n2 = n + 2) (q3 : n3 = n + 3) (q : n' = n + 2)
    (e1 : o1 = ![0, 256 * min n1 32, 0]) (e2 : o2 = ![0, 256 * min n2 32, 0]) (e3 : o3 = ![0, 256 * min n3 32, 0])
    (f0 : w0 = ![0, min n 32, 0, 0]) (f1 : w1 = ![0, min n1 32, 0, 0])
    (h : Inv c arg3 arg4 arg5 arg7 arg8 arg9 arg10 x3 x4 x5 n' R ⊢ wp frame (wpE (defs₀ (F := F)) Variants.none (c : Thread nD τ) none) E k Q) :
    Inv c arg3 arg4 arg5 arg7 arg8 arg9 arg10 x3 x4 x5 n R ⊢ wp frame (wpE (defs₀ (F := F)) Variants.none (c : Thread nD τ) none) E (pairK arg3 arg4 arg5 arg7 arg8 arg9 arg10 o1 o2 o3 h1 h2 h3 w0 w1 g0 g1 k) Q := by
  subst q1 q2 q3 q
  unfold Inv at h ⊢
  iintro ⟨%σ8, %hi, H⟩
  have hp := pair c arg3 arg4 arg5 arg7 arg8 arg9 arg10 x3 x4 x5 (k := k) (R := R) (E := E) (Q := Q) (h1 := h1) (h2 := h2) (h3 := h3) (g0 := g0) (g1 := g1) n e1 e2 e3 f0 f1 hi.1 hi.2 (fun σ8' j0 j1 => by
    refine BIBase.Entails.trans ?_ h
    iintro H
    iexists σ8'
    isplitr
    · ipureintro; exact ⟨j0, j1⟩
    · iexact H)
  iapply hp
  iexact H

/-- A trip: sixteen chunks. -/
theorem trip (i : grid0.Coords) (t : Fin (k0_t1_loop i).trips) {k : Pr F γ}
    (h : Inv c arg3 arg4 arg5 arg7 arg8 arg9 arg10 x3 x4 x5 (16 * (t.val + 1)) R ⊢ wp frame (wpE (defs₀ (F := F)) Variants.none (c : Thread nD τ) none) E k Q) :
    Inv c arg3 arg4 arg5 arg7 arg8 arg9 arg10 x3 x4 x5 (16 * t.val) R ⊢ wp frame (wpE (defs₀ (F := F)) Variants.none (c : Thread nD τ) none) E (tripK arg3 arg4 arg5 arg7 arg8 arg9 arg10 i t k) Q := by
  unfold tripK
  refine pairInv c arg3 arg4 arg5 arg7 arg8 arg9 arg10 x3 x4 x5 (16 * t.val + 0) (16 * t.val + 1) (16 * t.val + 2) (16 * t.val + 3) (16 * t.val + 2) (by omega) (by omega) (by omega) (by omega) (off2_eq i t 1) (off2_eq i t 2) (off2_eq i t 3) (off3_eq i t 0) (off3_eq i t 1) ?_
  refine pairInv c arg3 arg4 arg5 arg7 arg8 arg9 arg10 x3 x4 x5 (16 * t.val + 2) (16 * t.val + 3) (16 * t.val + 4) (16 * t.val + 5) (16 * t.val + 4) (by omega) (by omega) (by omega) (by omega) (off2_eq i t 3) (off2_eq i t 4) (off2_eq i t 5) (off3_eq i t 2) (off3_eq i t 3) ?_
  refine pairInv c arg3 arg4 arg5 arg7 arg8 arg9 arg10 x3 x4 x5 (16 * t.val + 4) (16 * t.val + 5) (16 * t.val + 6) (16 * t.val + 7) (16 * t.val + 6) (by omega) (by omega) (by omega) (by omega) (off2_eq i t 5) (off2_eq i t 6) (off2_eq i t 7) (off3_eq i t 4) (off3_eq i t 5) ?_
  refine pairInv c arg3 arg4 arg5 arg7 arg8 arg9 arg10 x3 x4 x5 (16 * t.val + 6) (16 * t.val + 7) (16 * t.val + 8) (16 * t.val + 9) (16 * t.val + 8) (by omega) (by omega) (by omega) (by omega) (off2_eq i t 7) (off2_eq i t 8) (off2_eq i t 9) (off3_eq i t 6) (off3_eq i t 7) ?_
  refine pairInv c arg3 arg4 arg5 arg7 arg8 arg9 arg10 x3 x4 x5 (16 * t.val + 8) (16 * t.val + 9) (16 * t.val + 10) (16 * t.val + 11) (16 * t.val + 10) (by omega) (by omega) (by omega) (by omega) (off2_eq i t 9) (off2_eq i t 10) (off2_eq i t 11) (off3_eq i t 8) (off3_eq i t 9) ?_
  refine pairInv c arg3 arg4 arg5 arg7 arg8 arg9 arg10 x3 x4 x5 (16 * t.val + 10) (16 * t.val + 11) (16 * t.val + 12) (16 * t.val + 13) (16 * t.val + 12) (by omega) (by omega) (by omega) (by omega) (off2_eq i t 11) (off2_eq i t 12) (off2_eq i t 13) (off3_eq i t 10) (off3_eq i t 11) ?_
  refine pairInv c arg3 arg4 arg5 arg7 arg8 arg9 arg10 x3 x4 x5 (16 * t.val + 12) (16 * t.val + 13) (16 * t.val + 14) (16 * t.val + 15) (16 * t.val + 14) (by omega) (by omega) (by omega) (by omega) (off2_eq i t 13) (off2_eq i t 14) (off2_eq i t 15) (off3_eq i t 12) (off3_eq i t 13) ?_
  refine pairInv c arg3 arg4 arg5 arg7 arg8 arg9 arg10 x3 x4 x5 (16 * t.val + 14) (16 * t.val + 15) (16 * t.val + 16) (16 * t.val + 17) (16 * (t.val + 1)) (by omega) (by omega) (by omega) (by omega) (off2_eq i t 15) (off2_eq i t 16) (off2_eq i t 17) (off3_eq i t 14) (off3_eq i t 15) ?_
  exact h

theorem whole3_idx {a b d : ℕ} (hb : ∀ x, (![0, 0, 0] : Fin 3 → ℕ) x + (⟨3, ![a, b, d]⟩ : Shape).size x ≤ (⟨3, ![a, b, d]⟩ : Shape).size x)
    (x : (⟨3, ![a, b, d]⟩ : Shape).Idx) : (Rect.unit (s := ⟨3, ![a, b, d]⟩) ![0, 0, 0] (⟨3, ![a, b, d]⟩ : Shape).size hb).idx x = x := by
  funext j
  apply Fin.ext
  fin_cases j
  · show 0 + 1 * (x 0).val = _; simp
  · show 0 + 1 * (x 1).val = _; simp
  · show 0 + 1 * (x 2).val = _; simp

theorem whole2_idx {a b : ℕ} (hb : ∀ x, (![0, 0] : Fin 2 → ℕ) x + (⟨2, ![a, b]⟩ : Shape).size x ≤ (⟨2, ![a, b]⟩ : Shape).size x)
    (x : (⟨2, ![a, b]⟩ : Shape).Idx) : (Rect.unit (s := ⟨2, ![a, b]⟩) ![0, 0] (⟨2, ![a, b]⟩ : Shape).size hb).idx x = x := by
  funext j
  apply Fin.ext
  fin_cases j
  · show 0 + 1 * (x 0).val = _; simp
  · show 0 + 1 * (x 1).val = _; simp

theorem mem_whole3 {a b d : ℕ} (hb : ∀ x, (![0, 0, 0] : Fin 3 → ℕ) x + (⟨3, ![a, b, d]⟩ : Shape).size x ≤ (⟨3, ![a, b, d]⟩ : Shape).size x)
    (x : (⟨3, ![a, b, d]⟩ : Shape).Idx) : x ∈ (Rect.unit (s := ⟨3, ![a, b, d]⟩) ![0, 0, 0] (⟨3, ![a, b, d]⟩ : Shape).size hb).set := by
  have h := LoadRect.idx_mem (Rect.unit (s := ⟨3, ![a, b, d]⟩) ![0, 0, 0] (⟨3, ![a, b, d]⟩ : Shape).size hb).toLoadRect x
  rwa [show _ = x from whole3_idx hb x] at h

theorem mem_whole2 {a b : ℕ} (hb : ∀ x, (![0, 0] : Fin 2 → ℕ) x + (⟨2, ![a, b]⟩ : Shape).size x ≤ (⟨2, ![a, b]⟩ : Shape).size x)
    (x : (⟨2, ![a, b]⟩ : Shape).Idx) : x ∈ (Rect.unit (s := ⟨2, ![a, b]⟩) ![0, 0] (⟨2, ![a, b]⟩ : Shape).size hb).set := by
  have h := LoadRect.idx_mem (Rect.unit (s := ⟨2, ![a, b]⟩) ![0, 0] (⟨2, ![a, b]⟩ : Shape).size hb).toLoadRect x
  rwa [show _ = x from whole2_idx hb x] at h

/-- The steps before the loop. -/
theorem prologue (μ0 : Vec F S4x1x256 .f32) (α0 : Vec F S4x80x256 .f32) {k : Pr F γ}
    (h : Inv c arg3 arg4 arg5 arg7 arg8 arg9 arg10 x3 x4 x5 0 R ⊢ wp frame (wpE (defs₀ (F := F)) Variants.none (c : Thread nD τ) none) E k Q) :
    St c arg3 arg4 arg5 arg7 arg8 arg9 arg10 x3 x4 x5 σ7 σ8 (slabOf μ0) (slabOf α0) R ⊢ wp frame (wpE (defs₀ (F := F)) Variants.none (c : Thread nD τ) none) E (prologueK arg3 arg4 arg7 arg8 arg9 arg10 k) Q := by
  have h' : St c arg3 arg4 arg5 arg7 arg8 arg9 arg10 x3 x4 x5 σ7 σ8 (maxAt x3 x4 0) (accAt x3 x4 x5 0) R ⊢ wp frame (wpE (defs₀ (F := F)) Variants.none (c : Thread nD τ) none) E
      (scoreK arg3 arg4 arg7 (k0_off1 0#32) (k0_off1_inb 0) 0 (by decide) <|
      scoreK arg3 arg4 arg7 (k0_off1 0#32) (k0_off1_inb 0) 1 (by decide) <|
      scoreK arg3 arg4 arg7 (k0_off1 0#32) (k0_off1_inb 0) 2 (by decide) <|
      scoreK arg3 arg4 arg7 (k0_off1 0#32) (k0_off1_inb 0) 3 (by decide) <|
      scoreK arg3 arg4 arg8 (k0_off1 1#32) (k0_off1_inb 1) 0 (by decide) <|
      scoreK arg3 arg4 arg8 (k0_off1 1#32) (k0_off1_inb 1) 1 (by decide) k) Q := by
    refine score7 c arg3 arg4 arg5 arg7 arg8 arg9 arg10 x3 x4 x5 0 off1_0 ?_
    refine score7 c arg3 arg4 arg5 arg7 arg8 arg9 arg10 x3 x4 x5 0 off1_0 ?_
    refine score7 c arg3 arg4 arg5 arg7 arg8 arg9 arg10 x3 x4 x5 0 off1_0 ?_
    refine score7 c arg3 arg4 arg5 arg7 arg8 arg9 arg10 x3 x4 x5 0 off1_0 ?_
    refine score8 c arg3 arg4 arg5 arg7 arg8 arg9 arg10 x3 x4 x5 1 off1_1 ?_
    refine score8 c arg3 arg4 arg5 arg7 arg8 arg9 arg10 x3 x4 x5 1 off1_1 ?_
    refine Inv_intro c arg3 arg4 arg5 arg7 arg8 arg9 arg10 x3 x4 x5 ?_ ?_ ?_ h
    · funext x; fin_cases x <;> simp [Function.update]
    · simp [Function.update]
    · simp [Function.update]
  unfold prologueK
  have e9 : (slabs (maxAt x3 x4 0) : S4x1x256.Idx → _) = max0 := slabs_slabOf _
  have e10 : (slabs (accAt x3 x4 x5 0) : S4x80x256.Idx → _) = acc0 := slabs_slabOf _
  have d9 : (slabs (slabOf μ0) : S4x1x256.Idx → _) = μ0 := slabs_slabOf _
  have d10 : (slabs (slabOf α0) : S4x80x256.Idx → _) = α0 := slabs_slabOf _
  unfold St at h' ⊢
  rw [e9, e10] at h'
  rw [d9, d10]
  iintro ⟨H3, H4, H5, H7, H8, H9, H10, HR⟩
  iapply (wp_loadO (defs := defs₀ (F := F)) Variants.none (c : Thread nD τ) none E)
  isplitl [H9]; · iexact H9
  iintro H9
  iapply (wp_storeO (defs := defs₀ (F := F)) Variants.none (c : Thread nD τ) none E (X' := max0)
    (fun x => congrArg max0 (whole3_idx _ x)) (fun y hy => absurd (mem_whole3 inb_S4x1x256_S4x1x256_0_0_0 y) hy))
  isplitl [H9]; · iexact H9
  iintro H9
  iapply (wp_loadO (defs := defs₀ (F := F)) Variants.none (c : Thread nD τ) none E)
  isplitl [H10]; · iexact H10
  iintro H10
  iapply (wp_storeO (defs := defs₀ (F := F)) Variants.none (c : Thread nD τ) none E (X' := acc0)
    (fun x => congrArg acc0 (whole3_idx _ x)) (fun y hy => absurd (mem_whole3 inb_S4x80x256_S4x80x256_0_0_0 y) hy))
  isplitl [H10]; · iexact H10
  iintro H10
  iapply h'
  isplitl [H3]; · iexact H3
  isplitl [H4]; · iexact H4
  isplitl [H5]; · iexact H5
  isplitl [H7]; · iexact H7
  isplitl [H8]; · iexact H8
  isplitl [H9]; · iexact H9
  isplitl [H10]; · iexact H10
  iexact HR

theorem read_top (α : Fin 4 → Vec F S1x80x256 .f32) (m : ℕ) (hm : m < 4)
    (h1 : ∀ a, (![m, 0, 0] : Fin 3 → ℕ) a + S1x64x256.size a ≤ S4x80x256.size a) :
    (fun x => (slabs α : S4x80x256.Idx → _) ((Rect.unit (s := S4x80x256) ![m, 0, 0] S1x64x256.size h1).idx x)) = top (α ⟨m, hm⟩) := by
  funext x
  have hx : (x 0).val = 0 := by have := (x 0).isLt; simp at this; omega
  unfold slabs top
  have e0 : ((Rect.unit (s := S4x80x256) ![m, 0, 0] S1x64x256.size h1).idx x) 0 = (⟨m, hm⟩ : Fin 4) := by
    apply Fin.ext; show m + 1 * (x 0).val = m; omega
  have e1 : ((Rect.unit (s := S4x80x256) ![m, 0, 0] S1x64x256.size h1).idx x) 1 = (⟨(x 1).val, lt_trans (x 1).isLt (by decide : 64 < 80)⟩ : Fin 80) := by
    apply Fin.ext; show 0 + 1 * (x 1).val = (x 1).val; omega
  have e2 : ((Rect.unit (s := S4x80x256) ![m, 0, 0] S1x64x256.size h1).idx x) 2 = x 2 := by
    apply Fin.ext; show 0 + 1 * (x 2).val = (x 2).val; omega
  rw [e0, e1, e2]

theorem read_den (α : Fin 4 → Vec F S1x80x256 .f32) (m : ℕ) (hm : m < 4)
    (h1 : ∀ a, (![m, 64, 0] : Fin 3 → ℕ) a + S1x1x256.size a ≤ S4x80x256.size a) :
    (fun x => (slabs α : S4x80x256.Idx → _) ((Rect.unit (s := S4x80x256) ![m, 64, 0] S1x1x256.size h1).idx x)) = den (α ⟨m, hm⟩) := by
  funext x
  have hx : (x 0).val = 0 := by have := (x 0).isLt; simp at this; omega
  have hx1 : (x 1).val = 0 := by have := (x 1).isLt; simp at this; omega
  unfold slabs den
  have e0 : ((Rect.unit (s := S4x80x256) ![m, 64, 0] S1x1x256.size h1).idx x) 0 = (⟨m, hm⟩ : Fin 4) := by
    apply Fin.ext; show m + 1 * (x 0).val = m; omega
  have e1 : ((Rect.unit (s := S4x80x256) ![m, 64, 0] S1x1x256.size h1).idx x) 1 = (64 : Fin 80) := by
    apply Fin.ext; show 64 + 1 * (x 1).val = 64; omega
  have e2 : ((Rect.unit (s := S4x80x256) ![m, 64, 0] S1x1x256.size h1).idx x) 2 = x 2 := by
    apply Fin.ext; show 0 + 1 * (x 2).val = (x 2).val; omega
  rw [e0, e1, e2]

/-- A head's quotient. -/
theorem quotR {m : ℕ} (hm : m < 4) {h1 : ∀ a, (![m, 0, 0] : Fin 3 → ℕ) a + S1x64x256.size a ≤ S4x80x256.size a}
    {h2 : ∀ a, (![m, 64, 0] : Fin 3 → ℕ) a + S1x1x256.size a ≤ S4x80x256.size a} {k : FVec F S64x256 .f32 → Pr F γ}
    (h : St c arg3 arg4 arg5 arg7 arg8 arg9 arg10 x3 x4 x5 σ7 σ8 μ α R ⊢ wp frame (wpE (defs₀ (F := F)) Variants.none (c : Thread nD τ) none) E (k (quot (top (α ⟨m, hm⟩)) (den (α ⟨m, hm⟩)))) Q) :
    St c arg3 arg4 arg5 arg7 arg8 arg9 arg10 x3 x4 x5 σ7 σ8 μ α R ⊢ wp frame (wpE (defs₀ (F := F)) Variants.none (c : Thread nD τ) none) E (quotK arg10 m h1 h2 k) Q := by
  unfold quotK
  rw [← read_top α m hm h1, ← read_den α m hm h2] at h
  have h' := h
  unfold St at h' ⊢
  iintro ⟨H3, H4, H5, H7, H8, H9, H10, HR⟩
  iapply (wp_loadO (defs := defs₀ (F := F)) Variants.none (c : Thread nD τ) none E)
  isplitl [H10]; · iexact H10
  iintro H10
  iapply (wp_loadO (defs := defs₀ (F := F)) Variants.none (c : Thread nD τ) none E)
  isplitl [H10]; · iexact H10
  iintro H10
  iapply h'
  isplitl [H3]; · iexact H3
  isplitl [H4]; · iexact H4
  isplitl [H5]; · iexact H5
  isplitl [H7]; · iexact H7
  isplitl [H8]; · iexact H8
  isplitl [H9]; · iexact H9
  isplitl [H10]; · iexact H10
  iexact HR

/-- The last chunk and the result. -/
theorem epilogue (i : grid0.Coords) (x6 : Vec F S256x256 .bf16) (K : PUnit → sProp (MT nD τ sig Unit (Elt F) ℕ (UR sig nD τ) ℕ)) :
    Inv c arg3 arg4 arg5 arg7 arg8 arg9 arg10 x3 x4 x5 (lastChunk i) iprop(owns (c : Thread nD τ) arg6 fullShare x6 ∗
        (∀ u, (∃ σ7 σ8 μ α, St c arg3 arg4 arg5 arg7 arg8 arg9 arg10 x3 x4 x5 σ7 σ8 μ α iprop(owns (c : Thread nD τ) arg6 fullShare (blockOut x3 x4 x5 (lastChunk i + 1)))) -∗ K u))
      ⊢ wp frame (wpE (defs₀ (F := F)) Variants.none (c : Thread nD τ) none) E ((pvA arg5 arg9 arg10 arg7 (k0_off6 i) (k0_off6_inb i) 0 (by decide) .ret) >>= fun v =>
            epilogueK arg5 arg6 harg6 arg7 arg9 arg10 i v) K := by
  have hb : ((pvA (F := F) arg5 arg9 arg10 arg7 (k0_off6 i) (k0_off6_inb i) 0 (by decide) .ret) >>= fun v =>
            epilogueK arg5 arg6 harg6 arg7 arg9 arg10 i v)
      = pvA arg5 arg9 arg10 arg7 (k0_off6 i) (k0_off6_inb i) 0 (by decide) (fun v => epilogueK arg5 arg6 harg6 arg7 arg9 arg10 i v) := rfl
  rw [hb]
  suffices hs : ∀ σ8, St c arg3 arg4 arg5 arg7 arg8 arg9 arg10 x3 x4 x5 (scoreAt x3 x4 (lastChunk i)) σ8 (maxAt x3 x4 (lastChunk i)) (accAt x3 x4 x5 (lastChunk i))
      iprop(owns (c : Thread nD τ) arg6 fullShare x6 ∗
        (∀ u, (∃ σ7 σ8 μ α, St c arg3 arg4 arg5 arg7 arg8 arg9 arg10 x3 x4 x5 σ7 σ8 μ α iprop(owns (c : Thread nD τ) arg6 fullShare (blockOut x3 x4 x5 (lastChunk i + 1)))) -∗ K u))
      ⊢ wp frame (wpE (defs₀ (F := F)) Variants.none (c : Thread nD τ) none) E (pvA arg5 arg9 arg10 arg7 (k0_off6 i) (k0_off6_inb i) 0 (by decide) (fun v => epilogueK arg5 arg6 harg6 arg7 arg9 arg10 i v)) K by
    unfold Inv
    iintro ⟨%σ8, %hi, H⟩
    iapply (hs σ8)
    iexact H
  intro σ8
  refine pvA7 c arg3 arg4 arg5 arg7 arg8 arg9 arg10 x3 x4 x5 (lastChunk i) (off6_eq i) ?_
  unfold epilogueK
  refine pvBr c arg3 arg4 arg5 arg7 arg8 arg9 arg10 x3 x4 x5 ?_
  refine pv7 c arg3 arg4 arg5 arg7 arg8 arg9 arg10 x3 x4 x5 (lastChunk i) (off6_eq i) ?_
  refine pv7 c arg3 arg4 arg5 arg7 arg8 arg9 arg10 x3 x4 x5 (lastChunk i) (off6_eq i) ?_
  refine pv7 c arg3 arg4 arg5 arg7 arg8 arg9 arg10 x3 x4 x5 (lastChunk i) (off6_eq i) ?_
  refine St_congr c arg3 arg4 arg5 arg7 arg8 arg9 arg10 x3 x4 x5 (σ7' := scoreAt x3 x4 (lastChunk i)) (μ' := maxAt x3 x4 (lastChunk i + 1)) (α' := accAt x3 x4 x5 (lastChunk i + 1)) rfl ?_ ?_ ?_
  · funext x; fin_cases x <;> simp [Function.update, maxAt]
  · funext x; fin_cases x <;> simp [Function.update, maxAt, accAt]
  refine quotR c arg3 arg4 arg5 arg7 arg8 arg9 arg10 x3 x4 x5 (by decide) ?_
  refine quotR c arg3 arg4 arg5 arg7 arg8 arg9 arg10 x3 x4 x5 (by decide) ?_
  refine quotR c arg3 arg4 arg5 arg7 arg8 arg9 arg10 x3 x4 x5 (by decide) ?_
  refine quotR c arg3 arg4 arg5 arg7 arg8 arg9 arg10 x3 x4 x5 (by decide) ?_
  unfold St
  iintro ⟨H3, H4, H5, H7, H8, H9, H10, H6, HK⟩
  iapply (wp_loadO (defs := defs₀ (F := F)) Variants.none (c : Thread nD τ) none E)
  isplitl [H6]; · iexact H6
  iintro H6
  iapply (wp_storeO (defs := defs₀ (F := F)) Variants.none (c : Thread nD τ) none E (X' := blockOut x3 x4 x5 (lastChunk i + 1))
    (fun x => congrArg (blockOut x3 x4 x5 (lastChunk i + 1)) (whole2_idx _ x)) (fun y hy => absurd (mem_whole2 inb_S256x256_S256x256_0_0 y) hy))
  isplitl [H6]; · iexact H6
  iintro H6
  rw [wp_ret]
  imodintro
  iapply HK
  iexists _; iexists _; iexists _; iexists _
  isplitl [H3]; · iexact H3
  isplitl [H4]; · iexact H4
  isplitl [H5]; · iexact H5
  isplitl [H7]; · iexact H7
  isplitl [H8]; · iexact H8
  isplitl [H9]; · iexact H9
  isplitl [H10]; · iexact H10
  iexact H6

/-- The loop, its empty remainder and the last chunk. -/
theorem loops (harg3 : arg3.IsWhole) (harg4 : arg4.IsWhole) (harg5 : arg5.IsWhole) (harg7 : arg7.IsWhole) (harg8 : arg8.IsWhole)
    (harg9 : arg9.IsWhole) (harg10 : arg10.IsWhole) (i : grid0.Coords) (x6 : Vec F S256x256 .bf16) (K : PUnit → sProp (MT nD τ sig Unit (Elt F) ℕ (UR sig nD τ) ℕ)) :
    Inv c arg3 arg4 arg5 arg7 arg8 arg9 arg10 x3 x4 x5 0 iprop(owns (c : Thread nD τ) arg6 fullShare x6 ∗
        (∀ u, (∃ σ7 σ8 μ α, St c arg3 arg4 arg5 arg7 arg8 arg9 arg10 x3 x4 x5 σ7 σ8 μ α iprop(owns (c : Thread nD τ) arg6 fullShare (blockOut x3 x4 x5 (lastChunk i + 1)))) -∗ K u))
      ⊢ wp frame (wpE (defs₀ (F := F)) Variants.none (c : Thread nD τ) none) E ((Scf.Loop.for (k0_t1_loop i) (k0_t1_ok i) ⟨⟩ (k0_t1_body (F := F) i arg3 harg3 arg4 harg4 arg5 harg5 arg6 harg6 arg7 harg7 arg8 harg8 arg9 harg9 arg10 harg10 (nIter i) ones 0#32) >>= fun _ =>
            Scf.Loop.for (k0_t2_loop i) (k0_t2_ok i) ⟨⟩ (k0_t2_body (F := F) i arg3 harg3 arg4 harg4 arg5 harg5 arg6 harg6 arg7 harg7 arg8 harg8 arg9 harg9 arg10 harg10 (nIter i) ones 0#32
                (Scalar.addi 0#32 (Scalar.muli (Scalar.divsi (Scalar.subi (nIter i) 0#32) 1#32) 1#32))) >>= fun _ =>
              pvA arg5 arg9 arg10 arg7 (k0_off6 i) (k0_off6_inb i) 0 (by decide) .ret) >>= fun v =>
            epilogueK arg5 arg6 harg6 arg7 arg9 arg10 i v) K := by
  rw [wp_bind, wp_bind]
  generalize hR : iprop(owns (c : Thread nD τ) arg6 fullShare x6 ∗
        (∀ u, (∃ σ7 σ8 μ α, St c arg3 arg4 arg5 arg7 arg8 arg9 arg10 x3 x4 x5 σ7 σ8 μ α iprop(owns (c : Thread nD τ) arg6 fullShare (blockOut x3 x4 x5 (lastChunk i + 1)))) -∗ K u)) = R'
  iintro H
  iapply (Scf.wp_for frame (wpE (defs₀ (F := F)) Variants.none (c : Thread nD τ) none) E _ _ _ (k0_t1_ok i) _ _
    (fun n _ => Inv c arg3 arg4 arg5 arg7 arg8 arg9 arg10 x3 x4 x5 (16 * n) R') (fun t u => by
      rw [t1_body_eq]
      refine trip c arg3 arg4 arg5 arg7 arg8 arg9 arg10 x3 x4 x5 i t ?_
      iintro H
      rw [wp_ret]
      imodintro
      iexact H))
  isplitl [H]; · iexact H
  iintro %u H
  rw [wp_bind]
  have e1 : 16 * (k0_t1_loop i).trips = lastChunk i := by
    rw [t1_trips]; unfold lastChunk; split <;> rfl
  iapply (Scf.wp_for frame (wpE (defs₀ (F := F)) Variants.none (c : Thread nD τ) none) E _ _ _ (k0_t2_ok i) _ _
    (fun n _ => Inv c arg3 arg4 arg5 arg7 arg8 arg9 arg10 x3 x4 x5 (lastChunk i) R') (fun t u => absurd (lt_of_lt_of_eq t.isLt (t2_trips i)) (Nat.not_lt_zero _)))
  isplitl [H]
  · have e2 : Inv c arg3 arg4 arg5 arg7 arg8 arg9 arg10 x3 x4 x5 (16 * (k0_t1_loop i).trips) R' ⊢ Inv c arg3 arg4 arg5 arg7 arg8 arg9 arg10 x3 x4 x5 (lastChunk i) R' := by rw [e1]
    iapply e2
    iexact H
  iintro %u' H
  have he := epilogue c arg3 arg4 arg5 arg6 harg6 arg7 arg8 arg9 arg10 x3 x4 x5 (E := E) i x6 K
  rw [hR, wp_bind] at he
  iapply he
  iexact H

/-- The body: from the three input blocks, the block of the result, the scratch at anything before and after. -/
theorem body (harg3 : arg3.IsWhole) (harg4 : arg4.IsWhole) (harg5 : arg5.IsWhole) (harg7 : arg7.IsWhole) (harg8 : arg8.IsWhole)
    (harg9 : arg9.IsWhole) (harg10 : arg10.IsWhole) (i : grid0.Coords) (x6 : Vec F S256x256 .bf16)
    (s7 s8 : Vec F S4x256x256 .f32) (s9 : Vec F S4x1x256 .f32) (s10 : Vec F S4x80x256 .f32) (K : PUnit → sProp (MT nD τ sig Unit (Elt F) ℕ (UR sig nD τ) ℕ)) :
    iprop(owns (c : Thread nD τ) arg3 fullShare x3 ∗ owns (c : Thread nD τ) arg4 fullShare x4 ∗ owns (c : Thread nD τ) arg5 fullShare x5
      ∗ owns (c : Thread nD τ) arg6 fullShare x6
      ∗ owns (c : Thread nD τ) arg7 fullShare s7 ∗ owns (c : Thread nD τ) arg8 fullShare s8
      ∗ owns (c : Thread nD τ) arg9 fullShare s9 ∗ owns (c : Thread nD τ) arg10 fullShare s10
      ∗ (∀ u, (owns (c : Thread nD τ) arg3 fullShare x3 ∗ owns (c : Thread nD τ) arg4 fullShare x4 ∗ owns (c : Thread nD τ) arg5 fullShare x5
          ∗ owns (c : Thread nD τ) arg6 fullShare (blockOut x3 x4 x5 (lastChunk i + 1))
          ∗ (∃ f, owns (c : Thread nD τ) arg7 fullShare f) ∗ (∃ f, owns (c : Thread nD τ) arg8 fullShare f)
          ∗ (∃ f, owns (c : Thread nD τ) arg9 fullShare f) ∗ (∃ f, owns (c : Thread nD τ) arg10 fullShare f)) -∗ K u))
      ⊢ wp frame (wpE (defs₀ (F := F)) Variants.none (c : Thread nD τ) none) E (cc0__attn_kernel (F := F) i arg3 harg3 arg4 harg4 arg5 harg5 arg6 harg6 arg7 harg7 arg8 harg8 arg9 harg9 arg10 harg10) K := by
  rw [kernel_eq]
  have h := prologue c arg3 arg4 arg5 arg7 arg8 arg9 arg10 x3 x4 x5 (σ7 := slabOf s7) (σ8 := slabOf s8) s9 s10
    (loops c arg3 arg4 arg5 arg6 harg6 arg7 arg8 arg9 arg10 x3 x4 x5 (E := E) harg3 harg4 harg5 harg7 harg8 harg9 harg10 i x6 K)
  have d7 : (slabs (slabOf s7) : S4x256x256.Idx → _) = s7 := slabs_slabOf _
  have d8 : (slabs (slabOf s8) : S4x256x256.Idx → _) = s8 := slabs_slabOf _
  have d9 : (slabs (slabOf s9) : S4x1x256.Idx → _) = s9 := slabs_slabOf _
  have d10 : (slabs (slabOf s10) : S4x80x256.Idx → _) = s10 := slabs_slabOf _
  unfold St at h
  rw [d7, d8, d9, d10] at h
  iintro ⟨H3, H4, H5, H6, H7, H8, H9, H10, HK⟩
  iapply h
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H6]; · iexact H6
  iintro %u ⟨%σ7, %σ8, %μ, %α, H3, H4, H5, H7, H8, H9, H10, H6⟩
  iapply HK
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

end Rules

end Cert.KernelIdeal.Attn

end
-- ==== Proof.Run.lean ====
/- # The run

The pipeline's proof data (after the body each input's buffer holds its block, the result's the attention of the blocks), the body's
obligation at every point, the launch and the frame, over any float values. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline
open Cert.KernelIdeal.Gen Cert.Attn

variable {F : FTy → Type} [FloatOps F]

variable (m : (ℓ : Loc nD τ sig) → Buf (Elt F) ℓ) (ρ : Dev nD → PrngReg)

/-- The block of the result that point `t` leaves, from the three blocks it is given. -/
def outBlk (c : Dev nD) (t : Fin cfg0.N) : Vec F S256x256 .bf16 :=
  blockOut (iblk m c 0 t) (iblk m c 1 t) (iblk m c 2 t) (lastChunk (grid0.coords t) + 1)

/-- The proof data: the arrays as the region finds them; each input's buffer at its block, the result's at `outBlk`; the scratch at
anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The scratch buffers between points -/

abbrev sc0 : Memref sig .tc .vmem S4x256x256 .f32 := Memref.whole cc0_scratch0
abbrev sc1 : Memref sig .tc .vmem S4x256x256 .f32 := Memref.whole cc0_scratch1
abbrev sc2 : Memref sig .tc .vmem S4x1x256 .f32 := Memref.whole cc0_scratch2
abbrev sc3 : Memref sig .tc .vmem S4x80x256 .f32 := Memref.whole cc0_scratch3

theorem PhiA_eq (c : Dev nD) : (Pipeline.ΦA spec0 c : sProp (MT nD τ sig Unit (Elt F) ℕ (UR sig nD τ) ℕ))
    = iprop(iprop((∃ f, owns (c : Thread nD τ) sc0 fullShare f) ∗ (∃ f, owns (c : Thread nD τ) sc1 fullShare f)
      ∗ (∃ f, owns (c : Thread nD τ) sc2 fullShare f) ∗ (∃ f, owns (c : Thread nD τ) sc3 fullShare f)) ∗ (∃ r, prngReg c r)) := by
  unfold Pipeline.ΦA; rw [scopedRest0_eq]; simp only [sc0, sc1, sc2, sc3, owns_whole]; try rfl

/-! ## The body's obligation -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, after0_0, after0_1, after0_2, after0_3, PhiA_eq]
  simp only [before0_0, before0_1, before0_2]
  generalize hO : (dats m 0 c).owesAt () t.castSucc = O
  unfold outBlk
  iintro ⟨⟨⟨⟨%s7, H7⟩, ⟨%s8, H8⟩, ⟨%s9, H9⟩, ⟨%s10, H10⟩⟩, HP⟩, Ho, ⟨%d0, H0⟩, ⟨%d1, H1⟩, ⟨%d2, H2⟩, ⟨%d3, H3⟩⟩
  iapply (body c _ _ _ _ _ _ _ _ _ (iblk m c 0 t) (iblk m c 1 t) (iblk m c 2 t) _ _ _ _ _ _ _ (grid0.coords t) _ s7 s8 s9 s10 _)
  isplitl [H0]; · iexact H0
  isplitl [H1]; · iexact H1
  isplitl [H2]; · iexact H2
  isplitl [H3]; · iexact H3
  isplitl [H7]; · iexact H7
  isplitl [H8]; · iexact H8
  isplitl [H9]; · iexact H9
  isplitl [H10]; · iexact H10
  iintro %u ⟨H0, H1, H2, H3, H7, H8, H9, H10⟩
  isplitl [H7 H8 H9 H10 HP]
  · isplitr [HP]
    · isplitl [H7]; · iexact H7
      isplitl [H8]; · iexact H8
      isplitl [H9]; · iexact H9
      iexact H10
    · iexact HP
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one
set_option backward.isDefEq.respectTransparency.types false in
/-- Every run ends, with every array of the pipeline at what the proof data say and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Frames.lean ====
/- # The frame of the program as printed

The program's text is that of its idealized form, so the run shown there over any float values is the run of the program as well: the two body tables are equal label by label. -/
module

public import proofs.«01_k».proof.Proof.Run
public import proofs.«01_k».proof.Defs
public import proofs.«01_k».proof.Proof.Gen.Kernel

@[expose] public section

set_option maxRecDepth 16384

noncomputable section

namespace Cert.Proof

open Idealize.ShloMosaic Idealize.ShloMosaic.TcCoe Idealize.SL.Sem

/-- The kernels' tables of the two programs agree. -/
theorem tables_eq : (Cert.Kernel.defs₀ (F := Bits)) = Cert.KernelIdeal.defs₀ (F := Bits) := by
  unfold Cert.Kernel.defs₀ Cert.KernelIdeal.defs₀
  refine congrArg Defs.onTc ?_
  funext ℓ a
  match ℓ, a with
  | 0, (t, s) => rfl

/-- And so do the tables with the pipelines' labels. -/
theorem defs_eq : (Cert.Kernel.defs (F := Bits)) = Cert.KernelIdeal.defs (F := Bits) :=
  congrArg (Pipeline.defs (Cert.KernelIdeal.pcfgs (F := Bits))) tables_eq

theorem frame_kernel : Cert.quiescent_Kernel (hKernel := Cert.Kernel.Gen.facts) := fun m ρ _ => by
  have h := Cert.KernelIdeal.Attn.frame (F := Bits) m ρ
  rw [← defs_eq] at h
  exact h

theorem frame_kernelIdeal : Cert.quiescent_KernelIdeal (hKernelIdeal := Cert.KernelIdeal.Gen.facts) := fun m ρ _ =>
  Cert.KernelIdeal.Attn.frame (F := Ideal) m ρ

end Cert.Proof

end
-- ==== Proof.Softmax.lean ====
/- # The softmax, whole and in chunks

Attention over finitely many real scores, as exact arithmetic on the extended reals computes it: the plain form (every weight divided
by the sum of the weights) and the chunked form (a running maximum, an accumulator rescaled at every chunk, one division at the end). -/
module

public import Idealize.ShloMosaic.Lib.IdealHost
public import Mathlib.Analysis.SpecialFunctions.Pow.Real

@[expose] public section

noncomputable section

namespace Cert.Attn

open Idealize.ShloMosaic

/-- The weighted sum of the first `n` values, the weights the exponentials of the scores. -/
def wsum (t v : ℕ → ℝ) (n : ℕ) : ℝ := ∑ k ∈ Finset.range n, v k * Real.exp (t k)

/-- The attention over the first `n` keys: the weighted sum over the sum of the weights. -/
def attend (t v : ℕ → ℝ) (n : ℕ) : ℝ := wsum t v n / wsum t (fun _ => 1) n

theorem wsum_one_pos (t : ℕ → ℝ) {n : ℕ} (hn : 0 < n) : 0 < wsum t (fun _ => 1) n :=
  Finset.sum_pos (fun k _ => by rw [one_mul]; exact Real.exp_pos _) ⟨0, Finset.mem_range.2 hn⟩

theorem wsum_congr {t t' v v' : ℕ → ℝ} {n : ℕ} (ht : ∀ k < n, t k = t' k) (hv : ∀ k < n, v k = v' k) : wsum t v n = wsum t' v' n :=
  Finset.sum_congr rfl fun k hk => by rw [ht k (Finset.mem_range.1 hk), hv k (Finset.mem_range.1 hk)]

theorem attend_congr {t t' v v' : ℕ → ℝ} {n : ℕ} (ht : ∀ k < n, t k = t' k) (hv : ∀ k < n, v k = v' k) : attend t v n = attend t' v' n := by
  unfold attend; rw [wsum_congr ht hv, wsum_congr ht fun _ _ => rfl]

/-- The sums over one chunk more. -/
theorem wsum_add (t v : ℕ → ℝ) (n b : ℕ) :
    wsum t v (n + b) = wsum t v n + ∑ x : Fin b, v (n + x.val) * Real.exp (t (n + x.val)) := by
  unfold wsum
  rw [Finset.sum_range_add, Finset.sum_range (fun x => v (n + x) * Real.exp (t (n + x)))]

/-! ## Exact operations on reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (x : ℝ) : Ideal.exp (x : EReal) = ((Real.exp x : ℝ) : EReal) := rfl

theorem exp2_coe (x : ℝ) : Ideal.exp2 (x : EReal) = ((Real.exp (Real.log 2 * x) : ℝ) : EReal) := by
  show ((Real.rpow 2 x : ℝ) : EReal) = _
  rw [show Real.rpow 2 x = (2 : ℝ) ^ x from rfl, Real.rpow_def_of_pos (by norm_num)]

theorem div_coe_coe (x : ℝ) {y : ℝ} (hy : y ≠ 0) : Ideal.div (x : EReal) (y : EReal) = ((x / y : ℝ) : EReal) := by
  rw [Ideal.div_coe hy, one_div, ← EReal.coe_mul, div_eq_mul_inv]

/-- The maximum of finitely many reals, of at least one, is a real. -/
theorem fold_max_coe {N : ℕ} (hN : 0 < N) (f : Fin N → EReal) (g : Fin N → ℝ) (hf : ∀ x, f x = (g x : EReal)) :
    ∃ r : ℝ, Finset.fold max (⊥ : EReal) f Finset.univ = (r : EReal) := by
  obtain ⟨i, -, hi⟩ := Finset.exists_mem_eq_sup (Finset.univ : Finset (Fin N)) ⟨⟨0, hN⟩, Finset.mem_univ _⟩ f
  exact ⟨g i, (show Finset.fold max (⊥ : EReal) f Finset.univ = Finset.univ.sup f from rfl).trans (hi.trans (hf i))⟩

/-! ## The plain form -/

/-- The weights over their sum, times the values, summed: the attention. -/
theorem plain {N : ℕ} (hN : 0 < N) (t v : ℕ → ℝ) (r : ℝ) (e val : Fin N → EReal)
    (he : ∀ k, e k = (t k.val : EReal)) (hval : ∀ k, val k = (v k.val : EReal)) :
    ∑ k : Fin N, val k * Ideal.div (Ideal.exp (e k - (r : EReal))) (∑ l : Fin N, Ideal.exp (e l - (r : EReal)))
      = ((attend t v N : ℝ) : EReal) := by
  have hw : ∀ k : Fin N, Ideal.exp (e k - (r : EReal)) = ((Real.exp (t k.val) * Real.exp (-r) : ℝ) : EReal) := fun k => by
    rw [he, ← EReal.coe_sub, exp_coe, ← Real.exp_add, sub_eq_add_neg]
  have hs : ∑ l : Fin N, Ideal.exp (e l - (r : EReal)) = ((wsum t (fun _ => 1) N * Real.exp (-r) : ℝ) : EReal) := by
    simp only [hw]
    rw [← coe_sum, ← Finset.sum_mul, wsum, Finset.sum_range]
    simp only [one_mul]
  have hpos := wsum_one_pos t hN
  have hne : wsum t (fun _ => 1) N * Real.exp (-r) ≠ 0 := (mul_pos hpos (Real.exp_pos _)).ne'
  rw [hs]
  have hk : ∀ k : Fin N, val k * Ideal.div (Ideal.exp (e k - (r : EReal))) ((wsum t (fun _ => 1) N * Real.exp (-r) : ℝ) : EReal)
      = ((v k.val * Real.exp (t k.val) * (wsum t (fun _ => 1) N)⁻¹ : ℝ) : EReal) := fun k => by
    rw [hw, div_coe_coe _ hne, hval, ← EReal.coe_mul, mul_div_mul_right _ _ (Real.exp_pos _).ne', div_eq_mul_inv, mul_assoc]
  simp only [hk]
  rw [← coe_sum, ← Finset.sum_mul, attend, div_eq_mul_inv, wsum.eq_def t v, Finset.sum_range]

/-! ## The chunked form -/

/-- What a chunk leaves of an accumulator that had none before it. -/
theorem chunk_first {b : ℕ} (s v : ℕ → ℝ) (μ : ℝ) (e val : Fin b → EReal)
    (he : ∀ x, e x = (s x.val : EReal)) (hval : ∀ x, val x = (v x.val : EReal)) :
    Ideal.exp2 ((⊥ : EReal) - (μ : EReal)) * 0 + ∑ x : Fin b, val x * Ideal.exp2 (e x - (μ : EReal))
      = ((Real.exp (-(Real.log 2 * μ)) * wsum (fun k => Real.log 2 * s k) v b : ℝ) : EReal) := by
  have hx : ∀ x : Fin b, val x * Ideal.exp2 (e x - (μ : EReal))
      = ((Real.exp (-(Real.log 2 * μ)) * (v x.val * Real.exp (Real.log 2 * s x.val)) : ℝ) : EReal) := fun x => by
    rw [he, ← EReal.coe_sub, exp2_coe, hval, ← EReal.coe_mul, mul_sub, sub_eq_add_neg, Real.exp_add]
    congr 1; ring
  simp only [hx]
  rw [mul_zero, zero_add, ← coe_sum, ← Finset.mul_sum, wsum, Finset.sum_range]

/-- What a chunk leaves of an accumulator that holds the chunks before it. -/
theorem chunk_next {b : ℕ} (s v : ℕ → ℝ) (n : ℕ) (μ₀ μ : ℝ) (e val : Fin b → EReal)
    (he : ∀ x, e x = (s (n + x.val) : EReal)) (hval : ∀ x, val x = (v (n + x.val) : EReal)) :
    Ideal.exp2 ((μ₀ : EReal) - (μ : EReal)) * ((Real.exp (-(Real.log 2 * μ₀)) * wsum (fun k => Real.log 2 * s k) v n : ℝ) : EReal)
        + ∑ x : Fin b, val x * Ideal.exp2 (e x - (μ : EReal))
      = ((Real.exp (-(Real.log 2 * μ)) * wsum (fun k => Real.log 2 * s k) v (n + b) : ℝ) : EReal) := by
  have hx : ∀ x : Fin b, val x * Ideal.exp2 (e x - (μ : EReal))
      = ((Real.exp (-(Real.log 2 * μ)) * (v (n + x.val) * Real.exp (Real.log 2 * s (n + x.val))) : ℝ) : EReal) := fun x => by
    rw [he, ← EReal.coe_sub, exp2_coe, hval, ← EReal.coe_mul, mul_sub, sub_eq_add_neg, Real.exp_add]
    congr 1; ring
  simp only [hx]
  rw [← coe_sum, ← Finset.mul_sum, ← EReal.coe_sub, exp2_coe, ← EReal.coe_mul, ← EReal.coe_add, wsum_add, mul_add, ← mul_assoc,
    ← Real.exp_add]
  congr 4
  ring

/-- The division at the end. -/
theorem chunk_end (t v : ℕ → ℝ) {n : ℕ} (hn : 0 < n) (μ : ℝ) :
    Ideal.div ((Real.exp μ * wsum t v n : ℝ) : EReal) ((Real.exp μ * wsum t (fun _ => 1) n : ℝ) : EReal) = ((attend t v n : ℝ) : EReal) := by
  have hpos := wsum_one_pos t hn
  rw [div_coe_coe _ (mul_pos (Real.exp_pos _) hpos).ne', mul_div_mul_left _ _ (Real.exp_pos _).ne', attend]

end Cert.Attn

end
-- ==== Proof.Peak.lean ====
/- # Constants, and the greatest of a row

The constants of the two programs as extended reals, and the maximum over the last of five axes of an array whose row is real. -/
module

public import proofs.«01_k».proof.Proof.Softmax
public import Idealize.ShloMosaic.Lib.Pointwise

@[expose] public section

set_option maxRecDepth 16384

noncomputable section

namespace Cert.Attn

open Idealize.ShloMosaic Idealize.ShloMosaic.TcCoe

theorem ofBits_neg_inf : Ideal.ofBits .f32 0xFF800000#32 = (⊥ : EReal) := by simp [Ideal.ofBits, Ideal.ieee]

theorem ofBits_inf : Ideal.ofBits .f32 0x7F800000#32 = (⊤ : EReal) := by simp [Ideal.ofBits, Ideal.ieee]

theorem ofBits_two : Ideal.ofBits .f32 0x40000000#32 = ((2 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

/-- A maximum over the last of five axes, as a fold. -/
theorem reduceMax_apply {n0 n1 n2 n3 n4 : ℕ} (h : (⟨5, ![n0, n1, n2, n3, n4]⟩ : Shape).ReducesTo [4] ⟨4, ![n0, n1, n2, n3]⟩)
    (hu : 0 < (⟨0, ![]⟩ : Shape).numel) (x : FVec Ideal ⟨5, ![n0, n1, n2, n3, n4]⟩ .f32) (w : FVec Ideal ⟨0, ![]⟩ .f32)
    (b : Fin n0) (g : Fin n1) (e : Fin n2) (i : Fin n3) :
    Host.reduce FloatOps.maximumf x w h hu (ix4 b g e i)
      = Finset.fold max (show EReal from w (Shape.Idx.first hu)) (fun k : Fin n4 => (show EReal from x (ix5 b g e i k))) Finset.univ := by
  pointwise

/-- The maximum of a real row, from minus infinity on, is real. -/
theorem reduceMax_real {n0 n1 n2 n3 n4 : ℕ} (h : (⟨5, ![n0, n1, n2, n3, n4]⟩ : Shape).ReducesTo [4] ⟨4, ![n0, n1, n2, n3]⟩)
    (hu : 0 < (⟨0, ![]⟩ : Shape).numel) (x : FVec Ideal ⟨5, ![n0, n1, n2, n3, n4]⟩ .f32) (w : FVec Ideal ⟨0, ![]⟩ .f32)
    (b : Fin n0) (g : Fin n1) (e : Fin n2) (i : Fin n3) (hn : 0 < n4) (t : Fin n4 → ℝ) (hw : ∀ j, w j = (⊥ : EReal))
    (hx : ∀ k, x (ix5 b g e i k) = (t k : EReal)) :
    ∃ r : ℝ, Host.reduce FloatOps.maximumf x w h hu (ix4 b g e i) = (r : EReal) := by
  rw [reduceMax_apply, show (show EReal from w (Shape.Idx.first hu)) = (⊥ : EReal) from hw _]
  exact fold_max_coe hn _ t hx

end Cert.Attn

end
-- ==== Proof.Finite.lean ====
/- # The precondition, read back

Where the predicate holds, every element of the three arrays is a real number. -/
module

public import proofs.«01_k».proof.Pre_finite
public import proofs.«01_k».proof.Proof.Peak
public import Idealize.ShloMosaic.Lib.ReduceAll

@[expose] public section

set_option maxRecDepth 16384

noncomputable section

namespace Cert.Pre_finite

open Idealize.ShloMosaic Cert.Attn

/-- The shape relations the predicate states. -/
theorem facts : Facts where
  bcast_S_S4x8448x1024 := by decide
  reducesTo_S4x8448x1024_S_d0_1_2 := by decide
  h_S_ := by decide
  bcast_S_S4x8448x2x64 := by decide
  reducesTo_S4x8448x2x64_S_d0_1_2_3 := by decide

/-- An extended real whose absolute value is below plus infinity is a real number. -/
theorem real_of_abs (x : EReal) (h : Ideal.cmp .olt (max x (-x)) (Ideal.ofBits .f32 0x7F800000#32) = 1#1) : x = (x.toReal : EReal) := by
  rw [ofBits_inf] at h
  have hlt : max x (-x) < (⊤ : EReal) := by
    by_contra hn
    simp [Ideal.cmp, hn] at h
  refine (EReal.coe_toReal (fun e => ?_) (fun e => ?_)).symm
  · exact hlt.ne (by rw [e]; simp)
  · exact hlt.ne (by rw [e]; simp)

instance : Subsingleton S_.Idx := ⟨fun a b => funext fun i => i.elim0⟩

theorem real_of_fn (a0 : FVec Ideal S4x8448x1024 .f32) (a1 a2 : FVec Ideal S4x8448x2x64 .f32)
    (h : @fn facts Ideal _ a0 a1 a2 = fun _ => 1#1) :
    (∀ i, a0 i = ((show EReal from a0 i).toReal : EReal)) ∧ (∀ i, a1 i = ((show EReal from a1 i).toReal : EReal))
      ∧ (∀ i, a2 i = ((show EReal from a2 i).toReal : EReal)) := by
  have e := congrFun h (fun i => i.elim0)
  obtain ⟨e01, e2⟩ := IntOp.andi_eq_one.1 e
  obtain ⟨e0, e1⟩ := IntOp.andi_eq_one.1 e01
  exact ⟨fun i => real_of_abs _ (Host.reduce_andi_all _ _ _ _ _ e0 i), fun i => real_of_abs _ (Host.reduce_andi_all _ _ _ _ _ e1 i),
    fun i => real_of_abs _ (Host.reduce_andi_all _ _ _ _ _ e2 i)⟩

end Cert.Pre_finite

end
-- ==== Proof.Chunk.lean ====
/- # A point's values

Over the exact arithmetic: what each step of the kernel computes, read at an index; then, where queries, keys and values are real,
the accumulators after any number of chunks, and the block of the result, which is the attention over the keys of the chunks. -/
module

public import proofs.«01_k».proof.Proof.Pass
public import proofs.«01_k».proof.Proof.Peak

@[expose] public section

set_option maxRecDepth 16384

noncomputable section

namespace Cert.KernelIdeal.Attn

open Idealize.ShloMosaic Idealize.ShloMosaic.TcCoe
open Cert.KernelIdeal.Gen Cert.Attn

/-! ## The steps at an index -/

theorem scoreVal_apply (kc : Vec Ideal S1x256x64 .bf16) (q : Vec Ideal S1x64x256 .bf16) (x y : Fin 256) :
    scoreVal (F := Ideal) kc q (ix3 (0 : Fin 1) x y)
      = (∑ j : Fin 64, (show EReal from kc (ix3 (0 : Fin 1) x j)) * (show EReal from q (ix3 (0 : Fin 1) j y)) : EReal) := by
  pointwise [scoreVal]

theorem maxVal_apply (s : Vec Ideal S1x256x256 .f32) (mo : Vec Ideal S1x1x256 .f32) (y : Fin 256) :
    maxVal (F := Ideal) s mo (ix2 (0 : Fin 1) y) = max (show EReal from mo (ix3 (0 : Fin 1) (0 : Fin 1) y))
      (Finset.fold max (Ideal.ofBits .f32 0xFF800000#32) (fun x : Fin 256 => (show EReal from s (ix3 (0 : Fin 1) x y))) Finset.univ) := by
  pointwise [maxVal]

theorem maxStored_apply (v : FVec Ideal S1x256 .f32) (y : Fin 256) :
    maxStored (F := Ideal) v (ix3 (0 : Fin 1) (0 : Fin 1) y) = v (ix2 (0 : Fin 1) y) := by
  pointwise [maxStored]

theorem accVal_apply (vt : Vec Ideal S1x1x64x256 .bf16) (s : Vec Ideal S1x256x256 .f32) (mo : Vec Ideal S1x1x256 .f32)
    (ao : Vec Ideal S1x80x256 .f32) (d : Fin 80) (y : Fin 256) :
    accVal (F := Ideal) vt s mo ao (ix3 (0 : Fin 1) d y)
      = Ideal.exp2 ((show EReal from mo (ix3 (0 : Fin 1) (0 : Fin 1) y)) - (show EReal from maxVal (F := Ideal) s mo (ix2 (0 : Fin 1) y)))
          * (show EReal from ao (ix3 (0 : Fin 1) d y))
        + ∑ x : Fin 256, (if h : d.val < 64 then (show EReal from vt (ix4 (0 : Fin 1) (0 : Fin 1) (⟨d.val, h⟩ : Fin 64) x)) else 1)
          * Ideal.exp2 ((show EReal from s (ix3 (0 : Fin 1) x y)) - (show EReal from maxVal (F := Ideal) s mo (ix2 (0 : Fin 1) y))) := by
  pointwise [accVal, ones]
  rfl

theorem quot_apply (u : Vec Ideal S1x64x256 .f32) (e : Vec Ideal S1x1x256 .f32) (d : Fin 64) (y : Fin 256) :
    quot (F := Ideal) u e (ix2 d y) = Ideal.div (u (ix3 (0 : Fin 1) d y)) (e (ix3 (0 : Fin 1) (0 : Fin 1) y)) := by
  pointwise [quot]

/-- The block at a query and a column: the column's head, the column's place in the head. -/
theorem outVal_apply (f : Fin 4 → FVec Ideal S64x256 .f32) (y z : Fin 256) (m : Fin 4) (d : Fin 64) (hz : z.val = 64 * m.val + d.val) :
    outVal (F := Ideal) (f 0) (f 1) (f 2) (f 3) (ix2 y z) = f m (ix2 d y) := by
  have hd := d.isLt
  pointwise [outVal]
  fin_cases m
  · replace hz : z.val = d.val := by simpa using hz
    rw [dif_pos (by omega)]
    exact congrArg (f 0) ((ix2_inj ..).2 ⟨Fin.ext hz, rfl⟩)
  · replace hz : z.val = 64 + d.val := by simpa using hz
    rw [dif_neg (by omega), dif_pos (by omega)]
    exact congrArg (f 1) ((ix2_inj ..).2 ⟨Fin.ext (show z.val - 64 = d.val by omega), rfl⟩)
  · replace hz : z.val = 128 + d.val := by simpa using hz
    rw [dif_neg (by omega), dif_neg (by omega), dif_pos (by omega)]
    exact congrArg (f 2) ((ix2_inj ..).2 ⟨Fin.ext (show z.val - 64 - 64 = d.val by omega), rfl⟩)
  · replace hz : z.val = 192 + d.val := by simpa using hz
    rw [dif_neg (by omega), dif_neg (by omega), dif_neg (by omega)]
    exact congrArg (f 3) ((ix2_inj ..).2 ⟨Fin.ext (show z.val - 64 - 64 - 64 = d.val by omega), rfl⟩)

theorem max0_apply (m : Fin 4) (y : Fin 256) : slabOf (max0 (F := Ideal)) m (ix3 (0 : Fin 1) (0 : Fin 1) y) = (⊥ : EReal) := by
  show max0 (F := Ideal) (ix3 m (0 : Fin 1) y) = (⊥ : EReal)
  pointwise [max0]
  exact ofBits_neg_inf

theorem acc0_apply (m : Fin 4) (d : Fin 80) (y : Fin 256) : slabOf (acc0 (F := Ideal)) m (ix3 (0 : Fin 1) d y) = (0 : EReal) := by
  show acc0 (F := Ideal) (ix3 m d y) = (0 : EReal)
  pointwise [acc0]

theorem kchunk_apply (x4 : Vec Ideal S1x8448x64 .bf16) (n : ℕ) (hn : n ≤ 32) (x : Fin 256) (j : Fin 64) :
    kchunk x4 n (ix3 (0 : Fin 1) x j) = x4 (ix3 (0 : Fin 1) (⟨256 * n + x.val, by have := x.isLt; omega⟩ : Fin 8448) j) := by
  refine congrArg x4 ?_
  have h := min_eq_left hn
  refine (eq_ix3 _).trans ((ix3_inj ..).2 ⟨?_, Fin.ext ?_, Fin.ext ?_⟩)
  · exact Subsingleton.elim (α := Fin 1) _ _
  · show 256 * min n 32 + 1 * x.val = 256 * n + x.val; rw [h]; omega
  · show 0 + 1 * j.val = j.val; omega

theorem vchunk_apply (x5 : Vec Ideal S1x33x64x256 .bf16) (n : ℕ) (hn : n ≤ 32) (d : Fin 64) (x : Fin 256) :
    vchunk x5 n (ix4 (0 : Fin 1) (0 : Fin 1) d x) = x5 (ix4 (0 : Fin 1) (⟨n, by omega⟩ : Fin 33) d x) := by
  refine congrArg x5 ?_
  have h := min_eq_left hn
  refine (eq_ix4 _).trans ((ix4_inj ..).2 ⟨?_, Fin.ext ?_, Fin.ext ?_, Fin.ext ?_⟩)
  · exact Subsingleton.elim (α := Fin 1) _ _
  · show min n 32 + 1 * 0 = n; rw [h]; omega
  · show 0 + 1 * d.val = d.val; omega
  · show 0 + 1 * x.val = x.val; omega

/-! ## Real queries, keys and values -/

section Reals

variable (x3 : Vec Ideal S4x64x256 .bf16) (x4 : Vec Ideal S1x8448x64 .bf16) (x5 : Vec Ideal S1x33x64x256 .bf16)
  (m : Fin 4) (y : Fin 256) (s : ℕ → ℝ)

/-- The scores of head `m` and query `y` are the real numbers `s`. -/
def Scores : Prop := ∀ n, n ≤ 32 → ∀ x : Fin 256, scoreAt x3 x4 n m (ix3 (0 : Fin 1) x y) = (s (256 * n + x.val) : EReal)

variable {x3 x4 m y s} in
theorem Scores.peak (h : Scores x3 x4 m y s) (n : ℕ) (hn : n ≤ 32) (hp : n = 0 ∧ maxAt x3 x4 n m (ix3 (0 : Fin 1) (0 : Fin 1) y) = (⊥ : EReal)
      ∨ ∃ μ : ℝ, maxAt x3 x4 n m (ix3 (0 : Fin 1) (0 : Fin 1) y) = (μ : EReal)) :
    ∃ μ : ℝ, maxVal (scoreAt x3 x4 n m) (maxAt x3 x4 n m) (ix2 (0 : Fin 1) y) = (μ : EReal) := by
  obtain ⟨r, hr⟩ := fold_max_coe (N := 256) (by norm_num) (fun x => (show EReal from scoreAt x3 x4 n m (ix3 (0 : Fin 1) x y)))
    (fun x => s (256 * n + x.val)) (h n hn)
  have e := maxVal_apply (scoreAt x3 x4 n m) (maxAt x3 x4 n m) y
  rw [ofBits_neg_inf, hr] at e
  rcases hp with ⟨-, hp⟩ | ⟨μ, hp⟩
  · exact ⟨r, e.trans (by rw [hp]; exact max_eq_right bot_le)⟩
  · exact ⟨max μ r, e.trans (by rw [hp]; exact (EReal.coe_strictMono.monotone.map_max).symm)⟩

variable {x3 x4 m y s} in
/-- The running maximum is minus infinity before the first chunk and real afterwards. -/
theorem Scores.maxAt (h : Scores x3 x4 m y s) : ∀ n, n ≤ 33 →
    n = 0 ∧ Attn.maxAt x3 x4 n m (ix3 (0 : Fin 1) (0 : Fin 1) y) = (⊥ : EReal)
      ∨ ∃ μ : ℝ, Attn.maxAt x3 x4 n m (ix3 (0 : Fin 1) (0 : Fin 1) y) = (μ : EReal)
  | 0, _ => .inl ⟨rfl, max0_apply m y⟩
  | n + 1, hn => by
    obtain ⟨μ, hμ⟩ := h.peak n (by omega) (h.maxAt n (by omega))
    exact .inr ⟨μ, (maxStored_apply _ y).trans hμ⟩

variable {x3 x4 m y s} in
/-- The accumulator's row `d` after `n` chunks, if row `d` of the values with the ones below is the real numbers `v`. -/
theorem Scores.acc (h : Scores x3 x4 m y s) (d : Fin 80) (v : ℕ → ℝ)
    (hv : ∀ n, n ≤ 32 → ∀ x : Fin 256, (if h : d.val < 64 then (show EReal from vchunk x5 n (ix4 (0 : Fin 1) (0 : Fin 1) (⟨d.val, h⟩ : Fin 64) x)) else 1)
      = (v (256 * n + x.val) : EReal)) :
    ∀ n, n ≤ 33 → (n = 0 ∧ accAt x3 x4 x5 n m (ix3 (0 : Fin 1) d y) = (0 : EReal))
      ∨ ∀ μ : ℝ, Attn.maxAt x3 x4 n m (ix3 (0 : Fin 1) (0 : Fin 1) y) = (μ : EReal) →
        accAt x3 x4 x5 n m (ix3 (0 : Fin 1) d y) = ((Real.exp (-(Real.log 2 * μ)) * wsum (fun k => Real.log 2 * s k) v (256 * n) : ℝ) : EReal)
  | 0, _ => .inl ⟨rfl, acc0_apply m d y⟩
  | n + 1, hn => by
    refine .inr fun μ hμ => ?_
    have hμ' : maxVal (scoreAt x3 x4 n m) (Attn.maxAt x3 x4 n m) (ix2 (0 : Fin 1) y) = (μ : EReal) := (maxStored_apply _ y).symm.trans hμ
    refine (accVal_apply (vchunk x5 n) (scoreAt x3 x4 n m) (Attn.maxAt x3 x4 n m) (accAt x3 x4 x5 n m) d y).trans ?_
    rw [hμ']
    rcases h.maxAt n (by omega) with ⟨h0, hb⟩ | ⟨μ₀, hm⟩
    · subst h0
      rw [hb, show (show EReal from accAt x3 x4 x5 0 m (ix3 (0 : Fin 1) d y)) = (0 : EReal) from acc0_apply m d y]
      refine (chunk_first s v μ _ _ (fun x => ?_) (fun x => ?_)).trans ?_
      · rw [h 0 (by omega) x]; simp
      · rw [hv 0 (by omega) x]; simp
      · rfl
    · have ha := h.acc d v hv n (by omega)
      rcases ha with ⟨h0, -⟩ | ha
      · subst h0
        exact absurd ((max0_apply m y).symm.trans hm) (EReal.bot_lt_coe μ₀).ne
      · rw [hm, ha μ₀ hm]
        refine (chunk_next s v (256 * n) μ₀ μ _ _ (fun x => h n (by omega) x) (fun x => hv n (by omega) x)).trans ?_
        rw [Nat.mul_succ]

/-- A head's result after at least one chunk is the attention over the chunks' keys. -/
theorem headOut_apply (h : Scores x3 x4 m y s) (d : Fin 64) (v : ℕ → ℝ)
    (hv : ∀ n, n ≤ 32 → ∀ x : Fin 256, vchunk x5 n (ix4 (0 : Fin 1) (0 : Fin 1) d x) = (v (256 * n + x.val) : EReal)) (n : ℕ) (hn : n ≤ 32) :
    headOut x3 x4 x5 (n + 1) m (ix2 d y) = ((attend (fun k => Real.log 2 * s k) v (256 * (n + 1)) : ℝ) : EReal) := by
  have hd := d.isLt
  rcases h.maxAt (n + 1) (by omega) with ⟨h0, -⟩ | ⟨μ, hμ⟩
  · exact absurd h0 (Nat.succ_ne_zero n)
  have ht := Scores.acc x5 h (⟨d.val, by omega⟩ : Fin 80) v (fun n hn x => by rw [dif_pos hd]; exact hv n hn x) (n + 1) (by omega)
  have hd1 := Scores.acc x5 h (64 : Fin 80) (fun _ => 1) (fun n hn x => by rw [dif_neg (by decide)]; rfl) (n + 1) (by omega)
  rcases ht with ⟨h0, -⟩ | ht
  · exact absurd h0 (Nat.succ_ne_zero n)
  rcases hd1 with ⟨h0, -⟩ | hd1
  · exact absurd h0 (Nat.succ_ne_zero n)
  refine (quot_apply _ _ d y).trans ?_
  have e1 : top (accAt x3 x4 x5 (n + 1) m) (ix3 (0 : Fin 1) d y) = _ := ht μ hμ
  have e2 : den (accAt x3 x4 x5 (n + 1) m) (ix3 (0 : Fin 1) (0 : Fin 1) y) = _ := hd1 μ hμ
  rw [e1, e2]
  exact chunk_end _ _ (by omega) _

end Reals

/-- The scores, from the real queries and keys. -/
theorem scores_of (x3 : Vec Ideal S4x64x256 .bf16) (x4 : Vec Ideal S1x8448x64 .bf16) (m : Fin 4) (y : Fin 256)
    (Q : Fin 64 → ℝ) (K : ℕ → Fin 64 → ℝ) (hq : ∀ j, x3 (ix3 m j y) = (Q j : EReal))
    (hk : ∀ (k : Fin 8448) (j : Fin 64), x4 (ix3 (0 : Fin 1) k j) = (K k.val j : EReal)) :
    Scores x3 x4 m y fun k => ∑ j, K k j * Q j := fun n hn x => by
  refine (scoreVal_apply (kchunk x4 n) (slabOf x3 m) x y).trans ?_
  rw [coe_sum]
  refine Finset.sum_congr rfl fun j _ => ?_
  have e1 : slabOf x3 m (ix3 (0 : Fin 1) j y) = (Q j : EReal) := hq j
  have e2 : kchunk x4 n (ix3 (0 : Fin 1) x j) = (K (256 * n + x.val) j : EReal) := (kchunk_apply x4 n hn x j).trans (hk _ j)
  rw [e1, e2, EReal.coe_mul]

/-- The block of the result after `n + 1` chunks, at a query and a column of head `m`. -/
theorem blockOut_apply (x3 : Vec Ideal S4x64x256 .bf16) (x4 : Vec Ideal S1x8448x64 .bf16) (x5 : Vec Ideal S1x33x64x256 .bf16)
    (y z : Fin 256) (m : Fin 4) (d : Fin 64) (hz : z.val = 64 * m.val + d.val)
    (Q : Fin 64 → ℝ) (K : ℕ → Fin 64 → ℝ) (v : ℕ → ℝ) (hq : ∀ j, x3 (ix3 m j y) = (Q j : EReal))
    (hk : ∀ (k : Fin 8448) (j : Fin 64), x4 (ix3 (0 : Fin 1) k j) = (K k.val j : EReal))
    (hv : ∀ (n : Fin 33) (x : Fin 256), x5 (ix4 (0 : Fin 1) n d x) = (v (256 * n.val + x.val) : EReal)) (n : ℕ) (hn : n ≤ 32) :
    blockOut x3 x4 x5 (n + 1) (ix2 y z)
      = ((attend (fun k => Real.log 2 * ∑ j, K k j * Q j) v (256 * (n + 1)) : ℝ) : EReal) :=
  (outVal_apply (fun m => headOut x3 x4 x5 (n + 1) m) y z m d hz).trans
    (headOut_apply x3 x4 x5 m y _ (scores_of x3 x4 m y Q K hq hk) d v (fun n hn x => (vchunk_apply x5 n hn d x).trans (hv ⟨n, by omega⟩ x)) n hn)

end Cert.KernelIdeal.Attn

end
-- ==== Proof.Blocks.lean ====
/- # The blocks of a point

Each block a point is given, read at an index, as an element of the arguments. -/
module

public import proofs.«01_k».proof.Proof.Run
public import proofs.«01_k».proof.Proof.Chunk
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal.Gen Cert.Attn

variable (m : (ℓ : Loc nD τ sig) → Buf (Elt Ideal) ℓ)

/-- The windows' blocks at every point: batch `t / 66`, group `t / 33 % 2`, tile `t % 33`. -/
theorem idx : ∀ t : Fin cfg0.N, win0_0.index t = ![t.val / 33 % 2, 0, t.val / 66 * 33 + t.val % 33]
    ∧ win0_1.index t = ![t.val / 33 % 2, t.val / 66, 0] ∧ win0_2.index t = ![t.val / 66, 0, t.val / 33 % 2, 0]
    ∧ win0_3.index t = ![t.val / 66 * 33 + t.val % 33, t.val / 33 % 2] :=
  (by decide +kernel : ∀ t : Fin grid0.N, _)

theorem last_chunk : ∀ t : Fin cfg0.N, lastChunk (grid0.coords t) = if t.val % 33 = 0 then 0 else 32 :=
  (by decide +kernel : ∀ t : Fin grid0.N, _)

theorem lt_N (t : Fin cfg0.N) : t.val < 264 := t.isLt

/-- The queries' scale, as the program computes it. -/
def scale : EReal := Ideal.div (Ideal.ofBits .f32 0x3E000000#32) (Ideal.log (Ideal.ofBits .f32 0x40000000#32))

theorem query_block (c : Dev nD) (t : Fin cfg0.N) (h : Fin 4) (j : Fin 64) (y : Fin 256) :
    (show EReal from iblk m c 0 t (ix3 h j y))
      = (show EReal from (m ((c.tc : Thread nD τ).loc main_arg0)) (ix3 (⟨t.val / 66, by have := lt_N t; omega⟩ : Fin 4)
          (⟨t.val % 33 * 256 + y.val, by have := y.isLt; omega⟩ : Fin 8448)
          (⟨(t.val / 33 % 2 * 4 + h.val) * 64 + j.val, by have := h.isLt; have := j.isLt; omega⟩ : Fin 1024))) * scale := by
  have ht := lt_N t
  have hy := y.isLt
  blk_simp [iblk, idx t]
  entry_read
  pointwise
  refine congrArg (· * scale) ?_
  blk_ext [idx t]

theorem key_block (c : Dev nD) (t : Fin cfg0.N) (k : Fin 8448) (j : Fin 64) :
    (show EReal from iblk m c 1 t (ix3 (0 : Fin 1) k j))
      = (show EReal from (m ((c.tc : Thread nD τ).loc main_arg1)) (ix4 (⟨t.val / 66, by have := lt_N t; omega⟩ : Fin 4) k
          (⟨t.val / 33 % 2, by omega⟩ : Fin 2) j)) := by
  have ht := lt_N t
  have hk := k.isLt
  blk_simp [iblk, idx t]
  entry_read
  pointwise
  blk_ext [idx t]

theorem value_block (c : Dev nD) (t : Fin cfg0.N) (n : Fin 33) (d : Fin 64) (y : Fin 256) :
    (show EReal from iblk m c 2 t (ix4 (0 : Fin 1) n d y))
      = (show EReal from (m ((c.tc : Thread nD τ).loc main_arg2)) (ix4 (⟨t.val / 66, by have := lt_N t; omega⟩ : Fin 4)
          (⟨256 * n.val + y.val, by have := y.isLt; have := n.isLt; omega⟩ : Fin 8448) (⟨t.val / 33 % 2, by omega⟩ : Fin 2) d)) := by
  have ht := lt_N t
  have hn := n.isLt
  have hy := y.isLt
  have hd := d.isLt
  blk_simp [iblk, idx t]
  entry_read
  pointwise
  blk_ext [idx t]

end Cert.KernelIdeal.Attn

end
-- ==== Proof.RefCtx.lean ====
/- # The reference's first branch

The context's queries over the context's keys, cut into the stages of a softmax attention, each read at an index. -/
module

public import proofs.«01_k».proof.Proof.Gen.ReferenceIdeal
public import proofs.«01_k».proof.Proof.Peak
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Attn

/-! ## The context's queries over the context's keys -/

/-- The scores, scaled. -/
def scoreCtx (q : FVec Ideal S4x8448x1024 .f32) (k : FVec Ideal S4x8448x2x64 .f32) : FVec Ideal S4x2x4x256x256 .f32 :=
  mulf (transpose S4x2x4x256x256 [0, 1, 4, 3, 2] (Host.dotGeneral dot_S4x256x2x64_S4x256x2x4x64_S4x2x256x256x4_3_4_1_13_02_02 none (extractStridedSlice S4x256x2x64 ![0, 0, 0, 0] k slices_S4x8448x2x64_S4x256x2x64_0_0_0_0)
    (shapeCast _ (extractStridedSlice S4x256x512 ![0, 0, 0] (extractStridedSlice S4x8448x512 ![0, 0, 0] q slices_S4x8448x1024_S4x8448x512_0_0_0) slices_S4x8448x512_S4x256x512_0_0_0) shapeCasts_S4x256x512_S4x256x2x4x64)) transposes_S4x2x256x256x4_S4x2x4x256x256_0_1_4_3_2)
    (broadcastInDim S4x2x4x256x256 ![] bcast_S_S4x2x4x256x256 (constant S_ .f32 0x3E000000#32))

/-- The greatest score of each query. -/
def peakCtx (s : FVec Ideal S4x2x4x256x256 .f32) : FVec Ideal S4x2x4x256 .f32 :=
  maximumf (broadcastInDim S4x2x4x256 ![] bcast_S_S4x2x4x256 (constant S_ .f32 0xFF800000#32))
    (Host.reduce FloatOps.maximumf s (constant S_ .f32 0xFF800000#32) reducesTo_S4x2x4x256x256_S4x2x4x256_d4 h_S_)

/-- The exponentials of the scores, the greatest taken off. -/
def expoCtx (s : FVec Ideal S4x2x4x256x256 .f32) (r : FVec Ideal S4x2x4x256 .f32) : FVec Ideal S4x2x4x256x256 .f32 :=
  Host.exp (subf s (broadcastInDim S4x2x4x256x256 ![0, 1, 2, 3, 4] bcast_S4x2x4x256x1_S4x2x4x256x256_0_1_2_3_4 (broadcastInDim S4x2x4x256x1 ![0, 1, 2, 3] bcast_S4x2x4x256_S4x2x4x256x1_0_1_2_3 (r))))

/-- The sum of each query's exponentials. -/
def totalCtx (e : FVec Ideal S4x2x4x256x256 .f32) : FVec Ideal S4x2x4x256 .f32 :=
  Host.reduceAdd e (constant S_ .f32 0x00000000#32) reducesTo_S4x2x4x256x256_S4x2x4x256_d4 h_S_

/-- The weights: each exponential over its query's sum. -/
def weightCtx (e : FVec Ideal S4x2x4x256x256 .f32) (z : FVec Ideal S4x2x4x256 .f32) : FVec Ideal S4x2x4x256x256 .f32 :=
  Host.divf e (broadcastInDim S4x2x4x256x256 ![0, 1, 2, 3, 4] bcast_S4x2x4x256x1_S4x2x4x256x256_0_1_2_3_4 (broadcastInDim S4x2x4x256x1 ![0, 1, 2, 3] bcast_S4x2x4x256_S4x2x4x256x1_0_1_2_3 (z)))

/-- The weighted values. -/
def mixedCtx (v : FVec Ideal S4x8448x2x64 .f32) (p : FVec Ideal S4x2x4x256x256 .f32) : FVec Ideal S4x2x64x4x256 .f32 :=
  Host.dotGeneral dot_S4x256x2x64_S4x2x4x256x256_S4x2x64x4x256_1_4_3_23_02_01 none (extractStridedSlice S4x256x2x64 ![0, 0, 0, 0] v slices_S4x8448x2x64_S4x256x2x64_0_0_0_0) p

/-- The weighted values, a row per query. -/
def rowsCtx (o : FVec Ideal S4x2x64x4x256 .f32) : FVec Ideal S4x256x512 .f32 :=
  shapeCast _ (transpose S4x256x2x4x64 [0, 4, 1, 3, 2] o transposes_S4x2x64x4x256_S4x256x2x4x64_0_4_1_3_2) shapeCasts_S4x256x2x4x64_S4x256x512

theorem scoreCtx_apply (q : FVec Ideal S4x8448x1024 .f32) (k : FVec Ideal S4x8448x2x64 .f32) (b : Fin 4) (g : Fin 2) (h : Fin 4) (i : Fin 256) (x : Fin 256) :
    scoreCtx q k (ix5 b g h i x)
      = (∑ j : Fin 64, (show EReal from k (ix4 b (⟨x.val, lt_trans x.isLt (by decide)⟩ : Fin 8448) g j))
          * (show EReal from q (ix3 b (⟨i.val, lt_trans i.isLt (by decide)⟩ : Fin 8448) (⟨g.val * 256 + h.val * 64 + j.val, by have := g.isLt; have := h.isLt; have := j.isLt; omega⟩ : Fin 1024))) : EReal)
        * Ideal.ofBits .f32 0x3E000000#32 := by
  pointwise [scoreCtx]

theorem peakCtx_real (s : FVec Ideal S4x2x4x256x256 .f32) (b : Fin 4) (g : Fin 2) (h : Fin 4) (i : Fin 256) (t : Fin 256 → ℝ)
    (hs : ∀ x : Fin 256, s (ix5 b g h i x) = (t x : EReal)) : ∃ r : ℝ, peakCtx s (ix4 b g h i) = (r : EReal) := by
  obtain ⟨r, hr⟩ := reduceMax_real reducesTo_S4x2x4x256x256_S4x2x4x256_d4 h_S_ s (constant S_ .f32 0xFF800000#32) b g h i (by norm_num) t (fun _ => ofBits_neg_inf) hs
  refine ⟨r, ?_⟩
  unfold peakCtx
  have hb : (broadcastInDim S4x2x4x256 ![] bcast_S_S4x2x4x256 (constant (F := Ideal) S_ .f32 0xFF800000#32) (ix4 b g h i)) = (⊥ : EReal) := ofBits_neg_inf
  rw [maximumf_apply, hr, hb]
  exact max_eq_right bot_le

theorem expoCtx_apply (s : FVec Ideal S4x2x4x256x256 .f32) (r : FVec Ideal S4x2x4x256 .f32) (b : Fin 4) (g : Fin 2) (h : Fin 4) (i : Fin 256) (x : Fin 256) :
    expoCtx s r (ix5 b g h i x) = Ideal.exp ((show EReal from s (ix5 b g h i x)) - (show EReal from r (ix4 b g h i))) := by
  pointwise [expoCtx]

theorem totalCtx_apply (e : FVec Ideal S4x2x4x256x256 .f32) (b : Fin 4) (g : Fin 2) (h : Fin 4) (i : Fin 256) :
    totalCtx e (ix4 b g h i) = (∑ x : Fin 256, (show EReal from e (ix5 b g h i x)) : EReal) := by
  pointwise [totalCtx]

theorem weightCtx_apply (e : FVec Ideal S4x2x4x256x256 .f32) (z : FVec Ideal S4x2x4x256 .f32) (b : Fin 4) (g : Fin 2) (h : Fin 4) (i : Fin 256) (x : Fin 256) :
    weightCtx e z (ix5 b g h i x) = Ideal.div (e (ix5 b g h i x)) (z (ix4 b g h i)) := by
  pointwise [weightCtx]

theorem mixedCtx_apply (v : FVec Ideal S4x8448x2x64 .f32) (p : FVec Ideal S4x2x4x256x256 .f32) (b : Fin 4) (g : Fin 2) (d : Fin 64) (h : Fin 4) (i : Fin 256) :
    mixedCtx v p (ix5 b g d h i) = (∑ x : Fin 256, (show EReal from v (ix4 b (⟨x.val, lt_trans x.isLt (by decide)⟩ : Fin 8448) g d)) * (show EReal from p (ix5 b g h i x)) : EReal) := by
  pointwise [mixedCtx]

theorem rowsCtx_apply (o : FVec Ideal S4x2x64x4x256 .f32) (b : Fin 4) (i : Fin 256) (z : Fin 512) :
    rowsCtx o (ix3 b i z) = o (ix5 b (⟨z.val / 256, by have := z.isLt; omega⟩ : Fin 2) (⟨z.val % 64, by omega⟩ : Fin 64) (⟨z.val / 64 % 4, by omega⟩ : Fin 4) i) := by
  pointwise [rowsCtx]

/-- The branch's result. -/
def outCtx (q : FVec Ideal S4x8448x1024 .f32) (k v : FVec Ideal S4x8448x2x64 .f32) : FVec Ideal S4x256x512 .f32 :=
  rowsCtx (mixedCtx v (weightCtx (expoCtx (scoreCtx q k) (peakCtx (scoreCtx q k))) (totalCtx (expoCtx (scoreCtx q k) (peakCtx (scoreCtx q k))))))

/-- Where the scores and the values are real, the branch's result is the attention. -/
theorem outCtx_apply (q : FVec Ideal S4x8448x1024 .f32) (k v : FVec Ideal S4x8448x2x64 .f32) (b : Fin 4) (i : Fin 256) (z : Fin 512)
    (g : Fin 2) (h : Fin 4) (d : Fin 64) (hg : g.val = z.val / 256) (hh : h.val = z.val / 64 % 4) (hd : d.val = z.val % 64)
    (t u : ℕ → ℝ) (ht : ∀ x : Fin 256, scoreCtx q k (ix5 b g h i x) = (t x.val : EReal))
    (hu : ∀ x : Fin 256, v (ix4 b (⟨x.val, lt_trans x.isLt (by decide)⟩ : Fin 8448) g d) = (u x.val : EReal)) :
    outCtx q k v (ix3 b i z) = ((attend t u 256 : ℝ) : EReal) := by
  obtain ⟨r, hr⟩ := peakCtx_real (scoreCtx q k) b g h i (fun x => t x.val) ht
  unfold outCtx
  rw [rowsCtx_apply]
  have e1 : (⟨z.val / 256, by have := z.isLt; omega⟩ : Fin 2) = g := Fin.ext hg.symm
  have e2 : (⟨z.val % 64, by omega⟩ : Fin 64) = d := Fin.ext hd.symm
  have e3 : (⟨z.val / 64 % 4, by omega⟩ : Fin 4) = h := Fin.ext hh.symm
  rw [e1, e2, e3, mixedCtx_apply]
  refine Eq.trans ?_ (plain (N := 256) (by norm_num) t u r (fun x => scoreCtx q k (ix5 b g h i x)) (fun x => v (ix4 b (⟨x.val, lt_trans x.isLt (by decide)⟩ : Fin 8448) g d)) ht hu)
  refine Finset.sum_congr rfl fun x _ => congrArg (HMul.hMul _) ?_
  rw [weightCtx_apply, totalCtx_apply]
  simp only [expoCtx_apply, hr]

end Cert.ReferenceIdeal.Attn

end
-- ==== Proof.RefLat.lean ====
/- # The reference's second branch

The latents' queries over all keys, cut into the stages of a softmax attention, each read at an index. -/
module

public import proofs.«01_k».proof.Proof.Gen.ReferenceIdeal
public import proofs.«01_k».proof.Proof.Peak
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Attn

/-! ## The latents' queries over all keys -/

/-- The scores, scaled. -/
def scoreLat (q : FVec Ideal S4x8448x1024 .f32) (k : FVec Ideal S4x8448x2x64 .f32) : FVec Ideal S4x2x4x8192x8448 .f32 :=
  mulf (transpose S4x2x4x8192x8448 [0, 1, 4, 3, 2] (Host.dotGeneral dot_S4x8448x2x64_S4x8192x2x4x64_S4x2x8448x8192x4_3_4_1_13_02_02 none k
    (shapeCast _ (extractStridedSlice S4x8192x512 ![0, 256, 0] (extractStridedSlice S4x8448x512 ![0, 0, 0] q slices_S4x8448x1024_S4x8448x512_0_0_0) slices_S4x8448x512_S4x8192x512_0_256_0) shapeCasts_S4x8192x512_S4x8192x2x4x64)) transposes_S4x2x8448x8192x4_S4x2x4x8192x8448_0_1_4_3_2)
    (broadcastInDim S4x2x4x8192x8448 ![] bcast_S_S4x2x4x8192x8448 (constant S_ .f32 0x3E000000#32))

/-- The greatest score of each query. -/
def peakLat (s : FVec Ideal S4x2x4x8192x8448 .f32) : FVec Ideal S4x2x4x8192 .f32 :=
  maximumf (broadcastInDim S4x2x4x8192 ![] bcast_S_S4x2x4x8192 (constant S_ .f32 0xFF800000#32))
    (Host.reduce FloatOps.maximumf s (constant S_ .f32 0xFF800000#32) reducesTo_S4x2x4x8192x8448_S4x2x4x8192_d4 h_S_)

/-- The exponentials of the scores, the greatest taken off. -/
def expoLat (s : FVec Ideal S4x2x4x8192x8448 .f32) (r : FVec Ideal S4x2x4x8192 .f32) : FVec Ideal S4x2x4x8192x8448 .f32 :=
  Host.exp (subf s (broadcastInDim S4x2x4x8192x8448 ![0, 1, 2, 3, 4] bcast_S4x2x4x8192x1_S4x2x4x8192x8448_0_1_2_3_4 (broadcastInDim S4x2x4x8192x1 ![0, 1, 2, 3] bcast_S4x2x4x8192_S4x2x4x8192x1_0_1_2_3 (r))))

/-- The sum of each query's exponentials. -/
def totalLat (e : FVec Ideal S4x2x4x8192x8448 .f32) : FVec Ideal S4x2x4x8192 .f32 :=
  Host.reduceAdd e (constant S_ .f32 0x00000000#32) reducesTo_S4x2x4x8192x8448_S4x2x4x8192_d4 h_S_

/-- The weights: each exponential over its query's sum. -/
def weightLat (e : FVec Ideal S4x2x4x8192x8448 .f32) (z : FVec Ideal S4x2x4x8192 .f32) : FVec Ideal S4x2x4x8192x8448 .f32 :=
  Host.divf e (broadcastInDim S4x2x4x8192x8448 ![0, 1, 2, 3, 4] bcast_S4x2x4x8192x1_S4x2x4x8192x8448_0_1_2_3_4 (broadcastInDim S4x2x4x8192x1 ![0, 1, 2, 3] bcast_S4x2x4x8192_S4x2x4x8192x1_0_1_2_3 (z)))

/-- The weighted values. -/
def mixedLat (v : FVec Ideal S4x8448x2x64 .f32) (p : FVec Ideal S4x2x4x8192x8448 .f32) : FVec Ideal S4x2x64x4x8192 .f32 :=
  Host.dotGeneral dot_S4x8448x2x64_S4x2x4x8192x8448_S4x2x64x4x8192_1_4_3_23_02_01 none v p

/-- The weighted values, a row per query. -/
def rowsLat (o : FVec Ideal S4x2x64x4x8192 .f32) : FVec Ideal S4x8192x512 .f32 :=
  shapeCast _ (transpose S4x8192x2x4x64 [0, 4, 1, 3, 2] o transposes_S4x2x64x4x8192_S4x8192x2x4x64_0_4_1_3_2) shapeCasts_S4x8192x2x4x64_S4x8192x512

theorem scoreLat_apply (q : FVec Ideal S4x8448x1024 .f32) (k : FVec Ideal S4x8448x2x64 .f32) (b : Fin 4) (g : Fin 2) (h : Fin 4) (i : Fin 8192) (x : Fin 8448) :
    scoreLat q k (ix5 b g h i x)
      = (∑ j : Fin 64, (show EReal from k (ix4 b (x : Fin 8448) g j))
          * (show EReal from q (ix3 b (⟨256 + i.val, by have := i.isLt; omega⟩ : Fin 8448) (⟨g.val * 256 + h.val * 64 + j.val, by have := g.isLt; have := h.isLt; have := j.isLt; omega⟩ : Fin 1024))) : EReal)
        * Ideal.ofBits .f32 0x3E000000#32 := by
  pointwise [scoreLat]

theorem peakLat_real (s : FVec Ideal S4x2x4x8192x8448 .f32) (b : Fin 4) (g : Fin 2) (h : Fin 4) (i : Fin 8192) (t : Fin 8448 → ℝ)
    (hs : ∀ x : Fin 8448, s (ix5 b g h i x) = (t x : EReal)) : ∃ r : ℝ, peakLat s (ix4 b g h i) = (r : EReal) := by
  obtain ⟨r, hr⟩ := reduceMax_real reducesTo_S4x2x4x8192x8448_S4x2x4x8192_d4 h_S_ s (constant S_ .f32 0xFF800000#32) b g h i (by norm_num) t (fun _ => ofBits_neg_inf) hs
  refine ⟨r, ?_⟩
  unfold peakLat
  have hb : (broadcastInDim S4x2x4x8192 ![] bcast_S_S4x2x4x8192 (constant (F := Ideal) S_ .f32 0xFF800000#32) (ix4 b g h i)) = (⊥ : EReal) := ofBits_neg_inf
  rw [maximumf_apply, hr, hb]
  exact max_eq_right bot_le

theorem expoLat_apply (s : FVec Ideal S4x2x4x8192x8448 .f32) (r : FVec Ideal S4x2x4x8192 .f32) (b : Fin 4) (g : Fin 2) (h : Fin 4) (i : Fin 8192) (x : Fin 8448) :
    expoLat s r (ix5 b g h i x) = Ideal.exp ((show EReal from s (ix5 b g h i x)) - (show EReal from r (ix4 b g h i))) := by
  pointwise [expoLat]

theorem totalLat_apply (e : FVec Ideal S4x2x4x8192x8448 .f32) (b : Fin 4) (g : Fin 2) (h : Fin 4) (i : Fin 8192) :
    totalLat e (ix4 b g h i) = (∑ x : Fin 8448, (show EReal from e (ix5 b g h i x)) : EReal) := by
  pointwise [totalLat]

theorem weightLat_apply (e : FVec Ideal S4x2x4x8192x8448 .f32) (z : FVec Ideal S4x2x4x8192 .f32) (b : Fin 4) (g : Fin 2) (h : Fin 4) (i : Fin 8192) (x : Fin 8448) :
    weightLat e z (ix5 b g h i x) = Ideal.div (e (ix5 b g h i x)) (z (ix4 b g h i)) := by
  pointwise [weightLat]

theorem mixedLat_apply (v : FVec Ideal S4x8448x2x64 .f32) (p : FVec Ideal S4x2x4x8192x8448 .f32) (b : Fin 4) (g : Fin 2) (d : Fin 64) (h : Fin 4) (i : Fin 8192) :
    mixedLat v p (ix5 b g d h i) = (∑ x : Fin 8448, (show EReal from v (ix4 b (x : Fin 8448) g d)) * (show EReal from p (ix5 b g h i x)) : EReal) := by
  pointwise [mixedLat]

theorem rowsLat_apply (o : FVec Ideal S4x2x64x4x8192 .f32) (b : Fin 4) (i : Fin 8192) (z : Fin 512) :
    rowsLat o (ix3 b i z) = o (ix5 b (⟨z.val / 256, by have := z.isLt; omega⟩ : Fin 2) (⟨z.val % 64, by omega⟩ : Fin 64) (⟨z.val / 64 % 4, by omega⟩ : Fin 4) i) := by
  pointwise [rowsLat]

/-- The branch's result. -/
def outLat (q : FVec Ideal S4x8448x1024 .f32) (k v : FVec Ideal S4x8448x2x64 .f32) : FVec Ideal S4x8192x512 .f32 :=
  rowsLat (mixedLat v (weightLat (expoLat (scoreLat q k) (peakLat (scoreLat q k))) (totalLat (expoLat (scoreLat q k) (peakLat (scoreLat q k))))))

/-- Where the scores and the values are real, the branch's result is the attention. -/
theorem outLat_apply (q : FVec Ideal S4x8448x1024 .f32) (k v : FVec Ideal S4x8448x2x64 .f32) (b : Fin 4) (i : Fin 8192) (z : Fin 512)
    (g : Fin 2) (h : Fin 4) (d : Fin 64) (hg : g.val = z.val / 256) (hh : h.val = z.val / 64 % 4) (hd : d.val = z.val % 64)
    (t u : ℕ → ℝ) (ht : ∀ x : Fin 8448, scoreLat q k (ix5 b g h i x) = (t x.val : EReal))
    (hu : ∀ x : Fin 8448, v (ix4 b (x : Fin 8448) g d) = (u x.val : EReal)) :
    outLat q k v (ix3 b i z) = ((attend t u 8448 : ℝ) : EReal) := by
  obtain ⟨r, hr⟩ := peakLat_real (scoreLat q k) b g h i (fun x => t x.val) ht
  unfold outLat
  rw [rowsLat_apply]
  have e1 : (⟨z.val / 256, by have := z.isLt; omega⟩ : Fin 2) = g := Fin.ext hg.symm
  have e2 : (⟨z.val % 64, by omega⟩ : Fin 64) = d := Fin.ext hd.symm
  have e3 : (⟨z.val / 64 % 4, by omega⟩ : Fin 4) = h := Fin.ext hh.symm
  rw [e1, e2, e3, mixedLat_apply]
  refine Eq.trans ?_ (plain (N := 8448) (by norm_num) t u r (fun x => scoreLat q k (ix5 b g h i x)) (fun x => v (ix4 b (x : Fin 8448) g d)) ht hu)
  refine Finset.sum_congr rfl fun x _ => congrArg (HMul.hMul _) ?_
  rw [weightLat_apply, totalLat_apply]
  simp only [expoLat_apply, hr]

end Cert.ReferenceIdeal.Attn

end
-- ==== Proof.RefWhole.lean ====
/- # The reference's result

The two branches one after the other, a row per token. -/
module

public import proofs.«01_k».proof.Proof.Gen.ReferenceIdeal
public import proofs.«01_k».proof.Proof.RefCtx
public import proofs.«01_k».proof.Proof.RefLat
public import proofs.«01_k».proof.Proof.Gen.ReferenceIdeal.Run
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value Cert.Attn

/-! ## The whole -/

/-- The two branches one after the other, a row per token. -/
def joined (x : FVec Ideal S4x256x512 .f32) (y : FVec Ideal S4x8192x512 .f32) : FVec Ideal S33792x512 .bf16 :=
  truncf .bf16 (shapeCast _ (concatenate S4x8448x512 1 [⟨S4x256x512, x⟩, ⟨S4x8192x512, y⟩] concatenates_S4x256x512_S4x8192x512_S4x8448x512_d1)
    shapeCasts_S4x8448x512_S33792x512) bitsLt_bf16_f32

theorem joined_apply (x : FVec Ideal S4x256x512 .f32) (y : FVec Ideal S4x8192x512 .f32) (a : Fin 33792) (z : Fin 512) :
    joined x y (ix2 a z) = if h : a.val % 8448 < 256 then x (ix3 (⟨a.val / 8448, by have := a.isLt; omega⟩ : Fin 4) (⟨a.val % 8448, h⟩ : Fin 256) z)
      else y (ix3 (⟨a.val / 8448, by have := a.isLt; omega⟩ : Fin 4) (⟨a.val % 8448 - 256, by omega⟩ : Fin 8192) z) := by
  pointwise [joined]

/-- The reference's result. -/
theorem res_eq (m : (ℓ : Loc nD τ sig) → Buf (Elt Ideal) ℓ) (c : Dev nD) : res_main_v45 m c
    = joined (outCtx (m ((c.tc : Thread nD τ).loc main_arg0)) (m ((c.tc : Thread nD τ).loc main_arg1)) (m ((c.tc : Thread nD τ).loc main_arg2)))
        (outLat (m ((c.tc : Thread nD τ).loc main_arg0)) (m ((c.tc : Thread nD τ).loc main_arg1)) (m ((c.tc : Thread nD τ).loc main_arg2))) := rfl

end Cert.ReferenceIdeal.Attn

end
-- ==== Proof.Value.lean ====
/- # The kernel's result is the reference's

Where every element of the arguments is real, each block of the kernel's result is the reference's result there: both are the
attention over the same keys, the kernel's scores in base 2 with the queries scaled by an eighth over the logarithm of 2. -/
module

public import proofs.«01_k».proof.Proof.Blocks
public import proofs.«01_k».proof.Proof.RefWhole

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal.Gen Cert.Attn
open Cert.ReferenceIdeal.Attn (joined joined_apply outCtx outLat outCtx_apply outLat_apply scoreCtx scoreLat scoreCtx_apply scoreLat_apply)

theorem scale_real : scale = ((1 / 8 / Real.log 2 : ℝ) : EReal) := by
  have h2 : (0 : ℝ) < 2 := by norm_num
  have hl : Real.log 2 ≠ 0 := (Real.log_pos (by norm_num)).ne'
  unfold scale
  rw [ofBits_eighth, ofBits_two]
  rw [show Ideal.log (((2 : ℝ) : EReal)) = ((Real.log 2 : ℝ) : EReal) from by
    show (if (2 : ℝ) ≤ 0 then (⊥ : EReal) else ((Real.log 2 : ℝ) : EReal)) = _
    rw [if_neg (by norm_num)]]
  exact div_coe_coe _ hl

section Data

variable (a0 : FVec Ideal S4x8448x1024 .f32) (a1 a2 : FVec Ideal S4x8448x2x64 .f32)

/-- The real query of head `h` of group `g` at token `i` of batch `b`. -/
def queryR (b : Fin 4) (i : Fin 8448) (g : Fin 2) (h : Fin 4) (j : Fin 64) : ℝ :=
  (show EReal from a0 (ix3 b i (⟨(g.val * 4 + h.val) * 64 + j.val, by have := g.isLt; have := h.isLt; have := j.isLt; omega⟩ : Fin 1024))).toReal

/-- The real key (or value) of group `g` at token `k` of batch `b`. -/
def keyR (b : Fin 4) (g : Fin 2) (k : ℕ) (j : Fin 64) : ℝ :=
  (show EReal from a1 (ix4 b (⟨k % 8448, Nat.mod_lt _ (by norm_num)⟩ : Fin 8448) g j)).toReal

/-- The reference's score. -/
def scoreR (b : Fin 4) (i : Fin 8448) (g : Fin 2) (h : Fin 4) (k : ℕ) : ℝ :=
  (∑ j, keyR a1 b g k j * queryR a0 b i g h j) * (1 / 8)

theorem keyR_eq (h1 : ∀ i, a1 i = ((show EReal from a1 i).toReal : EReal)) (b : Fin 4) (k : Fin 8448) (g : Fin 2) (j : Fin 64) :
    a1 (ix4 b k g j) = (keyR a1 b g k.val j : EReal) := by
  refine (h1 _).trans ?_
  unfold keyR
  rw [show (⟨k.val % 8448, Nat.mod_lt _ (by norm_num)⟩ : Fin 8448) = k from Fin.ext (Nat.mod_eq_of_lt k.isLt)]

/-- The kernel's score in base 2, times the logarithm of 2, is the reference's. -/
theorem score_scaled (b : Fin 4) (i : Fin 8448) (g : Fin 2) (h : Fin 4) :
    (fun k => Real.log 2 * ∑ j, keyR a1 b g k j * (queryR a0 b i g h j * (1 / 8 / Real.log 2))) = scoreR a0 a1 b i g h := by
  have hl : Real.log 2 ≠ 0 := (Real.log_pos (by norm_num)).ne'
  funext k
  unfold scoreR
  rw [Finset.mul_sum, Finset.sum_mul]
  refine Finset.sum_congr rfl fun j _ => ?_
  field_simp

variable (h0 : ∀ i, a0 i = ((show EReal from a0 i).toReal : EReal)) (h1 : ∀ i, a1 i = ((show EReal from a1 i).toReal : EReal))
  (h2 : ∀ i, a2 i = ((show EReal from a2 i).toReal : EReal))

include h0 h1 in
theorem score_sum (b : Fin 4) (i : Fin 8448) (g : Fin 2) (h : Fin 4) (k : Fin 8448) (z : Fin 64 → Fin 1024)
    (hz : ∀ j, (z j).val = g.val * 256 + h.val * 64 + j.val) :
    (∑ j : Fin 64, (show EReal from a1 (ix4 b k g j)) * (show EReal from a0 (ix3 b i (z j)))) * Ideal.ofBits .f32 0x3E000000#32
      = (scoreR a0 a1 b i g h k.val : EReal) := by
  unfold scoreR
  rw [ofBits_eighth, EReal.coe_mul, coe_sum]
  refine congrArg (· * ((1 / 8 : ℝ) : EReal)) (Finset.sum_congr rfl fun j _ => ?_)
  rw [EReal.coe_mul]
  refine congrArg₂ (· * ·) (keyR_eq a1 h1 b k g j) ((h0 _).trans ?_)
  unfold queryR
  rw [show z j = ⟨(g.val * 4 + h.val) * 64 + j.val, by have := g.isLt; have := h.isLt; have := j.isLt; omega⟩ from
    Fin.ext ((hz j).trans (by show g.val * 256 + h.val * 64 + j.val = (g.val * 4 + h.val) * 64 + j.val; omega))]

include h0 h1 h2 in
/-- The reference at token `i` of the latents. -/
theorem lat_real (b : Fin 4) (i : Fin 8192) (z : Fin 512) (g : Fin 2) (h : Fin 4) (d : Fin 64)
    (hg : g.val = z.val / 256) (hh : h.val = z.val / 64 % 4) (hd : d.val = z.val % 64) :
    outLat a0 a1 a2 (ix3 b i z) = ((attend (scoreR a0 a1 b ⟨256 + i.val, by have := i.isLt; omega⟩ g h) (fun k => keyR a2 b g k d) 8448 : ℝ) : EReal) :=
  outLat_apply a0 a1 a2 b i z g h d hg hh hd _ _
    (fun x => (scoreLat_apply a0 a1 b g h i x).trans (score_sum a0 a1 h0 h1 b _ g h x _ fun _ => rfl))
    fun x => keyR_eq a2 h2 b x g d

include h0 h1 h2 in
/-- The reference at token `i` of the context. -/
theorem ctx_real (b : Fin 4) (i : Fin 256) (z : Fin 512) (g : Fin 2) (h : Fin 4) (d : Fin 64)
    (hg : g.val = z.val / 256) (hh : h.val = z.val / 64 % 4) (hd : d.val = z.val % 64) :
    outCtx a0 a1 a2 (ix3 b i z) = ((attend (scoreR a0 a1 b ⟨i.val, by have := i.isLt; omega⟩ g h) (fun k => keyR a2 b g k d) 256 : ℝ) : EReal) :=
  outCtx_apply a0 a1 a2 b i z g h d hg hh hd _ _
    (fun x => (scoreCtx_apply a0 a1 b g h i x).trans (score_sum a0 a1 h0 h1 b _ g h ⟨x.val, by have := x.isLt; omega⟩ _ fun _ => rfl))
    fun x => keyR_eq a2 h2 b ⟨x.val, by have := x.isLt; omega⟩ g d

end Data

section Final

variable (m : (ℓ : Loc nD τ sig) → Buf (Elt Ideal) ℓ) (c : Dev nD)

/-- The arguments as the reference's shapes have them. -/
abbrev A0 : FVec Ideal S4x8448x1024 .f32 := m ((c.tc : Thread nD τ).loc main_arg0)
abbrev A1 : FVec Ideal S4x8448x2x64 .f32 := m ((c.tc : Thread nD τ).loc main_arg1)
abbrev A2 : FVec Ideal S4x8448x2x64 .f32 := m ((c.tc : Thread nD τ).loc main_arg2)

variable (h0 : ∀ i, A0 m c i = ((show EReal from A0 m c i).toReal : EReal)) (h1 : ∀ i, A1 m c i = ((show EReal from A1 m c i).toReal : EReal))
  (h2 : ∀ i, A2 m c i = ((show EReal from A2 m c i).toReal : EReal))

include h0 h1 h2 in
/-- A point's block is the attention over the keys of its batch, the first tile's over the context's. -/
theorem outBlk_real (t : Fin cfg0.N) (y z : Fin 256) (h : Fin 4) (d : Fin 64) (hz : z.val = 64 * h.val + d.val) :
    outBlk m c t (ix2 y z) = ((attend (scoreR (A0 m c) (A1 m c) (⟨t.val / 66, by have := lt_N t; omega⟩ : Fin 4)
        (⟨t.val % 33 * 256 + y.val, by have := y.isLt; omega⟩ : Fin 8448) (⟨t.val / 33 % 2, by omega⟩ : Fin 2) h)
      (fun k => keyR (A2 m c) (⟨t.val / 66, by have := lt_N t; omega⟩ : Fin 4) (⟨t.val / 33 % 2, by omega⟩ : Fin 2) k d)
      (if t.val % 33 = 0 then 256 else 8448) : ℝ) : EReal) := by
  have hl := last_chunk t
  unfold outBlk
  refine (blockOut_apply (iblk m c 0 t) (iblk m c 1 t) (iblk m c 2 t) y z h d hz
    (fun j => queryR (A0 m c) (⟨t.val / 66, by have := lt_N t; omega⟩ : Fin 4)
        (⟨t.val % 33 * 256 + y.val, by have := y.isLt; omega⟩ : Fin 8448) (⟨t.val / 33 % 2, by omega⟩ : Fin 2) h j * (1 / 8 / Real.log 2))
    (keyR (A1 m c) (⟨t.val / 66, by have := lt_N t; omega⟩ : Fin 4) (⟨t.val / 33 % 2, by omega⟩ : Fin 2))
    (fun k => keyR (A2 m c) (⟨t.val / 66, by have := lt_N t; omega⟩ : Fin 4) (⟨t.val / 33 % 2, by omega⟩ : Fin 2) k d)
    (fun j => ?_) (fun k j => ?_) (fun n x => ?_) (lastChunk (grid0.coords t)) ?_).trans ?_
  · refine (query_block m c t h j y).trans ?_
    rw [EReal.coe_mul, scale_real]
    exact congrArg (· * ((1 / 8 / Real.log 2 : ℝ) : EReal)) (h0 _)
  · exact (key_block m c t k j).trans (keyR_eq (A1 m c) h1 _ k _ j)
  · exact (value_block m c t n d x).trans (keyR_eq (A2 m c) h2 _ _ _ d)
  · rw [hl]; split <;> omega
  · rw [score_scaled, hl]
    by_cases h33 : t.val % 33 = 0
    · rw [if_pos h33, if_pos h33]
    · rw [if_neg h33, if_neg h33]

include h0 h1 h2 in
/-- A point's block is the reference's result where the block lies. -/
theorem point (t : Fin cfg0.N) (y z : Fin 256) : outBlk m c t (ix2 y z)
    = joined (outCtx (A0 m c) (A1 m c) (A2 m c)) (outLat (A0 m c) (A1 m c) (A2 m c))
        (ix2 (⟨(t.val / 66 * 33 + t.val % 33) * 256 + y.val, by have := lt_N t; have := y.isLt; omega⟩ : Fin 33792)
          (⟨t.val / 33 % 2 * 256 + z.val, by have := z.isLt; omega⟩ : Fin 512)) := by
  have ht := lt_N t
  have hy := y.isLt
  have hz := z.isLt
  refine (outBlk_real m c h0 h1 h2 t y z ⟨z.val / 64, by omega⟩ ⟨z.val % 64, by omega⟩
    (by show z.val = 64 * (z.val / 64) + z.val % 64; omega)).trans ?_
  rw [joined_apply]
  have hb : (⟨((t.val / 66 * 33 + t.val % 33) * 256 + y.val) / 8448, by omega⟩ : Fin 4) = ⟨t.val / 66, by omega⟩ := Fin.ext (by
    show ((t.val / 66 * 33 + t.val % 33) * 256 + y.val) / 8448 = t.val / 66; omega)
  by_cases h33 : t.val % 33 = 0
  · rw [dif_pos (show ((t.val / 66 * 33 + t.val % 33) * 256 + y.val) % 8448 < 256 by omega), if_pos h33]
    refine Eq.trans ?_ (ctx_real (A0 m c) (A1 m c) (A2 m c) h0 h1 h2 _ _ _ (⟨t.val / 33 % 2, by omega⟩ : Fin 2) (⟨z.val / 64, by omega⟩ : Fin 4)
      (⟨z.val % 64, by omega⟩ : Fin 64) ?_ ?_ ?_).symm
    · rw [hb]
      refine congrArg (fun i => ((attend (scoreR (A0 m c) (A1 m c) _ i _ _) _ 256 : ℝ) : EReal)) (Fin.ext ?_)
      show t.val % 33 * 256 + y.val = ((t.val / 66 * 33 + t.val % 33) * 256 + y.val) % 8448
      omega
    · show t.val / 33 % 2 = (t.val / 33 % 2 * 256 + z.val) / 256; omega
    · show z.val / 64 = (t.val / 33 % 2 * 256 + z.val) / 64 % 4; omega
    · show z.val % 64 = (t.val / 33 % 2 * 256 + z.val) % 64; omega
  · rw [dif_neg (show ¬((t.val / 66 * 33 + t.val % 33) * 256 + y.val) % 8448 < 256 by omega), if_neg h33]
    refine Eq.trans ?_ (lat_real (A0 m c) (A1 m c) (A2 m c) h0 h1 h2 _ _ _ (⟨t.val / 33 % 2, by omega⟩ : Fin 2) (⟨z.val / 64, by omega⟩ : Fin 4)
      (⟨z.val % 64, by omega⟩ : Fin 64) ?_ ?_ ?_).symm
    · rw [hb]
      refine congrArg (fun i => ((attend (scoreR (A0 m c) (A1 m c) _ i _ _) _ 8448 : ℝ) : EReal)) (Fin.ext ?_)
      show t.val % 33 * 256 + y.val = 256 + (((t.val / 66 * 33 + t.val % 33) * 256 + y.val) % 8448 - 256)
      omega
    · show t.val / 33 % 2 = (t.val / 33 % 2 * 256 + z.val) / 256; omega
    · show z.val / 64 = (t.val / 33 % 2 * 256 + z.val) / 64 % 4; omega
    · show z.val % 64 = (t.val / 33 % 2 * 256 + z.val) % 64; omega

include h0 h1 h2 in
/-- The result array after the run is the reference's term over the arguments. -/
theorem final : (dats m 0 c).arrAt 3 (cfgs 0).N = joined (outCtx (A0 m c) (A1 m c) (A2 m c)) (outLat (A0 m c) (A1 m c) (A2 m c)) := by
  refine (dats m 0 c).arrAt_eq_of_covers 3 _ (by decide +kernel) fun t _ y => ?_
  blk_simp
  rw [after0_3]
  have ht := lt_N t
  idx_vars y
  refine (point m c h0 h1 h2 t y0 y1).trans ?_
  blk_ext [idx t]

end Final

end Cert.KernelIdeal.Attn

end
-- ==== Proof.Experts.Body.lean ====
/- # The experts' kernel at a grid point

The body in three stages: where the block's expert is not that of the block before, that expert's weights are rounded into the two scratch
buffers; a block in use gets the gated product of its rows with the weights in the scratch; a block not in use gets zeros. -/
module

public import proofs.«01_k».proof.Proof.Gen.Kernel2Ideal.Skeleton
public import proofs.«01_k».proof.Proof.Rules
public import proofs.«01_k».proof.Proof.Gen.Kernel2Ideal.Launch

@[expose] public section

set_option maxRecDepth 65536

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen Cert.Attn

variable {F : FTy → Type} [FloatOps F]

/-- A program of the kernel's core that returns an `α`. -/
abbrev Pr (F : FTy → Type) [FloatOps F] (α : Type) := Prog (TpuEff nD τ sig (Elt F) Λ₀ .tc) α

/-! ## What a point computes -/

/-- Columns of the first weights that make the gate, -/
def gateW (w : Vec F S1024x2048 .bf16) : Vec F S1024x1024 .bf16 :=
  fun x => w ((Rect.unit (s := S1024x2048) ![0, 0] S1024x1024.size inb_S1024x2048_S1024x1024_0_0).toLoadRect.idx x)
/-- and those that make the other factor; -/
def linW (w : Vec F S1024x2048 .bf16) : Vec F S1024x1024 .bf16 :=
  fun x => w ((Rect.unit (s := S1024x2048) ![0, 1024] S1024x1024.size inb_S1024x2048_S1024x1024_0_1024).toLoadRect.idx x)
/-- the gate's part of the first offset, -/
def gateB (b : Vec F S1x1x1x2048 .f32) : Vec F S1x1x1x1024 .f32 :=
  fun x => b ((Rect.unit (s := S1x1x1x2048) ![0, 0, 0, 0] S1x1x1x1024.size inb_S1x1x1x2048_S1x1x1x1024_0_0_0_0).toLoadRect.idx x)
/-- and the other factor's. -/
def linB (b : Vec F S1x1x1x2048 .f32) : Vec F S1x1x1x1024 .f32 :=
  fun x => b ((Rect.unit (s := S1x1x1x2048) ![0, 0, 0, 1024] S1x1x1x1024.size inb_S1x1x1x2048_S1x1x1x1024_0_0_0_1024).toLoadRect.idx x)

/-- The result's block of a block in use, from its rows, the rounded weights and the offsets. -/
def ffn (x : Vec F S256x1024 .bf16) (w1 : Vec F S1024x2048 .bf16) (b1 : Vec F S1x1x1x2048 .f32) (w2 : Vec F S1024x1024 .bf16)
    (b2 : Vec F S1x1x1x1024 .f32) : Vec F S256x1024 .bf16 :=
  k0_pay3 (k0_pay6 b2) (k0_pay7 x (gateW w1) (gateB b1)) (k0_pay8 x (linW w1) (linB b1)) (k0_pay9 x (gateW w1) (gateB b1)) (Scalar.ofBits .f32 0x3F800000#32) w2

/-! ## The stages -/

section Stages

variable (arg3 : Memref sig .tc .vmem S256x1024 .bf16) (arg4 : Memref sig .tc .vmem S1x1x1024x2048 .f32)
  (arg5 : Memref sig .tc .vmem S1x1x1x2048 .f32) (arg6 : Memref sig .tc .vmem S1x1x1024x1024 .f32)
  (arg7 : Memref sig .tc .vmem S1x1x1x1024 .f32) (arg8 : Memref sig .tc .vmem S256x1024 .bf16) (harg8 : arg8.IsWhole)
  (arg9 : Memref sig .tc .vmem S1024x2048 .bf16) (harg9 : arg9.IsWhole)
  (arg10 : Memref sig .tc .vmem S1024x1024 .bf16) (harg10 : arg10.IsWhole)

/-- An expert's weights, rounded, into the scratch. -/
def takeP (k : Pr F PUnit) : Pr F PUnit :=
  .op (.load arg4 (Rect.unit (s := S1x1x1024x2048) ![0, 0, 0, 0] S1x1x1024x2048.size inb_S1x1x1024x2048_S1x1x1024x2048_0_0_0_0).toLoadRect (View.loadsAt_vmem h_S1x1x1024x2048)) fun v =>
  .op (.load arg9 (Rect.unit (s := S1024x2048) ![0, 0] S1024x2048.size inb_S1024x2048_S1024x2048_0_0).toLoadRect (View.loadsAt_vmem h_S1024x2048)) fun _ =>
  .op (.store arg9 (Rect.unit (s := S1024x2048) ![0, 0] S1024x2048.size inb_S1024x2048_S1024x2048_0_0) (k0_pay1 v) Finset.univ (View.stores_vmem h_S1024x2048 (harg9.storeExact_slice rfl _ packedbf16_S1024x2048_S1024x2048_0_0) (fun _ => rfl)) (.inl rfl)) fun _ =>
  .op (.load arg6 (Rect.unit (s := S1x1x1024x1024) ![0, 0, 0, 0] S1x1x1024x1024.size inb_S1x1x1024x1024_S1x1x1024x1024_0_0_0_0).toLoadRect (View.loadsAt_vmem h_S1x1x1024x1024)) fun v =>
  .op (.load arg10 (Rect.unit (s := S1024x1024) ![0, 0] S1024x1024.size inb_S1024x1024_S1024x1024_0_0).toLoadRect (View.loadsAt_vmem h_S1024x1024)) fun _ =>
  .op (.store arg10 (Rect.unit (s := S1024x1024) ![0, 0] S1024x1024.size inb_S1024x1024_S1024x1024_0_0) (k0_pay2 v) Finset.univ (View.stores_vmem h_S1024x1024 (harg10.storeExact_slice rfl _ packedbf16_S1024x1024_S1024x1024_0_0) (fun _ => rfl)) (.inl rfl)) fun _ =>
  k

/-- A block in use. -/
def usedP (k : Pr F PUnit) : Pr F PUnit :=
  .op (.load arg3 (Rect.unit (s := S256x1024) ![0, 0] S256x1024.size inb_S256x1024_S256x1024_0_0).toLoadRect (View.loadsAt_vmem h_S256x1024)) fun x =>
  .op (.load arg7 (Rect.unit (s := S1x1x1x1024) ![0, 0, 0, 0] S1x1x1x1024.size inb_S1x1x1x1024_S1x1x1x1024_0_0_0_0).toLoadRect (View.loadsAt_vmem h_S1x1x1x1024)) fun b2 =>
  .op (.load arg9 (Rect.unit (s := S1024x2048) ![0, 0] S1024x1024.size inb_S1024x2048_S1024x1024_0_0).toLoadRect (View.loadsAt_vmem h_S1024x1024)) fun wg =>
  .op (.load arg5 (Rect.unit (s := S1x1x1x2048) ![0, 0, 0, 0] S1x1x1x1024.size inb_S1x1x1x2048_S1x1x1x1024_0_0_0_0).toLoadRect (View.loadsAt_vmem h_S1x1x1x1024)) fun bg =>
  .op (.load arg9 (Rect.unit (s := S1024x2048) ![0, 1024] S1024x1024.size inb_S1024x2048_S1024x1024_0_1024).toLoadRect (View.loadsAt_vmem h_S1024x1024)) fun wl =>
  .op (.load arg5 (Rect.unit (s := S1x1x1x2048) ![0, 0, 0, 1024] S1x1x1x1024.size inb_S1x1x1x2048_S1x1x1x1024_0_0_0_1024).toLoadRect (View.loadsAt_vmem h_S1x1x1x1024)) fun bl =>
  .op (.load arg10 (Rect.unit (s := S1024x1024) ![0, 0] S1024x1024.size inb_S1024x1024_S1024x1024_0_0).toLoadRect (View.loadsAt_vmem h_S1024x1024)) fun w2 =>
  .op (.load arg8 (Rect.unit (s := S256x1024) ![0, 0] S256x1024.size inb_S256x1024_S256x1024_0_0).toLoadRect (View.loadsAt_vmem h_S256x1024)) fun _ =>
  .op (.store arg8 (Rect.unit (s := S256x1024) ![0, 0] S256x1024.size inb_S256x1024_S256x1024_0_0) (k0_pay3 (k0_pay6 b2) (k0_pay7 x wg bg) (k0_pay8 x wl bl) (k0_pay9 x wg bg) (Scalar.ofBits .f32 0x3F800000#32) w2) Finset.univ (View.stores_vmem h_S256x1024 (harg8.storeExact_slice rfl _ packedbf16_S256x1024_S256x1024_0_0) (fun _ => rfl)) (.inl rfl)) fun _ =>
  k

/-- A block not in use. -/
def restP (k : Pr F PUnit) : Pr F PUnit :=
  .op (.load arg8 (Rect.unit (s := S256x1024) ![0, 0] S256x1024.size inb_S256x1024_S256x1024_0_0).toLoadRect (View.loadsAt_vmem h_S256x1024)) fun _ =>
  .op (.store arg8 (Rect.unit (s := S256x1024) ![0, 0] S256x1024.size inb_S256x1024_S256x1024_0_0) (k0_pay4 (F := F)) Finset.univ (View.stores_vmem h_S256x1024 (harg8.storeExact_slice rfl _ packedbf16_S256x1024_S256x1024_0_0) (fun _ => rfl)) (.inl rfl)) fun _ =>
  k

end Stages

/-- Whether a point takes new weights: the first point does, and every point whose expert is not the one before's. -/
def fresh (i : grid0.Coords) (old new : BitVec 32) : BitVec 1 :=
  Scalar.cmpi .ne (Scalar.extui (Scalar.ori (Scalar.cmpi .eq (BitVec.ofNat 32 (i 0).val) 0#32) (Scalar.cmpi .ne new old)) : BitVec 32) 0#32

/-- A stage, taken where its condition holds. -/
def whenP (b : BitVec 1) (P : Pr F PUnit → Pr F PUnit) (k : Pr F PUnit) : Pr F PUnit := if b = 1#1 then P k else k

/-- The one place of a word. -/
abbrev word : S1.Idx := Shape.Idx.first (numel1_S1.symm ▸ Nat.one_pos)

set_option maxHeartbeats 4000000 in
/-- The kernel is its three stages. -/
theorem kernel_eq (i : grid0.Coords) (arg1 : Memref sig .tc .smem S560 .i32) (harg1 : arg1.IsWhole) (arg2 : Memref sig .tc .smem S1 .i32) (harg2 : arg2.IsWhole) (arg3 : Memref sig .tc .vmem S256x1024 .bf16) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S256x1024 .bf16) (harg8 : arg8.IsWhole) (arg9 : Memref sig .tc .vmem S1024x2048 .bf16) (harg9 : arg9.IsWhole) (arg10 : Memref sig .tc .vmem S1024x1024 .bf16) (harg10 : arg10.IsWhole) :
    cc0__expert_kernel (F := F) i arg1 harg1 arg2 harg2 arg3 harg3 arg4 harg4 arg5 harg5 arg6 harg6 arg7 harg7 arg8 harg8 arg9 harg9 arg10 harg10
      = (.op (.load arg1 (Rect.unit (s := S560) (k0_off2 i) S1.size (k0_off2_inb i)).toLoadRect (View.loadsAt_rect (View.loads_smem_one rfl numel1_S1))) fun u =>
        .op (.load arg1 (Rect.unit (s := S560) (k0_off1 i) S1.size (k0_off1_inb i)).toLoadRect (View.loadsAt_rect (View.loads_smem_one rfl numel1_S1))) fun v =>
        whenP (fresh i (u word) (v word)) (takeP arg4 arg6 arg9 harg9 arg10 harg10)
        (.op (.load arg2 (Rect.unit (s := S1) ![0] S1.size inb_S1_S1_0).toLoadRect (View.loadsAt_rect (View.loads_smem_one rfl numel1_S1))) fun u =>
        whenP (k0_cond2 i (u word)) (usedP arg3 arg5 arg7 arg8 harg8 arg9 arg10)
        (.op (.load arg2 (Rect.unit (s := S1) ![0] S1.size inb_S1_S1_0).toLoadRect (View.loadsAt_rect (View.loads_smem_one rfl numel1_S1))) fun u =>
        whenP (k0_cond3 i (u word)) (restP arg8 harg8) (.ret ⟨⟩)))) := by
  rw [cc0__expert_kernel_eq_skeleton]
  unfold cc0__expert_kernel_skel
  rw [k0_part1_eq_skeleton]
  rfl

end Cert.Kernel2Ideal.Experts

end
-- ==== Proof.Experts.Point.lean ====
/- # The body's run at a grid point

From the five input blocks, the two tables and the scratch: the scratch holds the point's weights, the result's buffer its block. -/
module

public import proofs.«01_k».proof.Proof.Experts.Body

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen Cert.Attn

variable {F : FTy → Type} [FloatOps F]

/-- A rectangle that is the whole array, from the origin, names every place by itself. -/
theorem whole_idx {s : Shape} (off : Fin s.rank → ℕ) (h0 : ∀ a, off a = 0) (hb : ∀ a, off a + s.size a ≤ s.size a) (x : s.Idx) :
    (Rect.unit (s := s) off s.size hb).idx x = x := by
  funext a
  apply Fin.ext
  show off a + 1 * (x a).val = (x a).val
  rw [h0 a]; omega

theorem mem_whole {s : Shape} (off : Fin s.rank → ℕ) (h0 : ∀ a, off a = 0) (hb : ∀ a, off a + s.size a ≤ s.size a) (x : s.Idx) :
    x ∈ (Rect.unit (s := s) off s.size hb).set := by
  have h := LoadRect.idx_mem (Rect.unit (s := s) off s.size hb).toLoadRect x
  rwa [show _ = x from whole_idx off h0 hb x] at h

theorem whole_read {s : Shape} {β : Type} (off : Fin s.rank → ℕ) (h0 : ∀ a, off a = 0) (hb : ∀ a, off a + s.size a ≤ s.size a) (X : s.Idx → β) :
    (fun x : (Rect.unit (s := s) off s.size hb).toLoadRect.shape.Idx => X ((Rect.unit (s := s) off s.size hb).toLoadRect.idx x)) = X :=
  funext fun x => congrArg X (whole_idx off h0 hb x)

theorem zero2 : ∀ a, (![0, 0] : Fin 2 → ℕ) a = 0 := by decide
theorem zero4 : ∀ a, (![0, 0, 0, 0] : Fin 4 → ℕ) a = 0 := by decide

section Rules

variable (c : Dev nD) {q1 q2 : PosShare TreeShare}
  {arg1 : Memref sig .tc .smem S560 .i32} {harg1 : arg1.IsWhole} {arg2 : Memref sig .tc .smem S1 .i32} {harg2 : arg2.IsWhole}
  {arg3 : Memref sig .tc .vmem S256x1024 .bf16} {harg3 : arg3.IsWhole} {arg4 : Memref sig .tc .vmem S1x1x1024x2048 .f32} {harg4 : arg4.IsWhole}
  {arg5 : Memref sig .tc .vmem S1x1x1x2048 .f32} {harg5 : arg5.IsWhole} {arg6 : Memref sig .tc .vmem S1x1x1024x1024 .f32} {harg6 : arg6.IsWhole}
  {arg7 : Memref sig .tc .vmem S1x1x1x1024 .f32} {harg7 : arg7.IsWhole} {arg8 : Memref sig .tc .vmem S256x1024 .bf16} {harg8 : arg8.IsWhole}
  {arg9 : Memref sig .tc .vmem S1024x2048 .bf16} {harg9 : arg9.IsWhole} {arg10 : Memref sig .tc .vmem S1024x1024 .bf16} {harg10 : arg10.IsWhole}
  (T0 : Vec F S560 .i32) (T1 : Vec F S1 .i32)
  (x3 : Vec F S256x1024 .bf16) (x4 : Vec F S1x1x1024x2048 .f32) (x5 : Vec F S1x1x1x2048 .f32) (x6 : Vec F S1x1x1024x1024 .f32)
  (x7 : Vec F S1x1x1x1024 .f32)

/-- What a point holds: the tables, the input blocks, the result's buffer, the scratch, and the rest. -/
def Pt (q1 q2 : PosShare TreeShare) (arg1 : Memref sig .tc .smem S560 .i32) (arg2 : Memref sig .tc .smem S1 .i32)
    (arg3 : Memref sig .tc .vmem S256x1024 .bf16) (arg4 : Memref sig .tc .vmem S1x1x1024x2048 .f32)
    (arg5 : Memref sig .tc .vmem S1x1x1x2048 .f32) (arg6 : Memref sig .tc .vmem S1x1x1024x1024 .f32)
    (arg7 : Memref sig .tc .vmem S1x1x1x1024 .f32) (arg8 : Memref sig .tc .vmem S256x1024 .bf16)
    (arg9 : Memref sig .tc .vmem S1024x2048 .bf16) (arg10 : Memref sig .tc .vmem S1024x1024 .bf16)
    (o : Vec F S256x1024 .bf16) (a : Vec F S1024x2048 .bf16) (b : Vec F S1024x1024 .bf16)
    (R : sProp (MT nD τ sig Unit (Elt F) ℕ (UR sig nD τ) ℕ)) : sProp (MT nD τ sig Unit (Elt F) ℕ (UR sig nD τ) ℕ) :=
  iprop(owns (c : Thread nD τ) arg1 q1 T0 ∗ owns (c : Thread nD τ) arg2 q2 T1 ∗ owns (c : Thread nD τ) arg3 fullShare x3
    ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare o ∗ owns (c : Thread nD τ) arg9 fullShare a
    ∗ owns (c : Thread nD τ) arg10 fullShare b ∗ R)

variable {o : Vec F S256x1024 .bf16} {a : Vec F S1024x2048 .bf16} {b : Vec F S1024x1024 .bf16}
  {R : sProp (MT nD τ sig Unit (Elt F) ℕ (UR sig nD τ) ℕ)} {E : Set ℕ} {k : Pr F PUnit} {K : PUnit → sProp (MT nD τ sig Unit (Elt F) ℕ (UR sig nD τ) ℕ)}

theorem take (h : Pt c T0 T1 x3 x4 x5 x6 x7 q1 q2 arg1 arg2 arg3 arg4 arg5 arg6 arg7 arg8 arg9 arg10 o (k0_pay1 x4) (k0_pay2 x6) R
      ⊢ wp frame (wpE (defs₀ (F := F)) Variants.none (c : Thread nD τ) none) E k K) :
    Pt c T0 T1 x3 x4 x5 x6 x7 q1 q2 arg1 arg2 arg3 arg4 arg5 arg6 arg7 arg8 arg9 arg10 o a b R
      ⊢ wp frame (wpE (defs₀ (F := F)) Variants.none (c : Thread nD τ) none) E (takeP arg4 arg6 arg9 harg9 arg10 harg10 k) K := by
  unfold takeP
  unfold Pt at h ⊢
  iintro ⟨H1, H2, H3, H4, H5, H6, H7, H8, H9, H10, HR⟩
  iapply (wp_loadO (defs := defs₀ (F := F)) Variants.none (c : Thread nD τ) none E)
  isplitl [H4]; · iexact H4
  iintro H4
  rw [whole_read ![0, 0, 0, 0] zero4 inb_S1x1x1024x2048_S1x1x1024x2048_0_0_0_0 x4]
  iapply (wp_loadO (defs := defs₀ (F := F)) Variants.none (c : Thread nD τ) none E)
  isplitl [H9]; · iexact H9
  iintro H9
  iapply (wp_storeO (defs := defs₀ (F := F)) Variants.none (c : Thread nD τ) none E (X' := k0_pay1 x4)
    (fun x => congrArg (k0_pay1 x4) (whole_idx ![0, 0] zero2 _ x)) (fun y hy => absurd (mem_whole ![0, 0] zero2 inb_S1024x2048_S1024x2048_0_0 y) hy))
  isplitl [H9]; · iexact H9
  iintro H9
  iapply (wp_loadO (defs := defs₀ (F := F)) Variants.none (c : Thread nD τ) none E)
  isplitl [H6]; · iexact H6
  iintro H6
  rw [whole_read ![0, 0, 0, 0] zero4 inb_S1x1x1024x1024_S1x1x1024x1024_0_0_0_0 x6]
  iapply (wp_loadO (defs := defs₀ (F := F)) Variants.none (c : Thread nD τ) none E)
  isplitl [H10]; · iexact H10
  iintro H10
  iapply (wp_storeO (defs := defs₀ (F := F)) Variants.none (c : Thread nD τ) none E (X' := k0_pay2 x6)
    (fun x => congrArg (k0_pay2 x6) (whole_idx ![0, 0] zero2 _ x)) (fun y hy => absurd (mem_whole ![0, 0] zero2 inb_S1024x1024_S1024x1024_0_0 y) hy))
  isplitl [H10]; · iexact H10
  iintro H10
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HR

theorem used (h : Pt c T0 T1 x3 x4 x5 x6 x7 q1 q2 arg1 arg2 arg3 arg4 arg5 arg6 arg7 arg8 arg9 arg10 (ffn x3 a x5 b x7) a b R
      ⊢ wp frame (wpE (defs₀ (F := F)) Variants.none (c : Thread nD τ) none) E k K) :
    Pt c T0 T1 x3 x4 x5 x6 x7 q1 q2 arg1 arg2 arg3 arg4 arg5 arg6 arg7 arg8 arg9 arg10 o a b R
      ⊢ wp frame (wpE (defs₀ (F := F)) Variants.none (c : Thread nD τ) none) E (usedP arg3 arg5 arg7 arg8 harg8 arg9 arg10 k) K := by
  unfold usedP
  unfold Pt at h ⊢
  iintro ⟨H1, H2, H3, H4, H5, H6, H7, H8, H9, H10, HR⟩
  iapply (wp_loadO (defs := defs₀ (F := F)) Variants.none (c : Thread nD τ) none E)
  isplitl [H3]; · iexact H3
  iintro H3
  rw [whole_read ![0, 0] zero2 inb_S256x1024_S256x1024_0_0 x3]
  iapply (wp_loadO (defs := defs₀ (F := F)) Variants.none (c : Thread nD τ) none E)
  isplitl [H7]; · iexact H7
  iintro H7
  rw [whole_read ![0, 0, 0, 0] zero4 inb_S1x1x1x1024_S1x1x1x1024_0_0_0_0 x7]
  iapply (wp_loadO (defs := defs₀ (F := F)) Variants.none (c : Thread nD τ) none E)
  isplitl [H9]; · iexact H9
  iintro H9
  iapply (wp_loadO (defs := defs₀ (F := F)) Variants.none (c : Thread nD τ) none E)
  isplitl [H5]; · iexact H5
  iintro H5
  iapply (wp_loadO (defs := defs₀ (F := F)) Variants.none (c : Thread nD τ) none E)
  isplitl [H9]; · iexact H9
  iintro H9
  iapply (wp_loadO (defs := defs₀ (F := F)) Variants.none (c : Thread nD τ) none E)
  isplitl [H5]; · iexact H5
  iintro H5
  iapply (wp_loadO (defs := defs₀ (F := F)) Variants.none (c : Thread nD τ) none E)
  isplitl [H10]; · iexact H10
  iintro H10
  rw [whole_read ![0, 0] zero2 inb_S1024x1024_S1024x1024_0_0 b]
  iapply (wp_loadO (defs := defs₀ (F := F)) Variants.none (c : Thread nD τ) none E)
  isplitl [H8]; · iexact H8
  iintro H8
  iapply (wp_storeO (defs := defs₀ (F := F)) Variants.none (c : Thread nD τ) none E (X' := (k0_pay3 (k0_pay6 x7) (k0_pay7 x3 (gateW a) (gateB x5)) (k0_pay8 x3 (linW a) (linB x5)) (k0_pay9 x3 (gateW a) (gateB x5)) (Scalar.ofBits .f32 0x3F800000#32) b))
    (fun x => congrArg (k0_pay3 (k0_pay6 x7) (k0_pay7 x3 (gateW a) (gateB x5)) (k0_pay8 x3 (linW a) (linB x5)) (k0_pay9 x3 (gateW a) (gateB x5)) (Scalar.ofBits .f32 0x3F800000#32) b) (whole_idx ![0, 0] zero2 _ x)) (fun y hy => absurd (mem_whole ![0, 0] zero2 inb_S256x1024_S256x1024_0_0 y) hy))
  isplitl [H8]; · iexact H8
  iintro H8
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HR

theorem rest (h : Pt c T0 T1 x3 x4 x5 x6 x7 q1 q2 arg1 arg2 arg3 arg4 arg5 arg6 arg7 arg8 arg9 arg10 k0_pay4 a b R
      ⊢ wp frame (wpE (defs₀ (F := F)) Variants.none (c : Thread nD τ) none) E k K) :
    Pt c T0 T1 x3 x4 x5 x6 x7 q1 q2 arg1 arg2 arg3 arg4 arg5 arg6 arg7 arg8 arg9 arg10 o a b R
      ⊢ wp frame (wpE (defs₀ (F := F)) Variants.none (c : Thread nD τ) none) E (restP arg8 harg8 k) K := by
  unfold restP
  unfold Pt at h ⊢
  iintro ⟨H1, H2, H3, H4, H5, H6, H7, H8, H9, H10, HR⟩
  iapply (wp_loadO (defs := defs₀ (F := F)) Variants.none (c : Thread nD τ) none E)
  isplitl [H8]; · iexact H8
  iintro H8
  iapply (wp_storeO (defs := defs₀ (F := F)) Variants.none (c : Thread nD τ) none E (X' := k0_pay4)
    (fun x => congrArg k0_pay4 (whole_idx ![0, 0] zero2 _ x)) (fun y hy => absurd (mem_whole ![0, 0] zero2 inb_S256x1024_S256x1024_0_0 y) hy))
  isplitl [H8]; · iexact H8
  iintro H8
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HR

/-- Reading the first table, -/
theorem table0 {r : LoadRect S560} {hl : arg1.view.LoadsAt r} {k : (r.shape.Idx → Elt F .i32) → Pr F PUnit}
    (h : Pt c T0 T1 x3 x4 x5 x6 x7 q1 q2 arg1 arg2 arg3 arg4 arg5 arg6 arg7 arg8 arg9 arg10 o a b R
      ⊢ wp frame (wpE (defs₀ (F := F)) Variants.none (c : Thread nD τ) none) E (k fun x => T0 (r.idx x)) K) :
    Pt c T0 T1 x3 x4 x5 x6 x7 q1 q2 arg1 arg2 arg3 arg4 arg5 arg6 arg7 arg8 arg9 arg10 o a b R
      ⊢ wp frame (wpE (defs₀ (F := F)) Variants.none (c : Thread nD τ) none) E (.op (.load arg1 r hl) k) K := by
  unfold Pt at h ⊢
  iintro ⟨H1, HR⟩
  iapply (wp_loadO (defs := defs₀ (F := F)) Variants.none (c : Thread nD τ) none E)
  isplitl [H1]; · iexact H1
  iintro H1
  iapply h
  isplitl [H1]; · iexact H1
  iexact HR

/-- and the second. -/
theorem table1 {r : LoadRect S1} {hl : arg2.view.LoadsAt r} {k : (r.shape.Idx → Elt F .i32) → Pr F PUnit}
    (h : Pt c T0 T1 x3 x4 x5 x6 x7 q1 q2 arg1 arg2 arg3 arg4 arg5 arg6 arg7 arg8 arg9 arg10 o a b R
      ⊢ wp frame (wpE (defs₀ (F := F)) Variants.none (c : Thread nD τ) none) E (k fun x => T1 (r.idx x)) K) :
    Pt c T0 T1 x3 x4 x5 x6 x7 q1 q2 arg1 arg2 arg3 arg4 arg5 arg6 arg7 arg8 arg9 arg10 o a b R
      ⊢ wp frame (wpE (defs₀ (F := F)) Variants.none (c : Thread nD τ) none) E (.op (.load arg2 r hl) k) K := by
  unfold Pt at h ⊢
  iintro ⟨H1, H2, HR⟩
  iapply (wp_loadO (defs := defs₀ (F := F)) Variants.none (c : Thread nD τ) none E)
  isplitl [H2]; · iexact H2
  iintro H2
  iapply h
  isplitl [H1]; · iexact H1
  isplitl [H2]; · iexact H2
  iexact HR

/-- The expert of the block, the one of the block before it, and the number of blocks in use, as the body reads them. -/
def expert (T0 : Vec F S560 .i32) (i : grid0.Coords) : BitVec 32 := T0 ((Rect.unit (s := S560) (k0_off1 i) S1.size (k0_off1_inb i)).toLoadRect.idx word)
def before (T0 : Vec F S560 .i32) (i : grid0.Coords) : BitVec 32 := T0 ((Rect.unit (s := S560) (k0_off2 i) S1.size (k0_off2_inb i)).toLoadRect.idx word)
def count (T1 : Vec F S1 .i32) : BitVec 32 := T1 ((Rect.unit (s := S1) ![0] S1.size inb_S1_S1_0).toLoadRect.idx word)

/-- A block is in use or not, never both. -/
theorem used_or_rest (i : grid0.Coords) (n : BitVec 32) : k0_cond3 i n = 1#1 ↔ ¬ k0_cond2 i n = 1#1 := by
  unfold k0_cond3 k0_cond2
  simp only [Scalar.cmpi, Scalar.extui, IntOp.cmpi]
  by_cases h : (BitVec.ofNat 32 (i 0).val).slt n
  · simp [h, BitVec.sle_eq_not_slt]
  · simp [h, BitVec.sle_eq_not_slt]

/-- The body at a point: the scratch ends with `a'` and `b'`, the result's buffer with `o'`. -/
theorem body (i : grid0.Coords) {a' : Vec F S1024x2048 .bf16} {b' : Vec F S1024x1024 .bf16} {o' : Vec F S256x1024 .bf16}
    (hf : fresh i (before T0 i) (expert T0 i) = 1#1 → a' = k0_pay1 x4 ∧ b' = k0_pay2 x6)
    (hn : ¬ fresh i (before T0 i) (expert T0 i) = 1#1 → a' = a ∧ b' = b)
    (hu : k0_cond2 i (count T1) = 1#1 → o' = ffn x3 a' x5 b' x7) (hr : ¬ k0_cond2 i (count T1) = 1#1 → o' = k0_pay4)
    (h : Pt c T0 T1 x3 x4 x5 x6 x7 q1 q2 arg1 arg2 arg3 arg4 arg5 arg6 arg7 arg8 arg9 arg10 o' a' b' R ⊢ K ⟨⟩) :
    Pt c T0 T1 x3 x4 x5 x6 x7 q1 q2 arg1 arg2 arg3 arg4 arg5 arg6 arg7 arg8 arg9 arg10 o a b R
      ⊢ wp frame (wpE (defs₀ (F := F)) Variants.none (c : Thread nD τ) none) E (cc0__expert_kernel (F := F) i arg1 harg1 arg2 harg2 arg3 harg3 arg4 harg4 arg5 harg5 arg6 harg6 arg7 harg7 arg8 harg8 arg9 harg9 arg10 harg10) K := by
  have hend : Pt c T0 T1 x3 x4 x5 x6 x7 q1 q2 arg1 arg2 arg3 arg4 arg5 arg6 arg7 arg8 arg9 arg10 o' a' b' R
      ⊢ wp frame (wpE (defs₀ (F := F)) Variants.none (c : Thread nD τ) none) E (.ret ⟨⟩) K := by
    rw [wp_ret]
    iintro H
    imodintro
    iapply h
    iexact H
  rw [kernel_eq]
  refine table0 c T0 T1 x3 x4 x5 x6 x7 (table0 c T0 T1 x3 x4 x5 x6 x7 ?_)
  have hstep : Pt c T0 T1 x3 x4 x5 x6 x7 q1 q2 arg1 arg2 arg3 arg4 arg5 arg6 arg7 arg8 arg9 arg10 o a' b' R
      ⊢ wp frame (wpE (defs₀ (F := F)) Variants.none (c : Thread nD τ) none) E
        (.op (.load arg2 (Rect.unit (s := S1) ![0] S1.size inb_S1_S1_0).toLoadRect (View.loadsAt_rect (View.loads_smem_one rfl numel1_S1))) fun u =>
        whenP (k0_cond2 i (u word)) (usedP arg3 arg5 arg7 arg8 harg8 arg9 arg10)
        (.op (.load arg2 (Rect.unit (s := S1) ![0] S1.size inb_S1_S1_0).toLoadRect (View.loadsAt_rect (View.loads_smem_one rfl numel1_S1))) fun u =>
        whenP (k0_cond3 i (u word)) (restP arg8 harg8) (.ret ⟨⟩))) K := by
    refine table1 c T0 T1 x3 x4 x5 x6 x7 ?_
    change _ ⊢ wp frame _ E (whenP (k0_cond2 i (count T1)) _ _) K
    unfold whenP
    by_cases h2 : k0_cond2 i (count T1) = 1#1
    · rw [if_pos h2]
      refine used c T0 T1 x3 x4 x5 x6 x7 (table1 c T0 T1 x3 x4 x5 x6 x7 ?_)
      change _ ⊢ wp frame _ E (if k0_cond3 i (count T1) = 1#1 then _ else _) K
      rw [if_neg (fun h3 => (used_or_rest i _).mp h3 h2), ← hu h2]
      exact hend
    · rw [if_neg h2]
      refine table1 c T0 T1 x3 x4 x5 x6 x7 ?_
      change _ ⊢ wp frame _ E (if k0_cond3 i (count T1) = 1#1 then _ else _) K
      rw [if_pos ((used_or_rest i _).mpr h2)]
      refine rest c T0 T1 x3 x4 x5 x6 x7 ?_
      rw [← hr h2]
      exact hend
  change _ ⊢ wp frame _ E (whenP (fresh i (before T0 i) (expert T0 i)) _ _) K
  unfold whenP at hstep ⊢
  by_cases h1 : fresh i (before T0 i) (expert T0 i) = 1#1
  · rw [if_pos h1]
    refine take c T0 T1 x3 x4 x5 x6 x7 ?_
    rw [← (hf h1).1, ← (hf h1).2]
    exact hstep
  · rw [if_neg h1]
    rw [(hn h1).1, (hn h1).2] at hstep
    exact hstep

end Rules

end Cert.Kernel2Ideal.Experts

end
-- ==== Proof.Experts.Tables.lean ====
/- # The tables and the blocks they choose

The first table gives the expert of every block of rows, the second the number of blocks in use. With experts in range every block
of weights is inside its array, and it is the expert's weights. -/
module

public import proofs.«01_k».proof.Proof.Experts.Point
public import proofs.«01_k».proof.Proof.Gen.Kernel2Ideal.Launch
public import Idealize.ShloMosaic.Lib.Pointwise
public import Idealize.ShloMosaic.Lib.Pipeline.ValueKit
public import Idealize.ShloMosaic.Lib.Pipeline.TableIdle
public import Idealize.ShloMosaic.Init

@[expose] public section

set_option maxRecDepth 16384

noncomputable section

namespace Cert.Kernel2Ideal.Experts

open Idealize.ShloMosaic Idealize.ShloMosaic.TcCoe Idealize.SL.Sem
open Cert.Kernel2Ideal.Gen Cert.Attn

variable {F : FTy → Type} [FloatOps F]

/-- The tables, as the launch takes them. -/
def tabs (T0 : S560.Idx → BitVec 32) (T1 : S1.Idx → BitVec 32) : pre0.Contents (Elt F) :=
  fun | ⟨0, _⟩ => T0 | ⟨1, _⟩ => T1 | ⟨_ + 2, h⟩ => absurd h (by simp)

/-- Every block's expert is one of the 32. -/
def InRange (T0 : S560.Idx → BitVec 32) : Prop := ∀ x, (T0 x).toNat < 32

theorem bounds {e : ℕ} (he : e < 32) (p q : ℕ) :
    ∀ a, ((![0, e, 0, 0] : Fin 4 → ℕ) a + 1) * (![1, 1, p, q] : Fin 4 → ℕ) a ≤ (![4, 32, p, q] : Fin 4 → ℕ) a := by
  intro a
  fin_cases a <;> simp <;> omega

theorem ok (T0 : S560.Idx → BitVec 32) (T1 : S1.Idx → BitVec 32) (h : InRange T0) : ok0 (F := F) (tabs T0 T1) :=
  ⟨fun i => ⟨bounds (h _) 1024 2048, .inl rfl⟩, fun i => ⟨bounds (h _) 1 2048, .inl rfl⟩,
    fun i => ⟨bounds (h _) 1024 1024, .inl rfl⟩, fun i => ⟨bounds (h _) 1 1024, .inl rfl⟩⟩

variable (T0 : S560.Idx → BitVec 32) (T1 : S1.Idx → BitVec 32) (h : InRange T0)

/-- The pipeline at tables in range. -/
def adm : (pcfg0 (F := F)).Adm := ⟨tabs T0 T1, ok T0 T1 h⟩
abbrev cfgA : Pipeline.Cfg sig Λ₀ := cfg0 (F := F) (adm T0 T1 h)
abbrev pcs : Fin 1 → Pipeline.Cfg sig Λ₀ := Pipeline.pin (pcfgs (F := F)) fun _ => adm T0 T1 h

/-- A point's coordinate is its number. -/
theorem coord : ∀ t : Fin grid0.N, (grid0.coords t 0).val = t.val := by decide +kernel

/-- The expert of a point's block of rows. -/
def at_ (t : Fin grid0.N) : Fin 32 := ⟨(T0 (ix1 (⟨t.val, t.isLt⟩ : Fin 560))).toNat, h _⟩

variable (m : (ℓ : Loc nD τ sig) → Buf (Elt F) ℓ) (ρ : Dev nD → PrngReg)

/-- The memory where the call begins: the host has gathered the rows and reshaped the offsets. -/
def entry : (ℓ : Loc nD τ sig) → Buf (Elt F) ℓ := fun ℓ => StableHlo.after hostOps0 (fun b => m (ℓ.1, b)) ℓ.2

def s₀ : MemSt nD τ sig (Elt F) := ⟨m, fun _ => 0, ρ⟩

/-- Window `w`'s block at point `t`, of its array at the start. -/
def iblk (c : Dev nD) (w : Fin (cfgA (F := F) T0 T1 h).W) (t : Fin (cfgA (F := F) T0 T1 h).N) :
    (((cfgA (F := F) T0 T1 h).win w).xblock ((cfgA (F := F) T0 T1 h).grid.coords t)).Idx → Elt F ((cfgA (F := F) T0 T1 h).win w).elt :=
  (((cfgA (F := F) T0 T1 h).win w).blk t).view.read (Elt F) (m (((cfgA (F := F) T0 T1 h).win w).arr.view.loc (c : Thread nD τ)))

/-- Expert `e`'s first weights, -/
def w1 (c : Dev nD) (e : Fin 32) : Vec F S1x1x1024x2048 .f32 :=
  fun x => m ((c.tc : Thread nD τ).loc main_arg4) (ix4 (0 : Fin 4) e (x 2) (x 3))
/-- first offset, -/
def b1 (c : Dev nD) (e : Fin 32) : Vec F S1x1x1x2048 .f32 :=
  fun x => m ((c.tc : Thread nD τ).loc main_v7) (ix4 (0 : Fin 4) e (x 2) (x 3))
/-- second weights, -/
def w2 (c : Dev nD) (e : Fin 32) : Vec F S1x1x1024x1024 .f32 :=
  fun x => m ((c.tc : Thread nD τ).loc main_arg6) (ix4 (0 : Fin 4) e (x 2) (x 3))
/-- second offset; -/
def b2 (c : Dev nD) (e : Fin 32) : Vec F S1x1x1x1024 .f32 :=
  fun x => m ((c.tc : Thread nD τ).loc main_v8) (ix4 (0 : Fin 4) e (x 2) (x 3))
/-- and block `t` of the rows. -/
def rows (c : Dev nD) (t : Fin grid0.N) : Vec F S256x1024 .bf16 :=
  fun x => m ((c.tc : Thread nD τ).loc main_v6) (ix2 (⟨t.val * 256 + (x 0).val, by have := t.isLt; have := (x 0).isLt; have : (x 0).val < 256 := this; have : t.val < 560 := t.isLt; omega⟩ : Fin 143360) (x 1))

/-- Where a point reads the table of experts. -/
theorem place (t : Fin grid0.N) (hb : ∀ a, (![t.val] : Fin 1 → ℕ) a + S1.size a ≤ S560.size a) (w : S1.Idx) :
    (Rect.unit (s := S560) ![t.val] S1.size hb).toLoadRect.idx w = ix1 (⟨t.val, t.isLt⟩ : Fin 560) := by
  funext a
  apply Fin.ext
  have hw : (w 0).val < 1 := (w 0).isLt
  fin_cases a
  show t.val + 1 * (w 0).val = t.val
  omega

theorem word_at (t : Fin grid0.N) (off : Fin 1 → ℕ) (ho : off = ![t.val]) (hb : ∀ a, off a + S1.size a ≤ S560.size a) (w : S1.Idx) :
    (T0 ((Rect.unit (s := S560) off S1.size hb).toLoadRect.idx w)).toNat = (at_ T0 h t).val := by
  subst ho
  rw [place t hb w]
  rfl

theorem off_eq (t : Fin grid0.N) : k0_off1 (grid0.coords t) = ![t.val] :=
  (by decide +kernel : ∀ t : Fin grid0.N, k0_off1 (grid0.coords t) = ![t.val]) t

theorem off2_eq (t : Fin grid0.N) : k0_off2 (grid0.coords t) = ![t.val - 1] :=
  (by decide +kernel : ∀ t : Fin grid0.N, k0_off2 (grid0.coords t) = ![t.val - 1]) t

/-- The expert the body reads at a point, -/
theorem expert_eq (t : Fin grid0.N) : (expert (F := F) T0 (grid0.coords t)).toNat = (at_ T0 h t).val :=
  (word_at T0 h t _ (off_eq t) (k0_off1_inb _) _)

/-- and the one before it. -/
theorem before_eq (t : Fin grid0.N) (ht : t.val ≠ 0) :
    (before (F := F) T0 (grid0.coords t)).toNat = (at_ T0 h ⟨t.val - 1, by have := t.isLt; omega⟩).val :=
  (word_at T0 h ⟨t.val - 1, by have := t.isLt; omega⟩ _ (off2_eq t) (k0_off2_inb _) _)

/-- The weights' blocks are at the point's expert, -/
theorem idx (t : Fin grid0.N) : cc0_transform_1 (F := F) k0_off1_inb numel1_S1 (tabs T0 T1) (grid0.coords t) = ![0, (at_ T0 h t).val, 0, 0] := by
  have e : ((tabs (F := F) T0 T1).at 0 (Rect.unit (s := S560) (k0_off1 (grid0.coords t)) S1.size (k0_off1_inb (grid0.coords t))) numel1_S1 : BitVec 32).toNat
      = (at_ T0 h t).val := (word_at T0 h t _ (off_eq t) (k0_off1_inb _) _)
  exact congrArg (fun n : ℕ => (![0, n, 0, 0] : Fin 4 → ℕ)) e
theorem idx2 (t : Fin grid0.N) : cc0_transform_2 (F := F) k0_off1_inb numel1_S1 (tabs T0 T1) (grid0.coords t) = ![0, (at_ T0 h t).val, 0, 0] :=
  idx T0 T1 h t
theorem idx3 (t : Fin grid0.N) : cc0_transform_3 (F := F) k0_off1_inb numel1_S1 (tabs T0 T1) (grid0.coords t) = ![0, (at_ T0 h t).val, 0, 0] :=
  idx T0 T1 h t
theorem idx4 (t : Fin grid0.N) : cc0_transform_4 (F := F) k0_off1_inb numel1_S1 (tabs T0 T1) (grid0.coords t) = ![0, (at_ T0 h t).val, 0, 0] :=
  idx T0 T1 h t

/-- the rows' and the result's at its number. -/
theorem idx0 (t : Fin grid0.N) : cc0_transform_0 (grid0.coords t) = ![t.val, 0] :=
  (by decide +kernel : ∀ t : Fin grid0.N, cc0_transform_0 (grid0.coords t) = ![t.val, 0]) t
theorem idx5 (t : Fin grid0.N) : cc0_transform_5 (grid0.coords t) = ![t.val, 0] :=
  (by decide +kernel : ∀ t : Fin grid0.N, cc0_transform_5 (grid0.coords t) = ![t.val, 0]) t

theorem iblk_rows (c : Dev nD) (t : Fin grid0.N) : iblk T0 T1 h m c 0 t = rows m c t := by
  refine funext fun x : S256x1024.Idx => ?_
  unfold iblk rows
  show m _ _ = m _ _
  congr 1
  funext a
  apply Fin.ext
  show (cc0_transform_0 (grid0.coords t)) a * S256x1024.size a + 1 * (x a).val = _
  rw [idx0 t]
  fin_cases a
  · show t.val * 256 + 1 * (x 0).val = t.val * 256 + (x 0).val
    omega
  · show 0 * 1024 + 1 * (x 1).val = (x 1).val
    omega

theorem iblk_w1 (c : Dev nD) (t : Fin grid0.N) : iblk T0 T1 h m c 1 t = w1 m c (at_ T0 h t) := by
  refine funext fun x : S1x1x1024x2048.Idx => ?_
  have hx0 : (x 0).val < 1 := (x 0).isLt
  have hx1 : (x 1).val < 1 := (x 1).isLt
  unfold iblk w1
  show m _ _ = m _ _
  congr 1
  funext a
  apply Fin.ext
  show (cc0_transform_1 (F := F) k0_off1_inb numel1_S1 (tabs T0 T1) (grid0.coords t)) a * S1x1x1024x2048.size a + 1 * (x a).val = _
  rw [idx T0 T1 h t]
  fin_cases a
  · show 0 * 1 + 1 * (x 0).val = 0
    omega
  · show (at_ T0 h t).val * 1 + 1 * (x 1).val = (at_ T0 h t).val
    omega
  · show 0 * S1x1x1024x2048.size 2 + 1 * (x 2).val = (x 2).val
    omega
  · show 0 * S1x1x1024x2048.size 3 + 1 * (x 3).val = (x 3).val
    omega

theorem iblk_b1 (c : Dev nD) (t : Fin grid0.N) : iblk T0 T1 h m c 2 t = b1 m c (at_ T0 h t) := by
  refine funext fun x : S1x1x1x2048.Idx => ?_
  have hx0 : (x 0).val < 1 := (x 0).isLt
  have hx1 : (x 1).val < 1 := (x 1).isLt
  unfold iblk b1
  show m _ _ = m _ _
  congr 1
  funext a
  apply Fin.ext
  show (cc0_transform_2 (F := F) k0_off1_inb numel1_S1 (tabs T0 T1) (grid0.coords t)) a * S1x1x1x2048.size a + 1 * (x a).val = _
  rw [idx2 T0 T1 h t]
  fin_cases a
  · show 0 * 1 + 1 * (x 0).val = 0
    omega
  · show (at_ T0 h t).val * 1 + 1 * (x 1).val = (at_ T0 h t).val
    omega
  · show 0 * S1x1x1x2048.size 2 + 1 * (x 2).val = (x 2).val
    omega
  · show 0 * S1x1x1x2048.size 3 + 1 * (x 3).val = (x 3).val
    omega

theorem iblk_w2 (c : Dev nD) (t : Fin grid0.N) : iblk T0 T1 h m c 3 t = w2 m c (at_ T0 h t) := by
  refine funext fun x : S1x1x1024x1024.Idx => ?_
  have hx0 : (x 0).val < 1 := (x 0).isLt
  have hx1 : (x 1).val < 1 := (x 1).isLt
  unfold iblk w2
  show m _ _ = m _ _
  congr 1
  funext a
  apply Fin.ext
  show (cc0_transform_3 (F := F) k0_off1_inb numel1_S1 (tabs T0 T1) (grid0.coords t)) a * S1x1x1024x1024.size a + 1 * (x a).val = _
  rw [idx3 T0 T1 h t]
  fin_cases a
  · show 0 * 1 + 1 * (x 0).val = 0
    omega
  · show (at_ T0 h t).val * 1 + 1 * (x 1).val = (at_ T0 h t).val
    omega
  · show 0 * S1x1x1024x1024.size 2 + 1 * (x 2).val = (x 2).val
    omega
  · show 0 * S1x1x1024x1024.size 3 + 1 * (x 3).val = (x 3).val
    omega

theorem iblk_b2 (c : Dev nD) (t : Fin grid0.N) : iblk T0 T1 h m c 4 t = b2 m c (at_ T0 h t) := by
  refine funext fun x : S1x1x1x1024.Idx => ?_
  have hx0 : (x 0).val < 1 := (x 0).isLt
  have hx1 : (x 1).val < 1 := (x 1).isLt
  unfold iblk b2
  show m _ _ = m _ _
  congr 1
  funext a
  apply Fin.ext
  show (cc0_transform_4 (F := F) k0_off1_inb numel1_S1 (tabs T0 T1) (grid0.coords t)) a * S1x1x1x1024.size a + 1 * (x a).val = _
  rw [idx4 T0 T1 h t]
  fin_cases a
  · show 0 * 1 + 1 * (x 0).val = 0
    omega
  · show (at_ T0 h t).val * 1 + 1 * (x 1).val = (at_ T0 h t).val
    omega
  · show 0 * S1x1x1x1024.size 2 + 1 * (x 2).val = (x 2).val
    omega
  · show 0 * S1x1x1x1024.size 3 + 1 * (x 3).val = (x 3).val
    omega

end Cert.Kernel2Ideal.Experts

end
-- ==== Proof.Experts.Run.lean ====
/- # The run

The pipeline's proof data, the body's obligation at every point, the launch and the frame, at tables in range and over any float
values. Between points the scratch holds the weights of the last point's expert. -/
module

public import proofs.«01_k».proof.Proof.Experts.Tables
public import Idealize.ShloMosaic.Lib.Pipeline.Quiescent
public import Idealize.ShloMosaic.Lib.Pipeline.Kit
public import Idealize.ShloMosaic.Lib.Pipeline.FrameBody
public import Idealize.ShloMosaic.Lib.Claim
public import Idealize.ShloMosaic.Lib.Writes
public import Idealize.ShloMosaic.Lib.Ring
public import Idealize.ShloMosaic.Lib.Exec
public import Idealize.ShloMosaic.Lib.Tactic
public import Idealize.ShloMosaic.Adequacy

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal.Gen Cert.Attn

variable {F : FTy → Type} [FloatOps F]
variable (T0 : S560.Idx → BitVec 32) (T1 : S1.Idx → BitVec 32) (h : InRange T0)
variable (m : (ℓ : Loc nD τ sig) → Buf (Elt F) ℓ) (ρ : Dev nD → PrngReg)

abbrev ES (F : FTy → Type) : Type := sProp (MT nD τ sig Unit (Elt F) ℕ (UR sig nD τ) ℕ)

/-- The rounded weights of expert `e`, as the scratch holds them. -/
def held1 (c : Dev nD) (e : Fin 32) : Vec F S1024x2048 .bf16 := k0_pay1 (w1 m c e)
def held2 (c : Dev nD) (e : Fin 32) : Vec F S1024x1024 .bf16 := k0_pay2 (w2 m c e)

/-- The block of the result that a point leaves. -/
def outBlk (c : Dev nD) (t : Fin grid0.N) : Vec F S256x1024 .bf16 :=
  if k0_cond2 (grid0.coords t) (count (F := F) T1) = 1#1 then
    ffn (rows m c t) (held1 m c (at_ T0 h t)) (b1 m c (at_ T0 h t)) (held2 m c (at_ T0 h t)) (b2 m c (at_ T0 h t))
  else k0_pay4

/-- The expert of the point before position `n`. -/
def last (n : ℕ) : Fin 32 := if hn : n - 1 < grid0.N then at_ T0 h ⟨n - 1, hn⟩ else 0

theorem last_succ (t : Fin grid0.N) : last T0 h (t.val + 1) = at_ T0 h t := by
  unfold last
  rw [dif_pos (show t.val + 1 - 1 < grid0.N from t.isLt)]
  rfl

/-- Where the weights are not taken anew, the point before has the same expert. -/
theorem not_fresh (t : Fin grid0.N)
    (hn : ¬ fresh (grid0.coords t) (before (F := F) T0 (grid0.coords t)) (expert (F := F) T0 (grid0.coords t)) = 1#1) :
    t.val ≠ 0 ∧ last T0 h t.val = at_ T0 h t := by
  have hor : ¬ ((grid0.coords t 0).val = 0 ∨ expert (F := F) T0 (grid0.coords t) ≠ before (F := F) T0 (grid0.coords t)) := by
    intro ho
    apply hn
    unfold fresh
    have key : ∀ p q : BitVec 1, p = 1#1 ∨ q = 1#1 → Scalar.cmpi .ne (Scalar.extui (Scalar.ori p q) : BitVec 32) 0#32 = 1#1 := by decide
    refine key _ _ (ho.imp (fun h0 => ?_) fun h1 => ?_)
    · rw [h0]; rfl
    · show BitVec.ofBool (expert (F := F) T0 (grid0.coords t) != before (F := F) T0 (grid0.coords t)) = 1#1
      rw [bne_iff_ne.mpr h1]; rfl
  rw [coord t] at hor
  push Not at hor
  refine ⟨hor.1, ?_⟩
  have e := congrArg BitVec.toNat hor.2
  rw [expert_eq T0 h t, before_eq T0 h t hor.1] at e
  unfold last
  rw [dif_pos (show t.val - 1 < grid0.N by have := t.isLt; omega)]
  exact (Fin.ext e).symm

abbrev sc0 : Memref sig .tc .vmem S1024x2048 .bf16 := Memref.whole cc0_scratch0
abbrev sc1 : Memref sig .tc .vmem S1024x1024 .bf16 := Memref.whole cc0_scratch1
abbrev tb0 : Memref sig .tc .smem S560 .i32 := Memref.whole main_arg2
abbrev tb1 : Memref sig .tc .smem S1 .i32 := Memref.whole main_arg3

/-- Between points: the scratch with the last expert's weights, and a half of the tables. -/
def Phi (c : Dev nD) (n : ℕ) : ES F :=
  iprop(∃ a, ∃ b, ⌜n ≠ 0 → a = held1 m c (last T0 h n) ∧ b = held2 m c (last T0 h n)⌝
    ∗ owns (c : Thread nD τ) sc0 fullShare a ∗ owns (c : Thread nD τ) sc1 fullShare b
    ∗ owns (Val := Elt F) (c : Thread nD τ) tb0 fullShare.right T0 ∗ owns (Val := Elt F) (c : Thread nD τ) tb1 fullShare.right T1)

/-- The pipeline's proof data. -/
def dats (_ : Fin 1) (c : Dev nD) : Dat τ (Elt F) Unit ℕ (UR sig nD τ) ℕ (cfgA (F := F) T0 T1 h) c where
  A w := m (((cfgA (F := F) T0 T1 h).win w).arr.view.loc (c : Thread nD τ))
  after w t := match w with
    | ⟨0, _⟩ => rows m c t
    | ⟨1, _⟩ => w1 m c (at_ T0 h t)
    | ⟨2, _⟩ => b1 m c (at_ T0 h t)
    | ⟨3, _⟩ => w2 m c (at_ T0 h t)
    | ⟨4, _⟩ => b2 m c (at_ T0 h t)
    | ⟨5, _⟩ => outBlk T0 T1 h m c t
  Φ t := Phi T0 T1 h m c t.val
  q _ := fullShare
  owed _ := 0

theorem before0 (c : Dev nD) (t : Fin (cfgA (F := F) T0 T1 h).N) (d) : (dats T0 T1 h m 0 c).before (0 : Fin 6) t d = rows m c t :=
  ((dats T0 T1 h m 0 c).before_in_eq_fetched (0 : Fin 6) rfl (fun _ => rfl) (fun _ _ _ => rfl)
    (fun t => (iblk_rows T0 T1 h m c t).symm.trans (by unfold Dat.blockOf iblk; rfl)) t d).trans
    ((by unfold Dat.fetched Dat.blockOf iblk; rfl : _ = iblk T0 T1 h m c (0 : Fin 6) t).trans (iblk_rows T0 T1 h m c t))
theorem before1 (c : Dev nD) (t : Fin (cfgA (F := F) T0 T1 h).N) (d) : (dats T0 T1 h m 0 c).before (1 : Fin 6) t d = w1 m c (at_ T0 h t) :=
  ((dats T0 T1 h m 0 c).before_in_eq_fetched (1 : Fin 6) rfl (fun _ => rfl) (fun _ _ _ => rfl)
    (fun t => (iblk_w1 T0 T1 h m c t).symm.trans (by unfold Dat.blockOf iblk; rfl)) t d).trans
    ((by unfold Dat.fetched Dat.blockOf iblk; rfl : _ = iblk T0 T1 h m c (1 : Fin 6) t).trans (iblk_w1 T0 T1 h m c t))
theorem before2 (c : Dev nD) (t : Fin (cfgA (F := F) T0 T1 h).N) (d) : (dats T0 T1 h m 0 c).before (2 : Fin 6) t d = b1 m c (at_ T0 h t) :=
  ((dats T0 T1 h m 0 c).before_in_eq_fetched (2 : Fin 6) rfl (fun _ => rfl) (fun _ _ _ => rfl)
    (fun t => (iblk_b1 T0 T1 h m c t).symm.trans (by unfold Dat.blockOf iblk; rfl)) t d).trans
    ((by unfold Dat.fetched Dat.blockOf iblk; rfl : _ = iblk T0 T1 h m c (2 : Fin 6) t).trans (iblk_b1 T0 T1 h m c t))
theorem before3 (c : Dev nD) (t : Fin (cfgA (F := F) T0 T1 h).N) (d) : (dats T0 T1 h m 0 c).before (3 : Fin 6) t d = w2 m c (at_ T0 h t) :=
  ((dats T0 T1 h m 0 c).before_in_eq_fetched (3 : Fin 6) rfl (fun _ => rfl) (fun _ _ _ => rfl)
    (fun t => (iblk_w2 T0 T1 h m c t).symm.trans (by unfold Dat.blockOf iblk; rfl)) t d).trans
    ((by unfold Dat.fetched Dat.blockOf iblk; rfl : _ = iblk T0 T1 h m c (3 : Fin 6) t).trans (iblk_w2 T0 T1 h m c t))
theorem before4 (c : Dev nD) (t : Fin (cfgA (F := F) T0 T1 h).N) (d) : (dats T0 T1 h m 0 c).before (4 : Fin 6) t d = b2 m c (at_ T0 h t) :=
  ((dats T0 T1 h m 0 c).before_in_eq_fetched (4 : Fin 6) rfl (fun _ => rfl) (fun _ _ _ => rfl)
    (fun t => (iblk_b2 T0 T1 h m c t).symm.trans (by unfold Dat.blockOf iblk; rfl)) t d).trans
    ((by unfold Dat.fetched Dat.blockOf iblk; rfl : _ = iblk T0 T1 h m c (4 : Fin 6) t).trans (iblk_b2 T0 T1 h m c t))

/-- The body writes every block of the result. -/
theorem idle5 (t : Fin (cfgA (F := F) T0 T1 h).N) : (cfgA (F := F) T0 T1 h).idle (5 : Fin 6) ((cfgA (F := F) T0 T1 h).grid.coords t) = false := by
  have key : ∀ n : BitVec 32, (!(k0_cond2 (grid0.coords t) n == 1#1) && !(k0_cond3 (grid0.coords t) n == 1#1)) = false := by
    intro n
    have := used_or_rest (grid0.coords t) n
    by_cases h2 : k0_cond2 (grid0.coords t) n = 1#1
    · simp [h2]
    · simp [this.mpr h2]
  exact key _

abbrev st0 (t : Fin (cfgA (F := F) T0 T1 h).N) : Memref sig .tc .vmem S256x1024 .bf16 := spec0_0.stage ((cfgA (F := F) T0 T1 h).slots t (0 : Fin 6))
abbrev st1 (t : Fin (cfgA (F := F) T0 T1 h).N) : Memref sig .tc .vmem S1x1x1024x2048 .f32 := spec0_1.stage ((cfgA (F := F) T0 T1 h).slots t (1 : Fin 6))
abbrev st2 (t : Fin (cfgA (F := F) T0 T1 h).N) : Memref sig .tc .vmem S1x1x1x2048 .f32 := spec0_2.stage ((cfgA (F := F) T0 T1 h).slots t (2 : Fin 6))
abbrev st3 (t : Fin (cfgA (F := F) T0 T1 h).N) : Memref sig .tc .vmem S1x1x1024x1024 .f32 := spec0_3.stage ((cfgA (F := F) T0 T1 h).slots t (3 : Fin 6))
abbrev st4 (t : Fin (cfgA (F := F) T0 T1 h).N) : Memref sig .tc .vmem S1x1x1x1024 .f32 := spec0_4.stage ((cfgA (F := F) T0 T1 h).slots t (4 : Fin 6))
abbrev st5 (t : Fin (cfgA (F := F) T0 T1 h).N) : Memref sig .tc .vmem S256x1024 .bf16 := spec0_5.stage ((cfgA (F := F) T0 T1 h).slots t (5 : Fin 6))

/-- The body at a point, from what stands before it to what stands after. -/
theorem point (c : Dev nD) (t : Fin grid0.N) (R : ES F) :
    iprop(Phi T0 T1 h m c t.val ∗ R
        ∗ owns (c : Thread nD τ) (st0 (F := F) T0 T1 h t) fullShare (rows m c t)
        ∗ owns (c : Thread nD τ) (st1 (F := F) T0 T1 h t) fullShare (w1 m c (at_ T0 h t))
        ∗ owns (c : Thread nD τ) (st2 (F := F) T0 T1 h t) fullShare (b1 m c (at_ T0 h t))
        ∗ owns (c : Thread nD τ) (st3 (F := F) T0 T1 h t) fullShare (w2 m c (at_ T0 h t))
        ∗ owns (c : Thread nD τ) (st4 (F := F) T0 T1 h t) fullShare (b2 m c (at_ T0 h t))
        ∗ (∃ o, owns (c : Thread nD τ) (st5 (F := F) T0 T1 h t) fullShare o))
      ⊢ wp frame (wpE (defs₀ (F := F)) Variants.none (c : Thread nD τ) none) Set.univ
          (cc0__expert_kernel (F := F) (grid0.coords t) tb0 (Memref.isWhole_whole _) tb1 (Memref.isWhole_whole _)
            (st0 (F := F) T0 T1 h t) (hstage0_0 (((cfgA (F := F) T0 T1 h).slots t (0 : Fin 6)).cast nbuf0_0))
            (st1 (F := F) T0 T1 h t) (hstage0_1 (((cfgA (F := F) T0 T1 h).slots t (1 : Fin 6)).cast nbuf0_1))
            (st2 (F := F) T0 T1 h t) (hstage0_2 (((cfgA (F := F) T0 T1 h).slots t (2 : Fin 6)).cast nbuf0_2))
            (st3 (F := F) T0 T1 h t) (hstage0_3 (((cfgA (F := F) T0 T1 h).slots t (3 : Fin 6)).cast nbuf0_3))
            (st4 (F := F) T0 T1 h t) (hstage0_4 (((cfgA (F := F) T0 T1 h).slots t (4 : Fin 6)).cast nbuf0_4))
            (st5 (F := F) T0 T1 h t) (hstage0_5 (((cfgA (F := F) T0 T1 h).slots t (5 : Fin 6)).cast nbuf0_5))
            sc0 (Memref.isWhole_whole _) sc1 (Memref.isWhole_whole _)) fun _ =>
          iprop(Phi T0 T1 h m c (t.val + 1) ∗ R
            ∗ owns (c : Thread nD τ) (st0 (F := F) T0 T1 h t) fullShare (rows m c t)
            ∗ owns (c : Thread nD τ) (st1 (F := F) T0 T1 h t) fullShare (w1 m c (at_ T0 h t))
            ∗ owns (c : Thread nD τ) (st2 (F := F) T0 T1 h t) fullShare (b1 m c (at_ T0 h t))
            ∗ owns (c : Thread nD τ) (st3 (F := F) T0 T1 h t) fullShare (w2 m c (at_ T0 h t))
            ∗ owns (c : Thread nD τ) (st4 (F := F) T0 T1 h t) fullShare (b2 m c (at_ T0 h t))
            ∗ owns (c : Thread nD τ) (st5 (F := F) T0 T1 h t) fullShare (outBlk T0 T1 h m c t)) := by
  unfold Phi
  iintro ⟨⟨%a, %b, %hab, HS0, HS1, HT0, HT1⟩, HR, H0, H1, H2, H3, H4, ⟨%o, H5⟩⟩
  iapply (body (F := F) c (q1 := fullShare.right) (q2 := fullShare.right) T0 T1 (rows m c t) (w1 m c (at_ T0 h t)) (b1 m c (at_ T0 h t))
    (w2 m c (at_ T0 h t)) (b2 m c (at_ T0 h t)) (o := o) (a := a) (b := b) (R := R) (grid0.coords t)
    (a' := held1 m c (at_ T0 h t)) (b' := held2 m c (at_ T0 h t)) (o' := outBlk T0 T1 h m c t)
    (fun _ => ⟨rfl, rfl⟩)
    (fun hn => by
      obtain ⟨h0, hl⟩ := not_fresh (F := F) T0 h t hn
      have := hab h0
      rw [hl] at this
      exact ⟨this.1.symm, this.2.symm⟩)
    (fun hu => by unfold outBlk; rw [if_pos hu])
    (fun hr => by unfold outBlk; rw [if_neg hr])
    ?_)
  swap
  · unfold Pt
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iexact HR
  · unfold Pt
    iintro ⟨HT0, HT1, H0, H1, H2, H3, H4, H5, HS0, HS1, HR⟩
    isplitl [HS0 HS1 HT0 HT1]
    · iexists (held1 m c (at_ T0 h t)); iexists (held2 m c (at_ T0 h t))
      isplitr; · ipureintro; intro _; rw [last_succ T0 h t]; exact ⟨rfl, rfl⟩
      isplitl [HS0]; · iexact HS0
      isplitl [HS1]; · iexact HS1
      isplitl [HT0]; · iexact HT0
      iexact HT1
    isplitl [HR]; · iexact HR
    isplitl [H0]; · iexact H0
    isplitl [H1]; · iexact H1
    isplitl [H2]; · iexact H2
    isplitl [H3]; · iexact H3
    isplitl [H4]; · iexact H4
    iexact H5

/-- The body's obligation at every point. -/
theorem body_obligation (c : Dev nD) : BodyObligation (dats T0 T1 h m 0 c) (defs₀ (F := F)) Variants.none () Set.univ := fun t => by
  rw [bigSep_W0, bigSep_W0, idle5 T0 T1 h t]
  simp only [before0, before1, before2, before3, before4]
  rewrite [show (dats T0 T1 h m 0 c).Φ t.castSucc = Phi T0 T1 h m c t.val from rfl, show (dats T0 T1 h m 0 c).Φ t.succ = Phi T0 T1 h m c (t.val + 1) from rfl,
    show (dats T0 T1 h m 0 c).owesAt () t.succ = (dats T0 T1 h m 0 c).owesAt () t.castSucc from rfl]
  iintro ⟨HP, Ho, ⟨%d0, H0⟩, ⟨%d1, H1⟩, ⟨%d2, H2⟩, ⟨%d3, H3⟩, ⟨%d4, H4⟩, ⟨%d5, H5⟩⟩
  iapply (point T0 T1 h m c t ((dats T0 T1 h m 0 c).owesAt () t.castSucc))
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexists _; iexact H5

/-! ## The launch -/

/-- The launch's element of the resource algebra. -/
def u₀ : UR sig nD τ :=
  initOf (Pipeline.cells (pcs (F := F) T0 T1 h) ((launch0 (F := F)).cellOf_inj fun _ => adm T0 T1 h))
    (Pipeline.launchToks (pcs (F := F) T0 T1 h) ((launch0 (F := F)).cellOf_inj fun _ => adm T0 T1 h))

theorem share_eq (c : Dev nD) (w : Fin (cfgA (F := F) T0 T1 h).W) : (dats T0 T1 h m 0 c).share w = fullShare := by
  unfold Dat.share; split <;> rfl

/-- The tables that the launch hands over. -/
theorem tables_held (c : Dev nD) (q : Fin 2 → PosShare TreeShare) (v : pre0.Contents (Elt F)) :
    (Pipeline.prefHeld (Ix := Unit) (Name := ℕ) (U := UR sig nD τ) (Lvl := ℕ) pre0 c q v : ES F)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide, bigSep_insert (by decide), bigSep_singleton]
  rfl

theorem Phi_first (c : Dev nD) :
    iprop(BI.emp ∗ Pipeline.prefHeld pre0 c (fun _ => fullShare.right) (adm T0 T1 h).1 ∗ Pipeline.scopedRest spec0 c) ⊢ (dats T0 T1 h m 0 c).Φ 0 := by
  rw [tables_held, scopedRest0_eq, show (dats T0 T1 h m 0 c).Φ 0 = Phi T0 T1 h m c 0 from rfl]
  unfold Phi
  simp only [owns_whole]
  iintro ⟨-, ⟨HT0, HT1⟩, ⟨%a, HS0⟩, ⟨%b, HS1⟩⟩
  iexists a; iexists b
  isplitr; · ipureintro; intro h0; exact absurd rfl h0
  isplitl [HS0]; · iexact HS0
  isplitl [HS1]; · iexact HS1
  isplitl [HT0]; · iexact HT0
  iexact HT1

theorem Phi_last (c : Dev nD) : (dats T0 T1 h m 0 c).Φ (Fin.last (cfgA (F := F) T0 T1 h).N) ⊢ iprop(BI.emp ∗ Pipeline.scopedRest spec0 c) := by
  rw [scopedRest0_eq, show (dats T0 T1 h m 0 c).Φ (Fin.last (cfgA (F := F) T0 T1 h).N) = Phi T0 T1 h m c (cfgA (F := F) T0 T1 h).N from rfl]
  unfold Phi
  simp only [owns_whole]
  iintro ⟨%a, %b, -, HS0, HS1, -, -⟩
  isplitr; · iempintro
  isplitl [HS0]
  · iexists a; iexact HS0
  iexists b; iexact HS1

/-- The memory holds the tables. -/
def Holds : Prop := ∀ c : Dev nD, m ((c : Thread nD τ).loc main_arg2) = T0 ∧ m ((c : Thread nD τ).loc main_arg3) = T1

theorem hostOps0_fresh : (hostOps0 : List (HloOp τ sig (Elt F))).Forall fun op => op.fresh = ∅ := by
  simp only [List.Forall]; repeat' constructor

/-- The host writes none of the arguments. -/
theorem entry_kept (c : Dev nD) (b : Ref sig .tc) (hb : b ∉ [main_c, main_v0, main_v1, main_c_0, main_v2, main_v3, main_v4, main_v5, main_v6, main_v7, main_v8]) :
    entry m ((c : Thread nD τ).loc b) = m ((c : Thread nD τ).loc b) := by
  simp only [List.mem_cons, List.not_mem_nil, or_false, not_or] at hb
  obtain ⟨h1, h2, h3, h4, h5, h6, h7, h8, h9, h10, h11⟩ := hb
  refine StableHlo.after_of_forall_not_mem (b := Proc.devRef .tc b) _ _ (List.forall_iff_forall_mem.mp ?_)
  simp only [List.Forall, StableHlo.nullary_writes, StableHlo.unary_writes, StableHlo.binary_writes, StableHlo.ternary_writes,
    StableHlo.reshape_writes, Finset.mem_singleton]
  exact ⟨StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8,
    StableHlo.devRef_ne_of_ne h9, StableHlo.devRef_ne_of_ne h10, StableHlo.devRef_ne_of_ne h11⟩

/-- Every array ends as the proof data says, every table and every buffer beside them as the call found it. -/
def Post : PUnit × MemSt nD τ sig (Elt F) → Prop := fun r =>
  ∀ c : Dev nD, (∀ w : Fin (cfgA (F := F) T0 T1 h).W, r.2.mem (((cfgA (F := F) T0 T1 h).win w).arr.view.loc (c : Thread nD τ)) = (dats T0 T1 h (entry m) 0 c).arrAt w (cfgA (F := F) T0 T1 h).N)
    ∧ (∀ j, r.2.mem ((c : Thread nD τ).loc (pre0.ref j)) = (adm (F := F) T0 T1 h).1 j)
    ∧ ∀ b ∈ Pipeline.restRefsP sig pre0 spec0, r.2.mem ((c : Thread nD τ).loc b) = entry m ((c : Thread nD τ).loc b)

theorem tables_at (hm : Holds T0 T1 m) (c : Dev nD) (j : Fin 2) : entry m ((c : Thread nD τ).loc (pre0.ref j)) = (adm (F := F) T0 T1 h).1 j := by
  fin_cases j
  · exact (entry_kept m c main_arg2 (by decide)).trans (hm c).1
  · exact (entry_kept m c main_arg3 (by decide)).trans (hm c).2

set_option backward.isDefEq.respectTransparency.types false in
set_option maxHeartbeats 4000000 in
/-- Every fair execution ends, with the arrays as `Post` says and every counter at zero. -/
theorem run_main (hm : Holds T0 T1 m) :
    θ_run (defs (F := F)) (onTc (τ := τ) (main (F := F))) (s₀ m ρ) (fun r => Post T0 T1 h m r ∧ r.2.sem = fun _ => 0) :=
  Pipeline.θ_run_region_noSem_pf_quiescent pcfgs (fun _ => adm T0 T1 h) (dats T0 T1 h (entry m)) () ((launch0 (F := F)).cellOf_inj fun _ => adm T0 T1 h) (0 : Fin 1)
    (launch0 (F := F)).win.to₀ (launch0 (F := F)).pre emb₁ defs₀ Variants.none m ρ main
    (hbody := fun c => (body_obligation T0 T1 h (entry m) c).loose) (hne := (launch0 (F := F)).block_pos)
    (harr := (launch0 (F := F)).arr_whole) (hstage := (launch0 (F := F)).stage_whole) (howed := fun _ _ => rfl)
    (u₀ := u₀ (F := F) T0 T1 h) (hu₀ := .rfl)
    (V := fun c b => entry m ((c : Thread nD τ).loc b))
    (hmain := Pipeline.hmainP_prefix pcfgs 0 defs₀ Variants.none m main hostOps0 hostOps0_sub hostOps0_fresh main_chain)
    (hsplit := fun c => Pipeline.arrays_split (pcs T0 T1 h) (dats T0 T1 h (entry m)) 0 (launch0 (F := F)).win.arr_inj c (launch0 (F := F)).arr_whole
      (share_eq T0 T1 h (entry m) c) _ _ fun _ => rfl)
    (hpf := tables_at T0 T1 h m hm)
    (X := fun _ => iprop(emp)) (Y := fun _ => iprop(emp))
    (Z := fun c => Pipeline.unscopedRestP (Ix := Unit) (Name := ℕ) (U := UR sig nD τ) (Lvl := ℕ) pre0 spec0 c fun b => entry m ((c : Thread nD τ).loc b))
    (hX := fun c => by
      iintro HU
      isplitr; · iempintro
      iexact HU)
    (hin := Phi_first T0 T1 h (entry m))
    (hout := Phi_last T0 T1 h (entry m))
    (QY := fun c s => ∀ b ∈ Pipeline.restRefsP sig pre0 spec0, s.mem ((c : Thread nD τ).loc b) = entry m ((c : Thread nD τ).loc b))
    (hY := fun c s' => by
      iintro ⟨-, HU, HSI⟩
      unfold Pipeline.unscopedRestP
      imodintro
      iapply (pointsTo_read_all (Pipeline.restRefsP sig pre0 spec0) (fun b => (c : Thread nD τ).loc b) (fun b => entry m ((c : Thread nD τ).loc b)) s')
      isplitl [HU] <;> iassumption)
    (hQ := fun _ h hz => ⟨fun c => ⟨(h c).1, (h c).2.1, (h c).2.2⟩, hz⟩)

/-- A buffer beside the arrays and the tables. -/
theorem mem_rest (b : Ref sig .tc) (hs : b.isScoped = false) (ha : ∀ w, (spec0 w).arr.view.ref ≠ b) (ht : ∀ j, pre0.ref j ≠ b) :
    b ∈ Pipeline.restRefsP sig pre0 spec0 :=
  Finset.mem_sdiff.mpr ⟨Pipeline.mem_restRefs_of b hs ha, fun hb => by
    obtain ⟨j, -, hj⟩ := Finset.mem_image.mp hb
    exact ht j hj⟩

include h in
/-- The arguments end unchanged. -/
theorem frame (hm : Holds T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hp => ⟨fun c => ⟨
      ((hp.1 c).2.2 main_arg0 (mem_rest _ (by decide) (by decide) (by decide))).trans (entry_kept m c main_arg0 (by decide)),
      ((hp.1 c).2.2 main_arg1 (mem_rest _ (by decide) (by decide) (by decide))).trans (entry_kept m c main_arg1 (by decide)),
      ((hp.1 c).2.1 0).trans (hm c).1.symm, ((hp.1 c).2.1 1).trans (hm c).2.symm,
      ((hp.1 c).1 (1 : Fin 6)).trans (((dats T0 T1 h (entry m) 0 c).arrAt_in (1 : Fin 6) rfl _).trans (entry_kept m c main_arg4 (by decide))),
      ((hp.1 c).2.2 main_arg5 (mem_rest _ (by decide) (by decide) (by decide))).trans (entry_kept m c main_arg5 (by decide)),
      ((hp.1 c).1 (3 : Fin 6)).trans (((dats T0 T1 h (entry m) 0 c).arrAt_in (3 : Fin 6) rfl _).trans (entry_kept m c main_arg6 (by decide))),
      ((hp.1 c).2.2 main_arg7 (mem_rest _ (by decide) (by decide) (by decide))).trans (entry_kept m c main_arg7 (by decide))⟩, hp.2⟩) (run_main T0 T1 h m ρ hm)

end Cert.Kernel2Ideal.Experts

end
-- ==== Proof.Experts.Frames.lean ====
/- # The precondition read back, and the frames

Where the predicate holds every entry of the table is one of the 32 experts; so both programs, whose texts are one, run as shown. -/
module

public import proofs.«01_k».proof.Proof.Experts.Run
public import proofs.«01_k».proof.Defs
public import proofs.«01_k».proof.Proof.Gen.Kernel2
public import Idealize.ShloMosaic.Lib.ReduceAll

@[expose] public section

set_option maxRecDepth 16384

noncomputable section

namespace Cert.Pre_experts_exist

open Idealize.ShloMosaic

/-- The shape relations the predicate states. -/
theorem facts : Facts where
  bcast_S_S560 := by decide
  reducesTo_S560_S_d0 := by decide
  h_S_ := by decide

instance : Subsingleton S_.Idx := ⟨fun a b => funext fun i => i.elim0⟩

/-- A word that is at least 0 and below 32 as a signed number is a number below 32. -/
theorem lt_of_word (x : BitVec 32) (h0 : IntOp.cmpi .sge x 0#32 = 1#1) (h1 : IntOp.cmpi .slt x 32#32 = 1#1) : x.toNat < 32 := by
  have bit : ∀ b : Bool, BitVec.ofBool b = 1#1 → b = true := by decide
  have e0 : (0#32).sle x = true := bit _ h0
  have e1 : x.slt 32#32 = true := bit _ h1
  rw [BitVec.sle_iff_toInt_le] at e0
  rw [BitVec.slt_iff_toInt_lt] at e1
  have hz : (0#32).toInt = 0 := by decide
  have ht : (32#32).toInt = 32 := by decide
  rw [hz] at e0
  rw [ht] at e1
  rw [BitVec.toInt_eq_toNat_cond] at e0 e1
  have := x.isLt
  split at e0 <;> omega

theorem inRange_of_fn {F : FTy → Type} [FloatOps F] (a0 : FVec F S33792x1024 .bf16) (a1 : IVec S143360 32) (a2 : IVec S560 32) (a3 : IVec S1 32)
    (a4 : FVec F S4x32x1024x2048 .f32) (a5 : FVec F S4x32x2048 .f32) (a6 : FVec F S4x32x1024x1024 .f32) (a7 : FVec F S4x32x1024 .f32)
    (h : @fn facts F _ a0 a1 a2 a3 a4 a5 a6 a7 = fun _ => 1#1) : ∀ i, (a2 i).toNat < 32 := fun i => by
  have e := Host.reduce_andi_all _ _ _ _ _ (congrFun h (fun i => i.elim0)) i
  obtain ⟨e0, e1⟩ := IntOp.andi_eq_one.1 e
  exact lt_of_word _ e0 e1

end Cert.Pre_experts_exist

namespace Cert.Proof

open Idealize.ShloMosaic Idealize.ShloMosaic.TcCoe Idealize.SL.Sem

theorem holds {F : FTy → Type} [FloatOps F] (m : (ℓ : Loc Cert.Kernel2Ideal.nD Cert.Kernel2Ideal.τ Cert.Kernel2Ideal.sig) → Buf (Elt F) ℓ) :
    Cert.Kernel2Ideal.Experts.Holds (F := F) (m (((0 : Dev Cert.Kernel2Ideal.nD).tc : Thread Cert.Kernel2Ideal.nD Cert.Kernel2Ideal.τ).loc Cert.Kernel2Ideal.main_arg2))
      (m (((0 : Dev Cert.Kernel2Ideal.nD).tc : Thread Cert.Kernel2Ideal.nD Cert.Kernel2Ideal.τ).loc Cert.Kernel2Ideal.main_arg3)) m := fun c => by
  obtain rfl : c = 0 := Fin.ext (by have : c.val < 1 := c.isLt; show c.val = 0; omega)
  exact ⟨rfl, rfl⟩

/-- The kernels' tables of the two programs agree. -/
theorem tables2_eq : (Cert.Kernel2.defs₀ (F := Bits)) = Cert.Kernel2Ideal.defs₀ (F := Bits) := by
  unfold Cert.Kernel2.defs₀ Cert.Kernel2Ideal.defs₀
  refine congrArg Defs.onTc ?_
  funext ℓ a
  match ℓ, a with
  | 0, (t, s) => rfl

/-- And so do the tables with the pipelines' labels. -/
theorem defs2_eq : (Cert.Kernel2.defs (F := Bits)) = Cert.Kernel2Ideal.defs (F := Bits) :=
  congrArg (Pipeline.defs (Cert.Kernel2Ideal.pcfgs (F := Bits))) tables2_eq

set_option maxHeartbeats 4000000 in
/-- The programs are one text. -/
theorem main2_eq : (Cert.Kernel2.main (F := Bits)) = Cert.Kernel2Ideal.main (F := Bits) := by
  funext c
  unfold Cert.Kernel2.main Cert.Kernel2Ideal.main
  rfl

set_option maxHeartbeats 4000000 in
theorem frame_kernel2 : Cert.quiescent_Kernel2 (hKernel2 := Cert.Kernel2.Gen.facts) (hPre_experts_exist := Cert.Pre_experts_exist.facts) := fun m ρ hp => by
  have h := Cert.Kernel2Ideal.Experts.frame (F := Bits) _ _ (Cert.Pre_experts_exist.inRange_of_fn _ _ _ _ _ _ _ _ (hp 0)) m ρ (holds (F := Bits) m)
  rw [← defs2_eq, ← main2_eq] at h
  exact h

theorem frame_kernel2Ideal : Cert.quiescent_Kernel2Ideal (hKernel2Ideal := Cert.Kernel2Ideal.Gen.facts) (hPre_experts_exist := Cert.Pre_experts_exist.facts) := fun m ρ hp =>
  Cert.Kernel2Ideal.Experts.frame (F := Ideal) _ _ (Cert.Pre_experts_exist.inRange_of_fn _ _ _ _ _ _ _ _ (hp 0)) m ρ (holds (F := Ideal) m)

end Cert.Proof

end
-- ==== Proof.Experts.Block.lean ====
/- # A block of the experts' kernel at an index

Over exact arithmetic: the gate and the other factor are sums over the row, limited; their product is carried through the second
weights. -/
module

public import proofs.«01_k».proof.Proof.Experts.Run
public import Idealize.ShloMosaic.Lib.Pointwise

@[expose] public section

set_option maxRecDepth 16384

noncomputable section

namespace Cert.Attn

open Idealize.ShloMosaic

/-- The limit of the gate and of the other factor, -/
def seven : EReal := Ideal.ofBits .f32 0x40E00000#32
/-- the other factor's lower limit -/
def minusSeven : EReal := Ideal.ofBits .f32 0xC0E00000#32
/-- and the gate's slope. -/
def slope : EReal := Ideal.ofBits .f32 0x3FD9DB23#32

/-- The gated product of a gate and another factor. -/
def gated (g l : EReal) : EReal :=
  (min seven (max minusSeven l) + 1) * (min g seven * Ideal.div 1 (1 + Ideal.exp (-(min g seven * slope))))

end Cert.Attn

namespace Cert.Kernel2Ideal.Experts

open Idealize.ShloMosaic Idealize.ShloMosaic.TcCoe
open Cert.Kernel2Ideal.Gen Cert.Attn

theorem pay1_apply (v : Vec Ideal S1x1x1024x2048 .f32) (j : Fin 1024) (k : Fin 2048) :
    k0_pay1 (F := Ideal) v (ix2 j k) = v (ix4 (0 : Fin 1) (0 : Fin 1) j k) := by
  pointwise [k0_pay1]

theorem pay2_apply (v : Vec Ideal S1x1x1024x1024 .f32) (j : Fin 1024) (k : Fin 1024) :
    k0_pay2 (F := Ideal) v (ix2 j k) = v (ix4 (0 : Fin 1) (0 : Fin 1) j k) := by
  pointwise [k0_pay2]

theorem pay4_apply (y : Fin 256) (z : Fin 1024) : k0_pay4 (F := Ideal) (ix2 y z) = (0 : EReal) := by
  pointwise [k0_pay4]

theorem pay6_apply (b : Vec Ideal S1x1x1x1024 .f32) (y : Fin 256) (z : Fin 1024) :
    k0_pay6 (F := Ideal) b (ix2 y z) = (0 : EReal) + (show EReal from b (ix4 (0 : Fin 1) (0 : Fin 1) (0 : Fin 1) z)) := by
  pointwise [k0_pay6]

theorem pay7_apply (x : Vec Ideal S256x1024 .bf16) (w : Vec Ideal S1024x1024 .bf16) (b : Vec Ideal S1x1x1x1024 .f32) (y : Fin 256) (z : Fin 1024) :
    k0_pay7 (F := Ideal) x w b (ix2 y z)
      = min ((∑ j : Fin 1024, (show EReal from x (ix2 y j)) * (show EReal from w (ix2 j z)))
          + (show EReal from b (ix4 (0 : Fin 1) (0 : Fin 1) (0 : Fin 1) z))) seven := by
  pointwise [k0_pay7, k0_pay5]
  rfl

theorem pay8_apply (x : Vec Ideal S256x1024 .bf16) (w : Vec Ideal S1024x1024 .bf16) (b : Vec Ideal S1x1x1x1024 .f32) (y : Fin 256) (z : Fin 1024) :
    k0_pay8 (F := Ideal) x w b (ix2 y z)
      = min seven (max minusSeven ((∑ j : Fin 1024, (show EReal from x (ix2 y j)) * (show EReal from w (ix2 j z)))
          + (show EReal from b (ix4 (0 : Fin 1) (0 : Fin 1) (0 : Fin 1) z)))) + 1 := by
  pointwise [k0_pay8, k0_pay5]
  rfl

theorem pay9_apply (x : Vec Ideal S256x1024 .bf16) (w : Vec Ideal S1024x1024 .bf16) (b : Vec Ideal S1x1x1x1024 .f32) (y : Fin 256) (z : Fin 1024) :
    k0_pay9 (F := Ideal) x w b (ix2 y z)
      = Ideal.exp (((0 : EReal) - (show EReal from k0_pay7 (F := Ideal) x w b (ix2 y z))) * slope) := by
  pointwise [k0_pay9, k0_pay5]
  rfl

theorem pay3_apply (o g l e : FVec Ideal S256x1024 .f32) (w : Vec Ideal S1024x1024 .bf16) (y : Fin 256) (z : Fin 1024) :
    k0_pay3 (F := Ideal) o g l e (Scalar.ofBits .f32 0x3F800000#32) w (ix2 y z)
      = (show EReal from o (ix2 y z)) + ∑ k : Fin 1024, ((show EReal from l (ix2 y k)) * ((show EReal from g (ix2 y k))
          * Ideal.div 1 (1 + (show EReal from e (ix2 y k))))) * (show EReal from w (ix2 k z)) := by
  pointwise [k0_pay3]

theorem gateW_apply (w : Vec Ideal S1024x2048 .bf16) (j z : Fin 1024) :
    gateW w (ix2 j z) = w (ix2 j (⟨z.val, by have := z.isLt; omega⟩ : Fin 2048)) := by
  refine congrArg w (funext fun a => Fin.ext ?_)
  fin_cases a
  · show 0 + 1 * j.val = j.val; omega
  · show 0 + 1 * z.val = z.val; omega

theorem linW_apply (w : Vec Ideal S1024x2048 .bf16) (j z : Fin 1024) :
    linW w (ix2 j z) = w (ix2 j (⟨1024 + z.val, by have := z.isLt; omega⟩ : Fin 2048)) := by
  refine congrArg w (funext fun a => Fin.ext ?_)
  fin_cases a
  · show 0 + 1 * j.val = j.val; omega
  · show 1024 + 1 * z.val = 1024 + z.val; omega

theorem gateB_apply (b : Vec Ideal S1x1x1x2048 .f32) (z : Fin 1024) :
    gateB b (ix4 (0 : Fin 1) (0 : Fin 1) (0 : Fin 1) z) = b (ix4 (0 : Fin 1) (0 : Fin 1) (0 : Fin 1) (⟨z.val, by have := z.isLt; omega⟩ : Fin 2048)) := by
  refine congrArg b (funext fun a => Fin.ext ?_)
  fin_cases a <;> first | rfl | skip
  show 0 + 1 * z.val = z.val; omega

theorem linB_apply (b : Vec Ideal S1x1x1x2048 .f32) (z : Fin 1024) :
    linB b (ix4 (0 : Fin 1) (0 : Fin 1) (0 : Fin 1) z) = b (ix4 (0 : Fin 1) (0 : Fin 1) (0 : Fin 1) (⟨1024 + z.val, by have := z.isLt; omega⟩ : Fin 2048)) := by
  refine congrArg b (funext fun a => Fin.ext ?_)
  fin_cases a <;> first | rfl | skip
  show 1024 + 1 * z.val = 1024 + z.val; omega

/-- A hidden column of a row: the row with an expert's first weights, and the offset. -/
def column (x : Fin 1024 → EReal) (w : Fin 1024 → Fin 2048 → EReal) (b : Fin 2048 → EReal) (k : Fin 2048) : EReal :=
  (∑ j : Fin 1024, x j * w j k) + b k

/-- An expert's result for a row: the gated products of the hidden columns with the second weights, and the offset. -/
def rowResult (x : Fin 1024 → EReal) (w : Fin 1024 → Fin 2048 → EReal) (b : Fin 2048 → EReal) (v : Fin 1024 → Fin 1024 → EReal)
    (d : Fin 1024 → EReal) (z : Fin 1024) : EReal :=
  (∑ k : Fin 1024, gated (column x w b (⟨k.val, by have := k.isLt; omega⟩ : Fin 2048)) (column x w b (⟨1024 + k.val, by have := k.isLt; omega⟩ : Fin 2048)) * v k z) + d z

/-- A block in use is its rows' results. -/
theorem ffn_apply (x : Vec Ideal S256x1024 .bf16) (w : Vec Ideal S1x1x1024x2048 .f32) (b : Vec Ideal S1x1x1x2048 .f32)
    (v : Vec Ideal S1x1x1024x1024 .f32) (d : Vec Ideal S1x1x1x1024 .f32) (y : Fin 256) (z : Fin 1024) :
    ffn (F := Ideal) x (k0_pay1 w) b (k0_pay2 v) d (ix2 y z)
      = rowResult (fun j => x (ix2 y j)) (fun j k => w (ix4 (0 : Fin 1) (0 : Fin 1) j k)) (fun k => b (ix4 (0 : Fin 1) (0 : Fin 1) (0 : Fin 1) k))
          (fun k z => v (ix4 (0 : Fin 1) (0 : Fin 1) k z)) (fun z => d (ix4 (0 : Fin 1) (0 : Fin 1) (0 : Fin 1) z)) z := by
  unfold ffn rowResult
  rw [pay3_apply, pay6_apply, zero_add, add_comm]
  refine congrArg (· + _) (Finset.sum_congr rfl fun k _ => ?_)
  rw [pay2_apply, pay8_apply, pay9_apply, pay7_apply, gateB_apply, linB_apply]
  simp only [gateW_apply, linW_apply, pay1_apply]
  refine congrArg (· * _) ?_
  rw [zero_sub, EReal.neg_mul]
  rfl

end Cert.Kernel2Ideal.Experts

end
-- ==== Proof.Experts.Ref.lean ====
/- # The experts' reference, read at an index

The reference takes every block's own copy of its expert's weights; entry by entry a copy is the expert's weights. -/
module

public import proofs.«01_k».proof.Proof.Gen.Reference2Ideal
public import proofs.«01_k».proof.Proof.Gen.Reference2Ideal.Run
public import proofs.«01_k».proof.Proof.Experts.Block
public import Idealize.ShloMosaic.Lib.Pointwise

@[expose] public section

set_option maxRecDepth 16384

noncomputable section

namespace Cert.Reference2Ideal.Experts

open Idealize.ShloMosaic Idealize.ShloMosaic.TcCoe Idealize.SL.Sem
open Cert.Reference2Ideal Cert.Reference2Ideal.Gen Cert.Reference2Ideal.Value Cert.Attn

/-! ## A copy of the weights for each block -/

/-- Copies of the members of a stack of 32, one for each of 560 blocks. -/
abbrev copies (P Q : ℕ) (wf : GatherDims.WF ⟨3, ![32, P, Q]⟩ ⟨2, ![560, 1]⟩ ⟨3, ![560, P, Q]⟩ [1, 2] [0] [] [0] [] 1 ![1, P, Q]) :
    GatherDims ⟨3, ![32, P, Q]⟩ ⟨2, ![560, 1]⟩ ⟨3, ![560, P, Q]⟩ where
  offsetDims := [1, 2]
  collapsedSliceDims := [0]
  operandBatchingDims := []
  startIndicesBatchingDims := []
  startIndexMap := [0]
  indexVectorDim := 1
  sliceSizes := ![1, P, Q]
  wf := wf

/-- A block's copy is the member the list names. -/
theorem copies_apply {P Q : ℕ} (wf : GatherDims.WF ⟨3, ![32, P, Q]⟩ ⟨2, ![560, 1]⟩ ⟨3, ![560, P, Q]⟩ [1, 2] [0] [] [0] [] 1 ![1, P, Q])
    {α : Type} (x : (⟨3, ![32, P, Q]⟩ : Shape).Idx → α) (l : IVec ⟨2, ![560, 1]⟩ 32) (t : Fin 560) (p : Fin P) (q : Fin Q) (e : Fin 32)
    (he : (l (ix2 t (0 : Fin 1))).toInt = e.val) : Host.gather (copies P Q wf) x l (ix3 t p q) = x (ix3 e p q) := by
  unfold Host.gather
  refine congrArg x (funext fun a => Fin.ext ?_)
  show (copies P Q wf).start (ix3 t p q) l a + (copies P Q wf).batchCoord (ix3 t p q) a + (copies P Q wf).offCoord (ix3 t p q) a = _
  rw [GatherDims.batchCoord_eq_zero _ _ _ (fun h => by simp at h), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ (copies P Q wf).startIndexMap from List.mem_singleton.mpr rfl)]
    have hs : (copies P Q wf).siIdx (ix3 t p q) ⟨List.idxOf (⟨0, by decide⟩ : Fin 3) (copies P Q wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hs, he]
    show min ((e.val : ℤ).toNat) (32 - 1) = e.val
    have := e.isLt
    omega
  | ⟨1, _⟩ =>
    unfold GatherDims.start
    rw [dif_neg (fun h => absurd (congrArg Fin.val (List.mem_singleton.mp h)) (show ¬ (1 : ℕ) = 0 by decide)), Nat.zero_add]
    rfl
  | ⟨2, _⟩ =>
    unfold GatherDims.start
    rw [dif_neg (fun h => absurd (congrArg Fin.val (List.mem_singleton.mp h)) (show ¬ (2 : ℕ) = 0 by decide)), Nat.zero_add]
    rfl

/-- Copies of the rows of a list of 32, one for each of 560 blocks. -/
abbrev rowCopies (Q : ℕ) (wf : GatherDims.WF ⟨2, ![32, Q]⟩ ⟨2, ![560, 1]⟩ ⟨2, ![560, Q]⟩ [1] [0] [] [0] [] 1 ![1, Q]) :
    GatherDims ⟨2, ![32, Q]⟩ ⟨2, ![560, 1]⟩ ⟨2, ![560, Q]⟩ where
  offsetDims := [1]
  collapsedSliceDims := [0]
  operandBatchingDims := []
  startIndicesBatchingDims := []
  startIndexMap := [0]
  indexVectorDim := 1
  sliceSizes := ![1, Q]
  wf := wf

/-- A block's copy is the row the list names. -/
theorem rowCopies_apply {Q : ℕ} (wf : GatherDims.WF ⟨2, ![32, Q]⟩ ⟨2, ![560, 1]⟩ ⟨2, ![560, Q]⟩ [1] [0] [] [0] [] 1 ![1, Q])
    {α : Type} (x : (⟨2, ![32, Q]⟩ : Shape).Idx → α) (l : IVec ⟨2, ![560, 1]⟩ 32) (t : Fin 560) (q : Fin Q) (e : Fin 32)
    (he : (l (ix2 t (0 : Fin 1))).toInt = e.val) : Host.gather (rowCopies Q wf) x l (ix2 t q) = x (ix2 e q) := by
  unfold Host.gather
  refine congrArg x (funext fun a => Fin.ext ?_)
  show (rowCopies Q wf).start (ix2 t q) l a + (rowCopies Q wf).batchCoord (ix2 t q) a + (rowCopies Q wf).offCoord (ix2 t q) a = _
  rw [GatherDims.batchCoord_eq_zero _ _ _ (fun h => by simp at h), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (rowCopies Q wf).startIndexMap from List.mem_singleton.mpr rfl)]
    have hs : (rowCopies Q wf).siIdx (ix2 t q) ⟨List.idxOf (⟨0, by decide⟩ : Fin 2) (rowCopies Q wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hs, he]
    show min ((e.val : ℤ).toNat) (32 - 1) = e.val
    have := e.isLt
    omega
  | ⟨1, _⟩ =>
    unfold GatherDims.start
    rw [dif_neg (fun h => absurd (congrArg Fin.val (List.mem_singleton.mp h)) (show ¬ (1 : ℕ) = 0 by decide)), Nat.zero_add]
    rfl

/-- The list of experts, a negative entry counted from the end. -/
def picks (l : IVec S560 32) : IVec S560x1 32 :=
  broadcastInDim S560x1 ![0] bcast_S560_S560x1_0 (select (cmpi .slt l (broadcastInDim S560 ![] bcast_S_S560 (constantI S_ 32 0#32)))
    (addi l (broadcastInDim S560 ![] bcast_S_S560 (constantI S_ 32 32#32))) l)

theorem toInt_of_lt (x : BitVec 32) (h : x.toNat < 32) : x.toInt = x.toNat := by
  rw [BitVec.toInt_eq_toNat_cond]
  split <;> omega

theorem picks_apply (l : IVec S560 32) (t : Fin 560) (h : (l (ix1 t)).toNat < 32) : (picks l (ix2 t (0 : Fin 1))).toInt = (l (ix1 t)).toNat := by
  have e : picks l (ix2 t (0 : Fin 1)) = Scalar.select (IntOp.cmpi .slt (l (ix1 t)) 0#32) (IntOp.addi (l (ix1 t)) 32#32) (l (ix1 t)) := by
    pointwise [picks]
  have hz : (0#32).toInt = 0 := by decide
  have hn : (l (ix1 t)).slt 0#32 = false := by
    rw [Bool.eq_false_iff]
    intro hc
    rw [BitVec.slt_iff_toInt_lt, hz, toInt_of_lt _ h] at hc
    omega
  rw [e, show IntOp.cmpi .slt (l (ix1 t)) 0#32 = 0#1 from congrArg BitVec.ofBool hn]
  exact toInt_of_lt _ h

/-! ## The stages -/

/-- The tokens' rows in the routing's order, a negative entry counted from the end. -/
def slots (x : FVec Ideal S33792x1024 .bf16) (l : IVec S143360 32) : FVec Ideal S143360x1024 .bf16 :=
  Host.gather gather_S33792x1024_S143360x1_S143360x1024_1_0_n_n_0_1_11024 x
    (broadcastInDim S143360x1 ![0] bcast_S143360_S143360x1_0 (select (cmpi .slt l (broadcastInDim S143360 ![] bcast_S_S143360 (constantI S_ 32 0#32)))
      (addi l (broadcastInDim S143360 ![] bcast_S_S143360 (constantI S_ 32 33792#32))) l))

/-- Each block's first weights, -/
def copies1 (w : FVec Ideal S4x32x1024x2048 .f32) (l : IVec S560 32) : FVec Ideal S560x1024x2048 .f32 :=
  Host.gather gather_S32x1024x2048_S560x1_S560x1024x2048_12_0_n_n_0_1_110242048 (shapeCast _ (extractStridedSlice S1x32x1024x2048 ![0, 0, 0, 0] w slices_S4x32x1024x2048_S1x32x1024x2048_0_0_0_0) shapeCasts_S1x32x1024x2048_S32x1024x2048) (picks l)
/-- first offset, -/
def copiesB1 (b : FVec Ideal S4x32x2048 .f32) (l : IVec S560 32) : FVec Ideal S560x1x2048 .f32 :=
  broadcastInDim S560x1x2048 ![0, 2] bcast_S560x2048_S560x1x2048_0_2 (Host.gather gather_S32x2048_S560x1_S560x2048_1_0_n_n_0_1_12048
    (shapeCast _ (extractStridedSlice S1x32x2048 ![0, 0, 0] b slices_S4x32x2048_S1x32x2048_0_0_0) shapeCasts_S1x32x2048_S32x2048) (picks l))
/-- second weights, -/
def copies2 (w : FVec Ideal S4x32x1024x1024 .f32) (l : IVec S560 32) : FVec Ideal S560x1024x1024 .f32 :=
  Host.gather gather_S32x1024x1024_S560x1_S560x1024x1024_12_0_n_n_0_1_110241024 (shapeCast _ (extractStridedSlice S1x32x1024x1024 ![0, 0, 0, 0] w slices_S4x32x1024x1024_S1x32x1024x1024_0_0_0_0) shapeCasts_S1x32x1024x1024_S32x1024x1024) (picks l)
/-- second offset. -/
def copiesB2 (b : FVec Ideal S4x32x1024 .f32) (l : IVec S560 32) : FVec Ideal S560x1x1024 .f32 :=
  broadcastInDim S560x1x1024 ![0, 2] bcast_S560x1024_S560x1x1024_0_2 (Host.gather gather_S32x1024_S560x1_S560x1024_1_0_n_n_0_1_11024
    (shapeCast _ (extractStridedSlice S1x32x1024 ![0, 0, 0] b slices_S4x32x1024_S1x32x1024_0_0_0) shapeCasts_S1x32x1024_S32x1024) (picks l))

section Copies

variable (l : IVec S560 32) (t : Fin 560) (e : Fin 32) (he : (l (ix1 t)).toNat = e.val)

include he in
theorem picks_expert : (picks l (ix2 t (0 : Fin 1))).toInt = e.val := by
  rw [picks_apply l t (by rw [he]; exact e.isLt), he]

include he in
theorem copies1_apply (w : FVec Ideal S4x32x1024x2048 .f32) (j : Fin 1024) (k : Fin 2048) :
    copies1 w l (ix3 t j k) = w (ix4 (0 : Fin 4) e j k) := by
  refine (copies_apply _ _ (picks l) t j k e (picks_expert l t e he)).trans ?_
  pointwise

include he in
theorem copiesB1_apply (b : FVec Ideal S4x32x2048 .f32) (k : Fin 2048) :
    copiesB1 b l (ix3 t (0 : Fin 1) k) = b (ix3 (0 : Fin 4) e k) := by
  have h : copiesB1 b l (ix3 t (0 : Fin 1) k) = Host.gather gather_S32x2048_S560x1_S560x2048_1_0_n_n_0_1_12048
      (shapeCast _ (extractStridedSlice S1x32x2048 ![0, 0, 0] b slices_S4x32x2048_S1x32x2048_0_0_0) shapeCasts_S1x32x2048_S32x2048) (picks l) (ix2 t k) := by
    refine congrArg (Host.gather gather_S32x2048_S560x1_S560x2048_1_0_n_n_0_1_12048 _ (picks l)) (funext fun a => Fin.ext ?_)
    fin_cases a <;> rfl
  refine (h.trans (rowCopies_apply _ _ (picks l) t k e (picks_expert l t e he))).trans ?_
  pointwise

include he in
theorem copies2_apply (w : FVec Ideal S4x32x1024x1024 .f32) (j k : Fin 1024) :
    copies2 w l (ix3 t j k) = w (ix4 (0 : Fin 4) e j k) := by
  refine (copies_apply _ _ (picks l) t j k e (picks_expert l t e he)).trans ?_
  pointwise

include he in
theorem copiesB2_apply (b : FVec Ideal S4x32x1024 .f32) (k : Fin 1024) :
    copiesB2 b l (ix3 t (0 : Fin 1) k) = b (ix3 (0 : Fin 4) e k) := by
  have h : copiesB2 b l (ix3 t (0 : Fin 1) k) = Host.gather gather_S32x1024_S560x1_S560x1024_1_0_n_n_0_1_11024
      (shapeCast _ (extractStridedSlice S1x32x1024 ![0, 0, 0] b slices_S4x32x1024_S1x32x1024_0_0_0) shapeCasts_S1x32x1024_S32x1024) (picks l) (ix2 t k) := by
    refine congrArg (Host.gather gather_S32x1024_S560x1_S560x1024_1_0_n_n_0_1_11024 _ (picks l)) (funext fun a => Fin.ext ?_)
    fin_cases a <;> rfl
  refine (h.trans (rowCopies_apply _ _ (picks l) t k e (picks_expert l t e he))).trans ?_
  pointwise

end Copies

/-- The hidden columns. -/
def hiddenAll (x : FVec Ideal S143360x1024 .bf16) (w : FVec Ideal S560x1024x2048 .f32) (b : FVec Ideal S560x1x2048 .f32) : FVec Ideal S560x256x2048 .f32 :=
  addf (Host.dotGeneral dot_S560x256x1024_S560x1024x2048_S560x256x2048_2_1_1_2_0_0 none (shapeCast _ (extf .f32 x bitsLt_bf16_f32) shapeCasts_S143360x1024_S560x256x1024) w)
    (broadcastInDim S560x256x2048 ![0, 1, 2] bcast_S560x1x2048_S560x256x2048_0_1_2 b)

theorem hiddenAll_apply (x : FVec Ideal S143360x1024 .bf16) (w : FVec Ideal S560x1024x2048 .f32) (b : FVec Ideal S560x1x2048 .f32)
    (t : Fin 560) (y : Fin 256) (k : Fin 2048) :
    hiddenAll x w b (ix3 t y k)
      = (∑ j : Fin 1024, (show EReal from x (ix2 (⟨t.val * 256 + y.val, by have := t.isLt; have := y.isLt; omega⟩ : Fin 143360) j)) * (show EReal from w (ix3 t j k)))
        + (show EReal from b (ix3 t (0 : Fin 1) k)) := by
  pointwise [hiddenAll]

/-- The gates, limited. -/
def gateAll (u : FVec Ideal S560x256x2048 .f32) : FVec Ideal S560x256x1024 .f32 :=
  minimumf (extractStridedSlice S560x256x1024 ![0, 0, 0] u slices_S560x256x2048_S560x256x1024_0_0_0) (broadcastInDim S560x256x1024 ![] bcast_S_S560x256x1024 (constant S_ .f32 0x40E00000#32))

theorem gateAll_apply (u : FVec Ideal S560x256x2048 .f32) (t : Fin 560) (y : Fin 256) (k : Fin 1024) :
    gateAll u (ix3 t y k) = min (show EReal from u (ix3 t y (⟨k.val, by have := k.isLt; omega⟩ : Fin 2048))) seven := by
  pointwise [gateAll]
  rfl

/-- The gated products. -/
def gatedAll (u : FVec Ideal S560x256x2048 .f32) : FVec Ideal S560x256x1024 .f32 :=
  mulf (addf (minimumf (broadcastInDim S560x256x1024 ![] bcast_S_S560x256x1024 (id (constant S_ .f32 0x40E00000#32))) (maximumf (broadcastInDim S560x256x1024 ![] bcast_S_S560x256x1024 (id (constant S_ .f32 0xC0E00000#32))) (extractStridedSlice S560x256x1024 ![0, 0, 1024] u slices_S560x256x2048_S560x256x1024_0_0_1024))) (broadcastInDim S560x256x1024 ![] bcast_S_S560x256x1024 (constant S_ .f32 0x3F800000#32)))
    (mulf (gateAll u) (Host.divf (broadcastInDim S560x256x1024 ![] bcast_S_S560x256x1024 (constant S_ .f32 0x3F800000#32)) (addf (broadcastInDim S560x256x1024 ![] bcast_S_S560x256x1024 (constant S_ .f32 0x3F800000#32)) (Host.exp (Host.negf (mulf (gateAll u) (broadcastInDim S560x256x1024 ![] bcast_S_S560x256x1024 (constant S_ .f32 0x3FD9DB23#32))))))))

theorem gatedAll_apply (u : FVec Ideal S560x256x2048 .f32) (t : Fin 560) (y : Fin 256) (k : Fin 1024) :
    gatedAll u (ix3 t y k) = gated (u (ix3 t y (⟨k.val, by have := k.isLt; omega⟩ : Fin 2048))) (u (ix3 t y (⟨1024 + k.val, by have := k.isLt; omega⟩ : Fin 2048))) := by
  have e : gatedAll u (ix3 t y k) = (min seven (max minusSeven (show EReal from u (ix3 t y (⟨1024 + k.val, by have := k.isLt; omega⟩ : Fin 2048)))) + 1)
      * ((show EReal from gateAll u (ix3 t y k)) * Ideal.div 1 (1 + Ideal.exp (-((show EReal from gateAll u (ix3 t y k)) * slope)))) := by
    pointwise [gatedAll]
    rfl
  rw [e, gateAll_apply]
  rfl

theorem zero32 : Ideal.ofBits .f32 0x00000000#32 = 0 := by
  have h : constant (F := Ideal) S_ .f32 0x00000000#32 ix0 = (0 : EReal) := by pointwise
  exact h

/-- The results of every block, those not in use zero. -/
def resultAll (n : IVec S1 32) (v : FVec Ideal S560x256x1024 .f32) (w : FVec Ideal S560x1024x1024 .f32) (b : FVec Ideal S560x1x1024 .f32) : FVec Ideal S143360x1024 .bf16 :=
  truncf .bf16 (shapeCast _ (select (broadcastInDim S560x256x1024 ![0, 1, 2] bcast_S560x1x1_S560x256x1024_0_1_2 (broadcastInDim S560x1x1 ![0] bcast_S560_S560x1x1_0 (cmpi .slt (iotaInDim S560 32 0) (broadcastInDim S560 ![] bcast_S_S560 (shapeCast _ n shapeCasts_S1_S_)))))
    (addf (Host.dotGeneral dot_S560x256x1024_S560x1024x1024_S560x256x1024_2_1_1_2_0_0 none v w) (broadcastInDim S560x256x1024 ![0, 1, 2] bcast_S560x1x1024_S560x256x1024_0_1_2 b))
    (broadcastInDim S560x256x1024 ![] bcast_S_S560x256x1024 (id (constant S_ .f32 0x00000000#32)))) shapeCasts_S560x256x1024_S143360x1024) bitsLt_bf16_f32

theorem resultAll_at (n : IVec S1 32) (v : FVec Ideal S560x256x1024 .f32) (w : FVec Ideal S560x1024x1024 .f32) (b : FVec Ideal S560x1x1024 .f32)
    (a : Fin 143360) (z : Fin 1024) :
    resultAll n v w b (ix2 a z) = Scalar.select (IntOp.cmpi .slt (BitVec.ofNat 32 (a.val / 256)) (n (ix1 (0 : Fin 1))))
        ((∑ k : Fin 1024, (show EReal from v (ix3 (⟨a.val / 256, by have := a.isLt; omega⟩ : Fin 560) (⟨a.val % 256, by omega⟩ : Fin 256) k))
            * (show EReal from w (ix3 (⟨a.val / 256, by have := a.isLt; omega⟩ : Fin 560) k z)))
          + (show EReal from b (ix3 (⟨a.val / 256, by have := a.isLt; omega⟩ : Fin 560) (0 : Fin 1) z))) (0 : EReal) := by
  pointwise [resultAll]
  exact congrArg (Scalar.select _ _) zero32

theorem resultAll_apply (n : IVec S1 32) (v : FVec Ideal S560x256x1024 .f32) (w : FVec Ideal S560x1024x1024 .f32) (b : FVec Ideal S560x1x1024 .f32)
    (t : Fin 560) (y : Fin 256) (z : Fin 1024) (a : Fin 143360) (ha : a.val = t.val * 256 + y.val) :
    resultAll n v w b (ix2 a z) = Scalar.select (IntOp.cmpi .slt (BitVec.ofNat 32 t.val) (n (ix1 (0 : Fin 1))))
        ((∑ k : Fin 1024, (show EReal from v (ix3 t y k)) * (show EReal from w (ix3 t k z))) + (show EReal from b (ix3 t (0 : Fin 1) z))) (0 : EReal) := by
  have hy := y.isLt
  have e1 : (⟨a.val / 256, by have := a.isLt; omega⟩ : Fin 560) = t := Fin.ext (by show a.val / 256 = t.val; omega)
  have e2 : (⟨a.val % 256, by omega⟩ : Fin 256) = y := Fin.ext (by show a.val % 256 = y.val; omega)
  have e0 : BitVec.ofNat 32 (a.val / 256) = BitVec.ofNat 32 t.val := congrArg (BitVec.ofNat 32) (congrArg Fin.val e1)
  refine (resultAll_at n v w b a z).trans ?_
  simp only [e1, e2, e0]

/-- The reference's result. -/
theorem res_eq (m : (ℓ : Loc nD τ sig) → Buf (Elt Ideal) ℓ) (c : Dev nD) : res_main_v77 m c
    = resultAll (m ((c.tc : Thread nD τ).loc main_arg3))
        (gatedAll (hiddenAll (slots (m ((c.tc : Thread nD τ).loc main_arg0)) (m ((c.tc : Thread nD τ).loc main_arg1)))
          (copies1 (m ((c.tc : Thread nD τ).loc main_arg4)) (m ((c.tc : Thread nD τ).loc main_arg2)))
          (copiesB1 (m ((c.tc : Thread nD τ).loc main_arg5)) (m ((c.tc : Thread nD τ).loc main_arg2)))))
        (copies2 (m ((c.tc : Thread nD τ).loc main_arg6)) (m ((c.tc : Thread nD τ).loc main_arg2)))
        (copiesB2 (m ((c.tc : Thread nD τ).loc main_arg7)) (m ((c.tc : Thread nD τ).loc main_arg2))) := rfl

open Cert.Kernel2Ideal.Experts (column rowResult) in
/-- A row of it: the row's result by its block's expert, or zeros. -/
theorem whole_apply (a0 : FVec Ideal S143360x1024 .bf16) (l : IVec S560 32) (n : IVec S1 32) (a3 : FVec Ideal S4x32x1024x2048 .f32)
    (a4 : FVec Ideal S4x32x2048 .f32) (a5 : FVec Ideal S4x32x1024x1024 .f32) (a6 : FVec Ideal S4x32x1024 .f32)
    (t : Fin 560) (y : Fin 256) (z : Fin 1024) (a : Fin 143360) (ha : a.val = t.val * 256 + y.val) (e : Fin 32) (he : (l (ix1 t)).toNat = e.val) :
    resultAll n (gatedAll (hiddenAll a0 (copies1 a3 l) (copiesB1 a4 l))) (copies2 a5 l) (copiesB2 a6 l) (ix2 a z)
      = Scalar.select (IntOp.cmpi .slt (BitVec.ofNat 32 t.val) (n (ix1 (0 : Fin 1))))
        (rowResult (fun j => a0 (ix2 a j)) (fun j k => a3 (ix4 (0 : Fin 4) e j k)) (fun k => a4 (ix3 (0 : Fin 4) e k))
          (fun k z => a5 (ix4 (0 : Fin 4) e k z)) (fun z => a6 (ix3 (0 : Fin 4) e z)) z) (0 : EReal) := by
  have ea : (⟨t.val * 256 + y.val, by have := t.isLt; have := y.isLt; omega⟩ : Fin 143360) = a := Fin.ext ha.symm
  refine (resultAll_apply n _ _ _ t y z a ha).trans ?_
  refine congrArg (fun r : EReal => Scalar.select (IntOp.cmpi .slt (BitVec.ofNat 32 t.val) (n (ix1 (0 : Fin 1)))) r (0 : EReal)) ?_
  unfold rowResult column
  rw [copiesB2_apply l t e he]
  refine congrArg (· + _) (Finset.sum_congr rfl fun k _ => ?_)
  rw [copies2_apply l t e he, gatedAll_apply, hiddenAll_apply, hiddenAll_apply, copiesB1_apply l t e he, copiesB1_apply l t e he]
  simp only [copies1_apply l t e he, ea]

end Cert.Reference2Ideal.Experts

end
-- ==== Proof.Experts.Value.lean ====
/- # The experts' kernel computes the reference

Block by block: the rows of a block in use, by their expert; a block not in use, zeros. -/
module

public import proofs.«01_k».proof.Proof.Experts.Ref
public import proofs.«01_k».proof.Proof.Experts.Frames
public import Idealize.ShloMosaic.Lib.Quiescent

@[expose] public section

set_option maxRecDepth 16384

noncomputable section

namespace Cert.Kernel2Ideal.Experts

open Idealize.ShloMosaic Idealize.ShloMosaic.TcCoe Idealize.SL.Sem
open Idealize.ShloMosaic.Pipeline (Dat Window)
open Cert.Kernel2Ideal.Gen Cert.Attn
open Cert.Reference2Ideal.Experts (slots resultAll gatedAll hiddenAll copies1 copiesB1 copies2 copiesB2 whole_apply)

variable (T0 : S560.Idx → BitVec 32) (T1 : S1.Idx → BitVec 32) (h : InRange T0)
variable (m : (ℓ : Loc nD τ sig) → Buf (Elt Ideal) ℓ) (c : Dev nD)

/-- The reference's result over the arguments. -/
abbrev want : FVec Ideal S143360x1024 .bf16 :=
  resultAll T1 (gatedAll (hiddenAll (slots (m ((c.tc : Thread nD τ).loc main_arg0)) (m ((c.tc : Thread nD τ).loc main_arg1)))
      (copies1 (m ((c.tc : Thread nD τ).loc main_arg4)) T0) (copiesB1 (m ((c.tc : Thread nD τ).loc main_arg5)) T0)))
    (copies2 (m ((c.tc : Thread nD τ).loc main_arg6)) T0) (copiesB2 (m ((c.tc : Thread nD τ).loc main_arg7)) T0)

/-! ## What the host hands the call -/

/-- The tokens' rows, -/
theorem entry_rows : entry m ((c.tc : Thread nD τ).loc main_v6)
    = slots (m ((c.tc : Thread nD τ).loc main_arg0)) (m ((c.tc : Thread nD τ).loc main_arg1)) := by
  show StableHlo.after hostOps0 (fun b => m (((c.tc : Thread nD τ).loc main_v6).1, b)) (Proc.devRef .tc main_v6) = _
  after_results_simp
  rfl

/-- the first offsets -/
theorem entry_b1 (e : Fin 32) (k : Fin 2048) : entry m ((c.tc : Thread nD τ).loc main_v7) (ix4 (0 : Fin 4) e (0 : Fin 1) k)
    = m ((c.tc : Thread nD τ).loc main_arg5) (ix3 (0 : Fin 4) e k) := by
  have h : entry m ((c.tc : Thread nD τ).loc main_v7)
      = (shapeCast S4x32x1x2048 (m ((c.tc : Thread nD τ).loc main_arg5) : FVec Ideal S4x32x2048 .f32) shapeCasts_S4x32x2048_S4x32x1x2048 : FVec Ideal S4x32x1x2048 .f32) := by
    show StableHlo.after hostOps0 (fun b => m (((c.tc : Thread nD τ).loc main_v7).1, b)) (Proc.devRef .tc main_v7) = _
    after_results_simp
    rfl
  rw [h]
  generalize m ((c.tc : Thread nD τ).loc main_arg5) = b
  pointwise

/-- and the second. -/
theorem entry_b2 (e : Fin 32) (k : Fin 1024) : entry m ((c.tc : Thread nD τ).loc main_v8) (ix4 (0 : Fin 4) e (0 : Fin 1) k)
    = m ((c.tc : Thread nD τ).loc main_arg7) (ix3 (0 : Fin 4) e k) := by
  have h : entry m ((c.tc : Thread nD τ).loc main_v8)
      = (shapeCast S4x32x1x1024 (m ((c.tc : Thread nD τ).loc main_arg7) : FVec Ideal S4x32x1024 .f32) shapeCasts_S4x32x1024_S4x32x1x1024 : FVec Ideal S4x32x1x1024 .f32) := by
    show StableHlo.after hostOps0 (fun b => m (((c.tc : Thread nD τ).loc main_v8).1, b)) (Proc.devRef .tc main_v8) = _
    after_results_simp
    rfl
  rw [h]
  generalize m ((c.tc : Thread nD τ).loc main_arg7) = b
  pointwise

/-! ## The blocks -/

theorem count_eq : count (F := Ideal) T1 = T1 (ix1 (0 : Fin 1)) := by
  refine congrArg T1 (funext fun a => Fin.ext ?_)
  fin_cases a
  rfl

/-- The kernel's word for "in use" is the comparison itself. -/
theorem used_eq (t : Fin grid0.N) (n : BitVec 32) : k0_cond2 (grid0.coords t) n = IntOp.cmpi .slt (BitVec.ofNat 32 t.val) n := by
  have key : ∀ b : BitVec 1, Scalar.cmpi .ne (Scalar.extui b : BitVec 32) 0#32 = b := by decide
  refine (key _).trans ?_
  rw [coord t]
  rfl

/-- A point's block is the reference's rows there. -/
theorem block (t : Fin grid0.N) (y : Fin 256) (z : Fin 1024) (a : Fin 143360) (ha : a.val = t.val * 256 + y.val) :
    outBlk T0 T1 h (entry m) c t (ix2 y z) = want T0 T1 m c (ix2 a z) := by
  refine Eq.trans ?_ (whole_apply _ T0 T1 _ _ _ _ (⟨t.val, t.isLt⟩ : Fin 560) y z a ha (at_ T0 h t) rfl).symm
  obtain ⟨n, hn⟩ := a
  obtain rfl : n = t.val * 256 + y.val := ha
  unfold outBlk Scalar.select
  rw [count_eq, used_eq]
  by_cases hu : IntOp.cmpi .slt (BitVec.ofNat 32 t.val) (T1 (ix1 (0 : Fin 1))) = 1#1
  · refine (congrFun (if_pos hu) _).trans (Eq.trans ?_ (if_pos hu).symm)
    unfold held1 held2
    refine (ffn_apply _ _ _ _ _ y z).trans ?_
    have er : (fun j : Fin 1024 => rows (entry m) c t (ix2 y j))
        = fun j => slots (m ((c.tc : Thread nD τ).loc main_arg0)) (m ((c.tc : Thread nD τ).loc main_arg1)) (ix2 (⟨t.val * 256 + y.val, hn⟩ : Fin 143360) j) :=
      funext fun j => congrFun (entry_rows m c) _
    have e1 : (fun k : Fin 2048 => b1 (entry m) c (at_ T0 h t) (ix4 (0 : Fin 1) (0 : Fin 1) (0 : Fin 1) k))
        = fun k => m ((c.tc : Thread nD τ).loc main_arg5) (ix3 (0 : Fin 4) (at_ T0 h t) k) := funext fun k => entry_b1 m c (at_ T0 h t) k
    have e2 : (fun k : Fin 1024 => b2 (entry m) c (at_ T0 h t) (ix4 (0 : Fin 1) (0 : Fin 1) (0 : Fin 1) k))
        = fun k => m ((c.tc : Thread nD τ).loc main_arg7) (ix3 (0 : Fin 4) (at_ T0 h t) k) := funext fun k => entry_b2 m c (at_ T0 h t) k
    have e3 : (fun (j : Fin 1024) (k : Fin 2048) => w1 (entry m) c (at_ T0 h t) (ix4 (0 : Fin 1) (0 : Fin 1) j k))
        = fun j k => m ((c.tc : Thread nD τ).loc main_arg4) (ix4 (0 : Fin 4) (at_ T0 h t) j k) :=
      funext fun j => funext fun k => congrFun (entry_kept m c main_arg4 (by decide)) _
    have e4 : (fun (j k : Fin 1024) => w2 (entry m) c (at_ T0 h t) (ix4 (0 : Fin 1) (0 : Fin 1) j k))
        = fun j k => m ((c.tc : Thread nD τ).loc main_arg6) (ix4 (0 : Fin 4) (at_ T0 h t) j k) :=
      funext fun j => funext fun k => congrFun (entry_kept m c main_arg6 (by decide)) _
    rw [er, e1, e2, e3, e4]
  · exact (congrFun (if_neg hu) _).trans ((pay4_apply y z).trans (if_neg hu).symm)

/-- Every point writes its block back. -/
theorem flush5 (t : Fin grid0.N) : Window.flushOf grid0 true cc0_transform_5 t = true :=
  (by decide +kernel : ∀ t : Fin grid0.N, Window.flushOf grid0 true cc0_transform_5 t = true) t

/-- The blocks are the whole result. -/
theorem covers : ((cfgA (F := Ideal) T0 T1 h).win (5 : Fin 6)).Covers := by
  refine ⟨fun a => ?_, fun β => ?_⟩
  · show 0 < S256x1024.size a
    exact (by decide : ∀ a : Fin 2, 0 < S256x1024.size a) a
  · have h0 : (β (0 : Fin 2)).val < 560 := lt_of_lt_of_eq (β (0 : Fin 2)).isLt (by show (143360 + 256 - 1) / 256 = 560; norm_num)
    have h1 : (β (1 : Fin 2)).val < 1 := lt_of_lt_of_eq (β (1 : Fin 2)).isLt (by show (1024 + 1024 - 1) / 1024 = 1; norm_num)
    refine ⟨⟨(β (0 : Fin 2)).val, h0⟩, flush5 _, fun a => ⟨?_, .inl rfl⟩⟩
    show cc0_transform_5 (grid0.coords ⟨(β (0 : Fin 2)).val, h0⟩) a = (β a).val
    rw [idx5]
    fin_cases a
    · rfl
    · show 0 = (β (1 : Fin 2)).val
      omega

/-- The result after the run is the reference's. -/
theorem final : (dats T0 T1 h (entry m) 0 c).arrAt (5 : Fin 6) (cfgA (F := Ideal) T0 T1 h).N = want T0 T1 m c := by
  refine (dats T0 T1 h (entry m) 0 c).arrAt_eq_of_covers (5 : Fin 6) _ (covers T0 T1 h) (fun t _ y => ?_) (Memref.isWhole_whole _)
  have ht : t.val < 560 := t.isLt
  have hy : (y (0 : Fin 2)).val < 256 := (y (0 : Fin 2)).isLt
  have e := block T0 T1 h m c t (y (0 : Fin 2)) (y (1 : Fin 2)) ⟨t.val * 256 + (y (0 : Fin 2)).val, by omega⟩ rfl
  refine (congrArg (outBlk T0 T1 h (entry m) c t) (eq_ix2 (y : S256x1024.Idx))).trans (e.trans (congrArg (want T0 T1 m c) ?_))
  funext a
  apply Fin.ext
  show _ = cc0_transform_5 (grid0.coords t) a * S256x1024.size a + 1 * (y a).val
  rw [idx5]
  fin_cases a
  · show t.val * 256 + (y (0 : Fin 2)).val = t.val * 256 + 1 * (y (0 : Fin 2)).val
    omega
  · show (y (1 : Fin 2)).val = 0 * 1024 + 1 * (y (1 : Fin 2)).val
    omega

include h in
/-- Every run ends with the reference's result and the arguments as they were. -/
theorem run_value (ρ : Dev nD → PrngReg) (hm : Holds T0 T1 m) :
    θ_run (defs (F := Ideal)) (onTc (τ := τ) (main (F := Ideal))) ⟨m, fun _ => 0, ρ⟩ (fun r => ∀ c : Dev nD,
      r.2.mem ((c.tc : Thread nD τ).loc main_v9) = want T0 T1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r p c => ⟨((p.1.1 c).1 (5 : Fin 6)).trans (final T0 T1 h m c), p.2.1 c⟩)
    (θ_run_and (run_main T0 T1 h m ρ hm) (frame T0 T1 h m ρ hm))

end Cert.Kernel2Ideal.Experts

end
-- ==== Proof.Combine.Ref.lean ====
/- # The combination's reference, read at an index

A token of the stream gains its four experts' results by their weights, scaled column by column: a context token by the context's
modulation, a latent by its batch's. -/
module

public import proofs.«01_k».proof.Proof.Gen.Reference3Ideal
public import proofs.«01_k».proof.Proof.Gen.Reference3Ideal.Run
public import Idealize.ShloMosaic.Lib.Pointwise

@[expose] public section

set_option maxRecDepth 16384

noncomputable section

namespace Cert.Reference3Ideal.Combine

open Idealize.ShloMosaic Idealize.ShloMosaic.TcCoe
open Cert.Reference3Ideal Cert.Reference3Ideal.Gen Cert.Reference3Ideal.Value

/-- The results at the places listed, a negative place counted from the end. -/
def chosen (r : FVec Ideal S143360x1024 .bf16) (l : IVec S135168 32) : FVec Ideal S135168x1024 .bf16 :=
  Host.gather gather_S143360x1024_S135168x1_S135168x1024_1_0_n_n_0_1_11024 r
    (broadcastInDim S135168x1 ![0] bcast_S135168_S135168x1_0 (select (cmpi .slt l (broadcastInDim S135168 ![] bcast_S_S135168 (constantI S_ 32 0#32)))
      (addi l (broadcastInDim S135168 ![] bcast_S_S135168 (constantI S_ 32 143360#32))) l))

/-- Each token's four results, summed by its weights. -/
def summed (w : FVec Ideal S4x33792 .f32) (y : FVec Ideal S135168x1024 .bf16) : FVec Ideal S33792x1024 .f32 :=
  Host.dotGeneral (F := Ideal) dot_S4x33792_S4x33792x1024_S33792x1024_0_0_n_2_1_1 none w
    (shapeCast _ (extf .f32 y bitsLt_bf16_f32 : FVec Ideal S135168x1024 .f32) shapeCasts_S135168x1024_S4x33792x1024)

theorem summed_apply (w : FVec Ideal S4x33792 .f32) (y : FVec Ideal S135168x1024 .bf16) (a : Fin 33792) (z : Fin 1024) :
    summed w y (ix2 a z) = ∑ k : Fin 4, (show EReal from w (ix2 k a))
      * (show EReal from y (ix2 (⟨k.val * 33792 + a.val, by have := k.isLt; have := a.isLt; omega⟩ : Fin 135168) z)) := by
  pointwise [summed]

/-- The batches' context tokens before their latents, in one stream. -/
def stream (p : FVec Ideal S4x256x1024 .f32) (q : FVec Ideal S4x8192x1024 .f32) : FVec Ideal S33792x1024 .f32 :=
  shapeCast _ (concatenate S4x8448x1024 1 [⟨S4x256x1024, p⟩, ⟨S4x8192x1024, q⟩] concatenates_S4x256x1024_S4x8192x1024_S4x8448x1024_d1)
    shapeCasts_S4x8448x1024_S33792x1024

theorem stream_at (p : FVec Ideal S4x256x1024 .f32) (q : FVec Ideal S4x8192x1024 .f32) (a : Fin 33792) (z : Fin 1024) :
    stream p q (ix2 a z) = if h : a.val % 8448 < 256 then p (ix3 (⟨a.val / 8448, by have := a.isLt; omega⟩ : Fin 4) (⟨a.val % 8448, h⟩ : Fin 256) z)
      else q (ix3 (⟨a.val / 8448, by have := a.isLt; omega⟩ : Fin 4) (⟨a.val % 8448 - 256, by omega⟩ : Fin 8192) z) := by
  pointwise [stream]

/-- The context tokens with what they gain, -/
def contextGains (p : FVec Ideal S4x256x1024 .f32) (g : FVec Ideal S6144 .f32) (f : FVec Ideal S33792x1024 .f32) : FVec Ideal S4x256x1024 .f32 :=
  addf p (mulf (broadcastInDim S4x256x1024 ![0, 1, 2] bcast_S1x1x1024_S4x256x1024_0_1_2 (broadcastInDim S1x1x1024 ![2] bcast_S1024_S1x1x1024_2 (extractStridedSlice S1024 ![5120] g slices_S6144_S1024_5120)))
    (extractStridedSlice S4x256x1024 ![0, 0, 0] (shapeCast _ f shapeCasts_S33792x1024_S4x8448x1024) slices_S4x8448x1024_S4x256x1024_0_0_0))

theorem contextGains_apply (p : FVec Ideal S4x256x1024 .f32) (g : FVec Ideal S6144 .f32) (f : FVec Ideal S33792x1024 .f32)
    (b : Fin 4) (n : Fin 256) (z : Fin 1024) :
    contextGains p g f (ix3 b n z) = (show EReal from p (ix3 b n z))
      + (show EReal from g (ix1 (⟨5120 + z.val, by have := z.isLt; omega⟩ : Fin 6144)))
        * (show EReal from f (ix2 (⟨b.val * 8448 + n.val, by have := b.isLt; have := n.isLt; omega⟩ : Fin 33792) z)) := by
  pointwise [contextGains]

/-- and the latents with theirs. -/
def latentGains (q : FVec Ideal S4x8192x1024 .f32) (g : FVec Ideal S4x6144 .f32) (f : FVec Ideal S33792x1024 .f32) : FVec Ideal S4x8192x1024 .f32 :=
  addf q (mulf (broadcastInDim S4x8192x1024 ![0, 1, 2] bcast_S4x1x1024_S4x8192x1024_0_1_2 (extractStridedSlice S4x1x1024 ![0, 0, 5120] (broadcastInDim S4x1x6144 ![0, 2] bcast_S4x6144_S4x1x6144_0_2 g) slices_S4x1x6144_S4x1x1024_0_0_5120))
    (extractStridedSlice S4x8192x1024 ![0, 256, 0] (shapeCast _ f shapeCasts_S33792x1024_S4x8448x1024) slices_S4x8448x1024_S4x8192x1024_0_256_0))

theorem latentGains_apply (q : FVec Ideal S4x8192x1024 .f32) (g : FVec Ideal S4x6144 .f32) (f : FVec Ideal S33792x1024 .f32)
    (b : Fin 4) (n : Fin 8192) (z : Fin 1024) :
    latentGains q g f (ix3 b n z) = (show EReal from q (ix3 b n z))
      + (show EReal from g (ix2 b (⟨5120 + z.val, by have := z.isLt; omega⟩ : Fin 6144)))
        * (show EReal from f (ix2 (⟨b.val * 8448 + (256 + n.val), by have := b.isLt; have := n.isLt; omega⟩ : Fin 33792) z)) := by
  pointwise [latentGains]

/-- The reference's result: the stream of both. -/
def whole (q : FVec Ideal S4x8192x1024 .f32) (p : FVec Ideal S4x256x1024 .f32) (r : FVec Ideal S143360x1024 .bf16) (l : IVec S135168 32)
    (w : FVec Ideal S4x33792 .f32) (g : FVec Ideal S4x6144 .f32) (gc : FVec Ideal S6144 .f32) : FVec Ideal S33792x1024 .f32 :=
  stream (contextGains p gc (summed w (chosen r l))) (latentGains q g (summed w (chosen r l)))

section Whole

variable (q : FVec Ideal S4x8192x1024 .f32) (p : FVec Ideal S4x256x1024 .f32) (r : FVec Ideal S143360x1024 .bf16) (l : IVec S135168 32)
  (w : FVec Ideal S4x33792 .f32) (g : FVec Ideal S4x6144 .f32) (gc : FVec Ideal S6144 .f32) (a : Fin 33792) (z : Fin 1024)

/-- A token's scale: the last sixth of its modulation. -/
def scale : EReal :=
  if a.val % 8448 < 256 then gc (ix1 (⟨5120 + z.val, by have := z.isLt; omega⟩ : Fin 6144))
    else g (ix2 (⟨a.val / 8448, by have := a.isLt; omega⟩ : Fin 4) (⟨5120 + z.val, by have := z.isLt; omega⟩ : Fin 6144))

/-- A token of the result is the token and its scaled gain. -/
theorem whole_apply : whole q p r l w g gc (ix2 a z)
    = (show EReal from stream p q (ix2 a z)) + scale g gc a z * (show EReal from summed w (chosen r l) (ix2 a z)) := by
  unfold whole scale
  rw [stream_at, stream_at]
  by_cases h : a.val % 8448 < 256
  · rw [dif_pos h, dif_pos h, if_pos h, contextGains_apply]
    have e : (⟨a.val / 8448 * 8448 + a.val % 8448, by have := a.isLt; omega⟩ : Fin 33792) = a := Fin.ext (by show a.val / 8448 * 8448 + a.val % 8448 = a.val; omega)
    simp only [e]
  · rw [dif_neg h, dif_neg h, if_neg h, latentGains_apply]
    have e : (⟨a.val / 8448 * 8448 + (256 + (a.val % 8448 - 256)), by have := a.isLt; omega⟩ : Fin 33792) = a :=
      Fin.ext (by show a.val / 8448 * 8448 + (256 + (a.val % 8448 - 256)) = a.val; omega)
    simp only [e]

end Whole

end Cert.Reference3Ideal.Combine

end
-- ==== Proof.Combine.Value.lean ====
/- # The combination's kernel computes the reference

Tile by tile: a tile's tokens, each with its four experts' results by its weights, scaled by the modulation the tile picks. -/
module

public import proofs.«01_k».proof.Proof.Combine.Ref
public import proofs.«01_k».proof.Proof.Gen.Kernel3Ideal
public import proofs.«01_k».proof.Proof.Gen.Kernel3Ideal.Value
public import Idealize.ShloMosaic.Lib.Pipeline.ValueKit
public import Idealize.ShloMosaic.Lib.Quiescent

@[expose] public section

set_option maxRecDepth 16384

noncomputable section

namespace Cert.Kernel3Ideal.Combine

open Idealize.ShloMosaic Idealize.ShloMosaic.TcCoe Idealize.SL.Sem
open Idealize.ShloMosaic.Pipeline (Dat Window)
open Cert.Kernel3Ideal Cert.Kernel3Ideal.Gen Cert.Kernel3Ideal.Value
open Cert.Reference3Ideal.Combine (chosen summed stream whole scale)

/-! ## A tile -/

/-- A token of a tile, with its four results by its weights, scaled. -/
theorem out_apply (x : Vec Ideal S256x1024 .f32) (r : Vec Ideal S4x256x1024 .bf16) (w : Vec Ideal S256x4 .f32) (g : Vec Ideal S1x6x1024 .f32)
    (y : Fin 256) (z : Fin 1024) :
    out0_4 (F := Ideal) x r w g (ix2 y z) = (show EReal from x (ix2 y z)) + (show EReal from g (ix3 (0 : Fin 1) (5 : Fin 6) z))
      * ∑ k : Fin 4, (show EReal from w (ix2 y k)) * (show EReal from r (ix3 k y z)) := by
  have ex : View.ld x r0_5 (ix4_0 (ix2 y z)) = x (ix2 y z) := congrArg x (funext fun a => Fin.ext (by
    fin_cases a
    · show 0 + 1 * y.val = y.val; omega
    · show 0 + 1 * z.val = z.val; omega))
  have eg : View.ld g r0_6 (ix4_1 (ix2 y z)) = g (ix3 (0 : Fin 1) (5 : Fin 6) z) := congrArg g (funext fun a => Fin.ext (by
    fin_cases a <;> first | rfl | skip
    show 0 + 1 * z.val = z.val; omega))
  have ew : ∀ k : Fin 4, View.ld w r0_0 (ix2 y k) = w (ix2 y k) := fun k => congrArg w (funext fun a => Fin.ext (by
    fin_cases a
    · show 0 + 1 * y.val = y.val; omega
    · show 0 + 1 * k.val = k.val; omega))
  have er0 : View.ld r r0_1 (ix3 (0 : Fin 1) y z) = r (ix3 (0 : Fin 4) y z) := congrArg r (funext fun a => Fin.ext (by
    fin_cases a
    · rfl
    · show 0 + 1 * y.val = y.val; omega
    · show 0 + 1 * z.val = z.val; omega))
  have er1 : View.ld r r0_2 (ix3 (0 : Fin 1) y z) = r (ix3 (1 : Fin 4) y z) := congrArg r (funext fun a => Fin.ext (by
    fin_cases a
    · rfl
    · show 0 + 1 * y.val = y.val; omega
    · show 0 + 1 * z.val = z.val; omega))
  have er2 : View.ld r r0_3 (ix3 (0 : Fin 1) y z) = r (ix3 (2 : Fin 4) y z) := congrArg r (funext fun a => Fin.ext (by
    fin_cases a
    · rfl
    · show 0 + 1 * y.val = y.val; omega
    · show 0 + 1 * z.val = z.val; omega))
  have er3 : View.ld r r0_4 (ix3 (0 : Fin 1) y z) = r (ix3 (3 : Fin 4) y z) := congrArg r (funext fun a => Fin.ext (by
    fin_cases a
    · rfl
    · show 0 + 1 * y.val = y.val; omega
    · show 0 + 1 * z.val = z.val; omega))
  have hz : Ideal.ofBits .f32 0x00000000#32 = 0 := by
    have h : constant (F := Ideal) S_ .f32 0x00000000#32 ix0 = (0 : EReal) := by pointwise
    exact h
  have i2 : ∀ k : Fin 4, ∀ f : (y : S256x1024.Idx) → S256x4.Idx, (∀ a, (f (ix2 y z) a).val = (ix2 y k a).val) → View.ld w r0_0 (f (ix2 y z)) = w (ix2 y k) :=
    fun k f h => (congrArg (View.ld w r0_0) (show f (ix2 y z) = ix2 y k from funext fun a => Fin.ext (h a))).trans (ew k)
  have i3 : ∀ f : (y : S256x1024.Idx) → S1x256x1024.Idx, (∀ a, (f (ix2 y z) a).val = (ix3 (0 : Fin 1) y z a).val) → f (ix2 y z) = ix3 (0 : Fin 1) y z :=
    fun f h => funext fun a => Fin.ext (h a)
  have e3 := i3 ix4_3 (fun a => by fin_cases a <;> rfl)
  have e5 := i3 ix4_5 (fun a => by fin_cases a <;> rfl)
  have e7 := i3 ix4_7 (fun a => by fin_cases a <;> rfl)
  have e9 := i3 ix4_9 (fun a => by fin_cases a <;> rfl)
  have e2 := i2 0 ix4_2 (fun a => by fin_cases a <;> rfl)
  have e4 := i2 1 ix4_4 (fun a => by fin_cases a <;> rfl)
  have e6 := i2 2 ix4_6 (fun a => by fin_cases a <;> rfl)
  have e8 := i2 3 ix4_8 (fun a => by fin_cases a <;> rfl)
  unfold out0_4
  refine (canon4_eq (F := Ideal) _ _ _ _ _ _ _ (ix2 y z)).trans ?_
  rw [Fin.sum_univ_four]
  unfold E4
  rw [ex, eg, e2, e4, e6, e8, e3, e5, e7, e9, er0, er1, er2, er3]
  show (show EReal from x (ix2 y z)) + (show EReal from g (ix3 (0 : Fin 1) (5 : Fin 6) z)) * ((((Ideal.ofBits .f32 0x00000000#32 + _ * _) + _ * _) + _ * _) + _ * _) = _
  rw [hz, zero_add]
  rfl

/-! ## The tables -/

/-- The scales by batch, the context's after them, and three rows of zeros. -/
def table (g : FVec Ideal S4x6144 .f32) (gc : FVec Ideal S6144 .f32) : FVec Ideal S8x6x1024 .f32 :=
  shapeCast _ (concatenate S8x6144 0 [⟨S4x6144, g⟩, ⟨S1x6144, broadcastInDim S1x6144 ![1] bcast_S6144_S1x6144_1 gc⟩,
    ⟨S3x6144, broadcastInDim S3x6144 ![] bcast_S_S3x6144 (constant (F := Ideal) S_ .f32 0x00000000#32)⟩] concatenates_S4x6144_S1x6144_S3x6144_S8x6144_d0)
    shapeCasts_S8x6144_S8x6x1024

theorem table_batch (g : FVec Ideal S4x6144 .f32) (gc : FVec Ideal S6144 .f32) (b : Fin 4) (z : Fin 1024) :
    table g gc (ix3 (⟨b.val, by have := b.isLt; omega⟩ : Fin 8) (5 : Fin 6) z) = g (ix2 b (⟨5120 + z.val, by have := z.isLt; omega⟩ : Fin 6144)) := by
  pointwise [table]

theorem table_context (g : FVec Ideal S4x6144 .f32) (gc : FVec Ideal S6144 .f32) (z : Fin 1024) :
    table g gc (ix3 (4 : Fin 8) (5 : Fin 6) z) = gc (ix1 (⟨5120 + z.val, by have := z.isLt; omega⟩ : Fin 6144)) := by
  pointwise [table]

variable (m : (ℓ : Loc nD τ sig) → Buf (Elt Ideal) ℓ) (c : Dev nD)

/-! ## What the host hands the call -/

/-- The stream, -/
theorem entry_stream : V m c main_v1 = stream (m ((c.tc : Thread nD τ).loc main_arg1)) (m ((c.tc : Thread nD τ).loc main_arg0)) := by
  show StableHlo.after hostOps0 (fun b => m (c, b)) (Proc.devRef .tc main_v1) = _
  after_results_simp
  rfl

/-- the tokens' results, -/
theorem entry_results : V m c main_v13 = (shapeCast S4x33792x1024 (chosen (m ((c.tc : Thread nD τ).loc main_arg2)) (m ((c.tc : Thread nD τ).loc main_arg3)))
    shapeCasts_S135168x1024_S4x33792x1024 : FVec Ideal S4x33792x1024 .bf16) := by
  show StableHlo.after hostOps0 (fun b => m (c, b)) (Proc.devRef .tc main_v13) = _
  after_results_simp
  rfl

/-- their weights, -/
theorem entry_weights : V m c main_v14 = (transpose S33792x4 [1, 0] (m ((c.tc : Thread nD τ).loc main_arg4) : FVec Ideal S4x33792 .f32) transposes_S4x33792_S33792x4_1_0 : FVec Ideal S33792x4 .f32) := by
  show StableHlo.after hostOps0 (fun b => m (c, b)) (Proc.devRef .tc main_v14) = _
  after_results_simp

/-- and the table of scales. -/
theorem entry_table : V m c main_v5 = table (m ((c.tc : Thread nD τ).loc main_arg5)) (m ((c.tc : Thread nD τ).loc main_arg6)) := by
  show StableHlo.after hostOps0 (fun b => m (c, b)) (Proc.devRef .tc main_v5) = _
  after_results_simp
  rfl

theorem results_apply (y : FVec Ideal S135168x1024 .bf16) (k : Fin 4) (a : Fin 33792) (z : Fin 1024) :
    (shapeCast S4x33792x1024 y shapeCasts_S135168x1024_S4x33792x1024 : FVec Ideal S4x33792x1024 .bf16) (ix3 k a z)
      = y (ix2 (⟨k.val * 33792 + a.val, by have := k.isLt; have := a.isLt; omega⟩ : Fin 135168) z) := by
  pointwise

theorem weights_apply (w : FVec Ideal S4x33792 .f32) (k : Fin 4) (a : Fin 33792) :
    (transpose S33792x4 [1, 0] w transposes_S4x33792_S33792x4_1_0 : FVec Ideal S33792x4 .f32) (ix2 a k) = w (ix2 k a) := by
  pointwise

/-! ## Where a tile lies -/

theorem at0 (t : Fin grid0.N) : cc0_transform_0 (grid0.coords t) = ![t.val, 0] :=
  (by decide +kernel : ∀ t : Fin grid0.N, cc0_transform_0 (grid0.coords t) = ![t.val, 0]) t
theorem at1 (t : Fin grid0.N) : cc0_transform_1 (grid0.coords t) = ![0, t.val, 0] :=
  (by decide +kernel : ∀ t : Fin grid0.N, cc0_transform_1 (grid0.coords t) = ![0, t.val, 0]) t
theorem at2 (t : Fin grid0.N) : cc0_transform_2 (grid0.coords t) = ![t.val, 0] :=
  (by decide +kernel : ∀ t : Fin grid0.N, cc0_transform_2 (grid0.coords t) = ![t.val, 0]) t
/-- A batch's first tile is its context's, and picks the context's scales. -/
theorem at3 (t : Fin grid0.N) : cc0_transform_3 (grid0.coords t) = ![if t.val % 33 = 0 then 4 else t.val / 33, 0, 0] :=
  (by decide +kernel : ∀ t : Fin grid0.N, cc0_transform_3 (grid0.coords t) = ![if t.val % 33 = 0 then 4 else t.val / 33, 0, 0]) t
theorem at4 (t : Fin grid0.N) : cc0_transform_4 (grid0.coords t) = ![t.val, 0] :=
  (by decide +kernel : ∀ t : Fin grid0.N, cc0_transform_4 (grid0.coords t) = ![t.val, 0]) t

section Tile

variable (t : Fin cfg0.N) (y : Fin 256) (z : Fin 1024) (a : Fin 33792) (ha : a.val = t.val * 256 + y.val)

include ha

theorem tile_stream : (show Vec Ideal S256x1024 .f32 from iblk m c 0 t) (ix2 y z) = V m c main_v1 (ix2 a z) := by
  refine congrArg (V m c main_v1) (funext fun i => Fin.ext ?_)
  show cc0_transform_0 (grid0.coords t) i * S256x1024.size i + 1 * (ix2 y z i).val = _
  rw [at0]
  fin_cases i
  · show t.val * 256 + 1 * y.val = a.val; omega
  · show 0 * 1024 + 1 * z.val = z.val; omega

theorem tile_results (k : Fin 4) : (show Vec Ideal S4x256x1024 .bf16 from iblk m c 1 t) (ix3 k y z) = V m c main_v13 (ix3 k a z) := by
  refine congrArg (V m c main_v13) (funext fun i => Fin.ext ?_)
  show cc0_transform_1 (grid0.coords t) i * S4x256x1024.size i + 1 * (ix3 k y z i).val = _
  rw [at1]
  fin_cases i
  · show 0 * 4 + 1 * k.val = k.val; omega
  · show t.val * 256 + 1 * y.val = a.val; omega
  · show 0 * 1024 + 1 * z.val = z.val; omega

theorem tile_weights (k : Fin 4) : (show Vec Ideal S256x4 .f32 from iblk m c 2 t) (ix2 y k) = V m c main_v14 (ix2 a k) := by
  refine congrArg (V m c main_v14) (funext fun i => Fin.ext ?_)
  show cc0_transform_2 (grid0.coords t) i * S256x4.size i + 1 * (ix2 y k i).val = _
  rw [at2]
  fin_cases i
  · show t.val * 256 + 1 * y.val = a.val; omega
  · show 0 * 4 + 1 * k.val = k.val; omega

omit ha in
theorem tile_table (s : Fin 8) (hs : s.val = if t.val % 33 = 0 then 4 else t.val / 33) :
    (show Vec Ideal S1x6x1024 .f32 from iblk m c 3 t) (ix3 (0 : Fin 1) (5 : Fin 6) z) = V m c main_v5 (ix3 s (5 : Fin 6) z) := by
  refine congrArg (V m c main_v5) (funext fun i => Fin.ext ?_)
  show cc0_transform_3 (grid0.coords t) i * S1x6x1024.size i + 1 * (ix3 (0 : Fin 1) (5 : Fin 6) z i).val = _
  rw [at3]
  fin_cases i
  · show (if t.val % 33 = 0 then 4 else t.val / 33) * 1 + 1 * 0 = s.val; omega
  · rfl
  · show 0 * 1024 + 1 * z.val = z.val; omega

/-- The scales a tile picks are its tokens'. -/
theorem tile_scale : (show EReal from (show Vec Ideal S1x6x1024 .f32 from iblk m c 3 t) (ix3 (0 : Fin 1) (5 : Fin 6) z))
    = scale (m ((c.tc : Thread nD τ).loc main_arg5)) (m ((c.tc : Thread nD τ).loc main_arg6)) a z := by
  have ht : t.val < 132 := t.isLt
  have hy := y.isLt
  unfold scale
  by_cases h : a.val % 8448 < 256
  · rw [if_pos h, tile_table m c t z (4 : Fin 8) (by rw [if_pos (by omega)]; rfl), entry_table]
    exact table_context _ _ z
  · have hb : a.val / 8448 < 4 := by omega
    rw [if_neg h, tile_table m c t z (⟨a.val / 8448, by omega⟩ : Fin 8) (by rw [if_neg (by omega)]; show a.val / 8448 = _; omega), entry_table]
    exact table_batch _ _ (⟨a.val / 8448, hb⟩ : Fin 4) z

/-- The reference's result over the arguments. -/
abbrev want : FVec Ideal S33792x1024 .f32 :=
  whole (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- A tile of the result is the reference's tokens there. -/
theorem tile : out0_4 (F := Ideal) (iblk m c 0 t) (iblk m c 1 t) (iblk m c 2 t) (iblk m c 3 t) (ix2 y z) = want m c (ix2 a z) := by
  refine (out_apply _ _ _ _ y z).trans (Eq.trans ?_ (Cert.Reference3Ideal.Combine.whole_apply _ _ _ _ _ _ _ a z).symm)
  rw [Cert.Reference3Ideal.Combine.summed_apply, ← tile_scale m c t y z a ha, ← entry_stream]
  refine congrArg₂ (· + ·) (tile_stream m c t y z a ha) (congrArg (_ * ·) (Finset.sum_congr rfl fun k _ => congrArg₂ (· * ·) ?_ ?_))
  · refine (tile_weights m c t y a ha k).trans ?_
    rw [entry_weights]
    exact weights_apply _ k a
  · refine (tile_results m c t y z a ha k).trans ?_
    rw [entry_results]
    exact results_apply _ k a z

end Tile

/-! ## The whole result -/

/-- Every point writes its tile back. -/
theorem flush4 (t : Fin grid0.N) : (cfg0.win 4).flush t = true :=
  (by decide +kernel : ∀ t : Fin grid0.N, (cfg0.win 4).flush t = true) t

/-- The tiles are the whole result. -/
theorem covers : (cfg0.win 4).Covers := by
  refine ⟨fun a => ?_, fun β => ?_⟩
  · show 0 < S256x1024.size a
    exact (by decide : ∀ a : Fin 2, 0 < S256x1024.size a) a
  · have h0 : (β (0 : Fin 2)).val < 132 := lt_of_lt_of_eq (β (0 : Fin 2)).isLt (by show (33792 + 256 - 1) / 256 = 132; norm_num)
    have h1 : (β (1 : Fin 2)).val < 1 := lt_of_lt_of_eq (β (1 : Fin 2)).isLt (by show (1024 + 1024 - 1) / 1024 = 1; norm_num)
    refine ⟨⟨(β (0 : Fin 2)).val, h0⟩, flush4 _, fun a => ⟨?_, .inl rfl⟩⟩
    show cc0_transform_4 (grid0.coords ⟨(β (0 : Fin 2)).val, h0⟩) a = (β a).val
    rw [at4]
    fin_cases a
    · rfl
    · show 0 = (β (1 : Fin 2)).val
      omega

/-- The result after the run is the reference's. -/
theorem final : (dats m 0 c).arrAt 4 cfg0.N = want m c := by
  refine (dats m 0 c).arrAt_eq_of_covers 4 _ covers (fun t _ y => ?_) (Memref.isWhole_whole _)
  have ht : t.val < 132 := t.isLt
  have hy : (y (0 : Fin 2)).val < 256 := (y (0 : Fin 2)).isLt
  have e := tile m c t (y (0 : Fin 2)) (y (1 : Fin 2)) ⟨t.val * 256 + (y (0 : Fin 2)).val, by omega⟩ rfl
  refine (congrFun (after0_4 m c t) _).trans ?_
  refine (congrArg (out0_4 (F := Ideal) (iblk m c 0 t) (iblk m c 1 t) (iblk m c 2 t) (iblk m c 3 t)) (eq_ix2 (y : S256x1024.Idx))).trans (e.trans (congrArg (want m c) ?_))
  funext a
  apply Fin.ext
  show _ = cc0_transform_4 (grid0.coords t) a * S256x1024.size a + 1 * (y a).val
  rw [at4]
  fin_cases a
  · show t.val * 256 + (y (0 : Fin 2)).val = t.val * 256 + 1 * (y (0 : Fin 2)).val
    omega
  · show (y (1 : Fin 2)).val = 0 * 1024 + 1 * (y (1 : Fin 2)).val
    omega

end Cert.Kernel3Ideal.Combine

end
-- ==== Proof.Inproj.Ref.lean ====
/- # The projection's reference, read at an index

A token of the stream is normed, scaled and shifted, a context token by the context's modulation and a latent by its batch's, and
multiplied with the projection's columns. -/
module

public import proofs.«01_k».proof.Proof.Gen.Reference4Ideal
public import Idealize.ShloMosaic.Lib.Pointwise

@[expose] public section

set_option maxRecDepth 16384

noncomputable section

namespace Cert.Reference4Ideal.Inproj

open Idealize.ShloMosaic Idealize.ShloMosaic.TcCoe
open Cert.Reference4Ideal Cert.Reference4Ideal.Gen

/-- A token's width, and -/
def width : EReal := Ideal.ofBits .f32 0x44800000#32
/-- what is added to its mean square. -/
def small : EReal := Ideal.ofBits .f32 0x358637BD#32

/-- A token over the root of its mean square, by its gain and its scale, and shifted. -/
def normed (x g s b : Fin 1024 → EReal) (k : Fin 1024) : EReal :=
  x k * Ideal.rsqrt (Ideal.div (∑ j : Fin 1024, x j * x j) width + small) * g k * (1 + s k) + b k

/-- The logistic function. -/
def squash (v : EReal) : EReal := Ideal.div 1 (1 + Ideal.exp (-v))

/-- The context's tokens normed, -/
def contextRows (p : FVec Ideal S4x256x1024 .f32) (g : FVec Ideal S1024 .f32) (gc : FVec Ideal S6144 .f32) : FVec Ideal S4x256x1024 .f32 :=
  addf (mulf (mulf (mulf p (broadcastInDim S4x256x1024 ![0, 1, 2] bcast_S4x256x1_S4x256x1024_0_1_2 (Host.rsqrt (addf (Host.divf (broadcastInDim S4x256x1 ![0, 1] bcast_S4x256_S4x256x1_0_1
      (Host.reduceAdd (mulf p p) (constant (F := Ideal) S_ .f32 0x00000000#32) reducesTo_S4x256x1024_S4x256_d2 h_S_)) (broadcastInDim S4x256x1 ![] bcast_S_S4x256x1 (constant (F := Ideal) S_ .f32 0x44800000#32)))
      (broadcastInDim S4x256x1 ![] bcast_S_S4x256x1 (constant (F := Ideal) S_ .f32 0x358637BD#32))))))
    (broadcastInDim S4x256x1024 ![0, 1, 2] bcast_S1x1x1024_S4x256x1024_0_1_2 (broadcastInDim S1x1x1024 ![2] bcast_S1024_S1x1x1024_2 g)))
    (broadcastInDim S4x256x1024 ![0, 1, 2] bcast_S1x1x1024_S4x256x1024_0_1_2 (broadcastInDim S1x1x1024 ![2] bcast_S1024_S1x1x1024_2
      (addf (broadcastInDim S1024 ![] bcast_S_S1024 (constant (F := Ideal) S_ .f32 0x3F800000#32)) (extractStridedSlice S1024 ![1024] gc slices_S6144_S1024_1024)))))
    (broadcastInDim S4x256x1024 ![0, 1, 2] bcast_S1x1x1024_S4x256x1024_0_1_2 (broadcastInDim S1x1x1024 ![2] bcast_S1024_S1x1x1024_2 (extractStridedSlice S1024 ![0] gc slices_S6144_S1024_0)))

theorem contextRows_apply (p : FVec Ideal S4x256x1024 .f32) (g : FVec Ideal S1024 .f32) (gc : FVec Ideal S6144 .f32) (b : Fin 4) (n : Fin 256) (z : Fin 1024) :
    contextRows p g gc (ix3 b n z) = normed (fun j => p (ix3 b n j)) (fun j => g (ix1 j))
      (fun j => gc (ix1 (⟨1024 + j.val, by have := j.isLt; omega⟩ : Fin 6144))) (fun j => gc (ix1 (⟨j.val, by have := j.isLt; omega⟩ : Fin 6144))) z := by
  pointwise [contextRows, normed, width, small]

/-- and the latents. -/
def latentRows (q : FVec Ideal S4x8192x1024 .f32) (g : FVec Ideal S1024 .f32) (gm : FVec Ideal S4x6144 .f32) : FVec Ideal S4x8192x1024 .f32 :=
  addf (mulf (mulf (mulf q (broadcastInDim S4x8192x1024 ![0, 1, 2] bcast_S4x8192x1_S4x8192x1024_0_1_2 (Host.rsqrt (addf (Host.divf (broadcastInDim S4x8192x1 ![0, 1] bcast_S4x8192_S4x8192x1_0_1
      (Host.reduceAdd (mulf q q) (constant (F := Ideal) S_ .f32 0x00000000#32) reducesTo_S4x8192x1024_S4x8192_d2 h_S_)) (broadcastInDim S4x8192x1 ![] bcast_S_S4x8192x1 (constant (F := Ideal) S_ .f32 0x44800000#32)))
      (broadcastInDim S4x8192x1 ![] bcast_S_S4x8192x1 (constant (F := Ideal) S_ .f32 0x358637BD#32))))))
    (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S4x1x1024_S4x8192x1024_0_1_2
      (addf (broadcastInDim S4x1x1024 ![] bcast_S_S4x1x1024 (constant (F := Ideal) S_ .f32 0x3F800000#32)) (extractStridedSlice S4x1x1024 ![0, 0, 1024] (broadcastInDim S4x1x6144 ![0, 2] bcast_S4x6144_S4x1x6144_0_2 gm) slices_S4x1x6144_S4x1x1024_0_0_1024))))
    (broadcastInDim S4x8192x1024 ![0, 1, 2] bcast_S4x1x1024_S4x8192x1024_0_1_2 (extractStridedSlice S4x1x1024 ![0, 0, 0] (broadcastInDim S4x1x6144 ![0, 2] bcast_S4x6144_S4x1x6144_0_2 gm) slices_S4x1x6144_S4x1x1024_0_0_0))

theorem latentRows_apply (q : FVec Ideal S4x8192x1024 .f32) (g : FVec Ideal S1024 .f32) (gm : FVec Ideal S4x6144 .f32) (b : Fin 4) (n : Fin 8192) (z : Fin 1024) :
    latentRows q g gm (ix3 b n z) = normed (fun j => q (ix3 b n j)) (fun j => g (ix1 j))
      (fun j => gm (ix2 b (⟨1024 + j.val, by have := j.isLt; omega⟩ : Fin 6144))) (fun j => gm (ix2 b (⟨j.val, by have := j.isLt; omega⟩ : Fin 6144))) z := by
  pointwise [latentRows, normed, width, small]

/-- The batches' context tokens before their latents, in one stream. -/
def stream (p : FVec Ideal S4x256x1024 .f32) (q : FVec Ideal S4x8192x1024 .f32) : FVec Ideal S33792x1024 .f32 :=
  shapeCast _ (concatenate S4x8448x1024 1 [⟨S4x256x1024, p⟩, ⟨S4x8192x1024, q⟩] concatenates_S4x256x1024_S4x8192x1024_S4x8448x1024_d1)
    shapeCasts_S4x8448x1024_S33792x1024

theorem stream_at (p : FVec Ideal S4x256x1024 .f32) (q : FVec Ideal S4x8192x1024 .f32) (a : Fin 33792) (z : Fin 1024) :
    stream p q (ix2 a z) = if h : a.val % 8448 < 256 then p (ix3 (⟨a.val / 8448, by have := a.isLt; omega⟩ : Fin 4) (⟨a.val % 8448, h⟩ : Fin 256) z)
      else q (ix3 (⟨a.val / 8448, by have := a.isLt; omega⟩ : Fin 4) (⟨a.val % 8448 - 256, by omega⟩ : Fin 8192) z) := by
  pointwise [stream]

/-- The projection: the normed stream times the weights. -/
def projected (r : FVec Ideal S33792x1024 .f32) (w : FVec Ideal S1024x6400 .f32) : FVec Ideal S33792x6400 .f32 :=
  Host.dotGeneral (F := Ideal) dot_S33792x1024_S1024x6400_S33792x6400_1_0_0_1_n_n none r w

theorem projected_apply (r : FVec Ideal S33792x1024 .f32) (w : FVec Ideal S1024x6400 .f32) (a : Fin 33792) (n : Fin 6400) :
    projected r w (ix2 a n) = ∑ j : Fin 1024, (show EReal from r (ix2 a j)) * (show EReal from w (ix2 j n)) := by
  pointwise [projected]

/-- The first attention's values, tile by tile, -/
def firstValues (v : FVec Ideal S33792x6400 .f32) : FVec Ideal S132x128x256 .bf16 :=
  truncf .bf16 (transpose S132x128x256 [0, 2, 1] (shapeCast _ (extractStridedSlice S33792x128 ![0, 128] v slices_S33792x6400_S33792x128_0_128)
    shapeCasts_S33792x128_S132x256x128) transposes_S132x256x128_S132x128x256_0_2_1) bitsLt_bf16_f32

theorem firstValues_apply (v : FVec Ideal S33792x6400 .f32) (t : Fin 132) (k : Fin 128) (y : Fin 256) :
    firstValues v (ix3 t k y) = v (ix2 (⟨t.val * 256 + y.val, by have := t.isLt; have := y.isLt; omega⟩ : Fin 33792) (⟨128 + k.val, by have := k.isLt; omega⟩ : Fin 6400)) := by
  pointwise [firstValues]

/-- the second's, -/
def secondValues (v : FVec Ideal S33792x6400 .f32) : FVec Ideal S132x512x256 .bf16 :=
  truncf .bf16 (transpose S132x512x256 [0, 2, 1] (shapeCast _ (extractStridedSlice S33792x512 ![0, 768] v slices_S33792x6400_S33792x512_0_768)
    shapeCasts_S33792x512_S132x256x512) transposes_S132x256x512_S132x512x256_0_2_1) bitsLt_bf16_f32

theorem secondValues_apply (v : FVec Ideal S33792x6400 .f32) (t : Fin 132) (k : Fin 512) (y : Fin 256) :
    secondValues v (ix3 t k y) = v (ix2 (⟨t.val * 256 + y.val, by have := t.isLt; have := y.isLt; omega⟩ : Fin 33792) (⟨768 + k.val, by have := k.isLt; omega⟩ : Fin 6400)) := by
  pointwise [secondValues]

/-- the convolution's input, -/
def convInput (v : FVec Ideal S33792x6400 .f32) : FVec Ideal S33792x512 .f32 :=
  mulf (extractStridedSlice S33792x512 ![0, 0] (extractStridedSlice S33792x1024 ![0, 2304] v slices_S33792x6400_S33792x1024_0_2304) slices_S33792x1024_S33792x512_0_0)
    (Host.divf (broadcastInDim S33792x512 ![] bcast_S_S33792x512 (constant (F := Ideal) S_ .f32 0x3F800000#32)) (addf (broadcastInDim S33792x512 ![] bcast_S_S33792x512 (constant (F := Ideal) S_ .f32 0x3F800000#32))
      (Host.exp (Host.negf (extractStridedSlice S33792x512 ![0, 512] (extractStridedSlice S33792x1024 ![0, 2304] v slices_S33792x6400_S33792x1024_0_2304) slices_S33792x1024_S33792x512_0_512)))))

theorem convInput_apply (v : FVec Ideal S33792x6400 .f32) (a : Fin 33792) (k : Fin 512) :
    convInput v (ix2 a k) = (show EReal from v (ix2 a (⟨2304 + k.val, by have := k.isLt; omega⟩ : Fin 6400)))
      * squash (v (ix2 a (⟨2304 + (512 + k.val), by have := k.isLt; omega⟩ : Fin 6400))) := by
  pointwise [convInput, squash]

/-- and the gates. -/
def gates (v : FVec Ideal S33792x6400 .f32) (d : FVec Ideal S3072 .f32) : FVec Ideal S33792x3072 .bf16 :=
  truncf .bf16 (Host.divf (broadcastInDim S33792x3072 ![] bcast_S_S33792x3072 (constant (F := Ideal) S_ .f32 0x3F800000#32)) (addf (broadcastInDim S33792x3072 ![] bcast_S_S33792x3072 (constant (F := Ideal) S_ .f32 0x3F800000#32))
    (Host.exp (Host.negf (addf (extractStridedSlice S33792x3072 ![0, 3328] v slices_S33792x6400_S33792x3072_0_3328)
      (broadcastInDim S33792x3072 ![0, 1] bcast_S1x3072_S33792x3072_0_1 (broadcastInDim S1x3072 ![1] bcast_S3072_S1x3072_1 d))))))) bitsLt_bf16_f32

theorem gates_apply (v : FVec Ideal S33792x6400 .f32) (d : FVec Ideal S3072 .f32) (a : Fin 33792) (k : Fin 3072) :
    gates v d (ix2 a k) = squash ((show EReal from v (ix2 a (⟨3328 + k.val, by have := k.isLt; omega⟩ : Fin 6400))) + (show EReal from d (ix1 k))) := by
  pointwise [gates, squash]

/-! ## The whole -/

section Whole

variable (q : FVec Ideal S4x8192x1024 .f32) (p : FVec Ideal S4x256x1024 .f32) (g : FVec Ideal S1024 .f32) (w : FVec Ideal S1024x6400 .f32)
  (gm : FVec Ideal S4x6144 .f32) (gc : FVec Ideal S6144 .f32) (a : Fin 33792) (z : Fin 1024)

/-- A token's shift: the first sixth of its modulation. -/
def shift : EReal :=
  if a.val % 8448 < 256 then gc (ix1 (⟨z.val, by have := z.isLt; omega⟩ : Fin 6144))
    else gm (ix2 (⟨a.val / 8448, by have := a.isLt; omega⟩ : Fin 4) (⟨z.val, by have := z.isLt; omega⟩ : Fin 6144))

/-- A token's scale: the second. -/
def scale : EReal :=
  if a.val % 8448 < 256 then gc (ix1 (⟨1024 + z.val, by have := z.isLt; omega⟩ : Fin 6144))
    else gm (ix2 (⟨a.val / 8448, by have := a.isLt; omega⟩ : Fin 4) (⟨1024 + z.val, by have := z.isLt; omega⟩ : Fin 6144))

/-- The normed stream. -/
def rows : FVec Ideal S33792x1024 .f32 := stream (contextRows p g gc) (latentRows q g gm)

theorem rows_apply : rows q p g gm gc (ix2 a z)
    = normed (fun j => stream p q (ix2 a j)) (fun j => g (ix1 j)) (fun j => scale gm gc a j) (fun j => shift gm gc a j) z := by
  unfold rows
  rw [stream_at]
  by_cases h : a.val % 8448 < 256
  · simp only [stream_at, scale, shift, dif_pos h, if_pos h]
    exact contextRows_apply p g gc _ _ z
  · simp only [stream_at, scale, shift, dif_neg h, if_neg h]
    exact latentRows_apply q g gm _ _ z

/-- The projection of the normed stream. -/
def whole : FVec Ideal S33792x6400 .f32 := projected (rows q p g gm gc) w

/-- A column of a token's projection. -/
def column (n : Fin 6400) : EReal :=
  ∑ k : Fin 1024, normed (fun j => stream p q (ix2 a j)) (fun j => g (ix1 j)) (fun j => scale gm gc a j) (fun j => shift gm gc a j) k
    * (show EReal from w (ix2 k n))

theorem whole_apply (n : Fin 6400) : whole q p g w gm gc (ix2 a n) = column q p g w gm gc a n := by
  unfold whole column
  rw [projected_apply]
  exact Finset.sum_congr rfl fun k _ => congrArg (· * _) (rows_apply q p g gm gc a k)

end Whole

end Cert.Reference4Ideal.Inproj

end
-- ==== Proof.Inproj.Run.lean ====
/- # The projection's reference run

Its results are the values, the convolution's input and the gates of the projection of the normed stream. -/
module

public import proofs.«01_k».proof.Proof.Inproj.Ref
public import proofs.«01_k».proof.Proof.Gen.Reference4Ideal.Run

@[expose] public section

set_option maxRecDepth 16384

noncomputable section

namespace Cert.Reference4Ideal.Inproj

open Idealize.ShloMosaic Idealize.ShloMosaic.TcCoe Idealize.SL.Sem
open Cert.Reference4Ideal Cert.Reference4Ideal.Gen

variable (m : (ℓ : Loc nD τ sig) → Buf (Elt Ideal) ℓ) (ρ : Dev nD → PrngReg)

/-- The projection over the arguments. -/
def projection (c : Dev nD) : FVec Ideal S33792x6400 .f32 :=
  whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10))

theorem run : θ_run defs (onTc (τ := τ) (main (F := Ideal))) ⟨m, fun _ => 0, ρ⟩ fun r => ∀ c : Dev nD,
      r.2.mem ((c.tc : Thread nD τ).loc main_v71) = firstValues (projection m c)
      ∧ r.2.mem ((c.tc : Thread nD τ).loc main_v74) = secondValues (projection m c)
      ∧ r.2.mem ((c.tc : Thread nD τ).loc main_v68) = convInput (projection m c)
      ∧ r.2.mem ((c.tc : Thread nD τ).loc main_v84) = gates (projection m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans rfl, (h c).2.1.trans rfl, (h c).2.2.1.trans rfl, (h c).2.2.2.1.trans rfl, (h c).2.2.2.2⟩)
    (Cert.Reference4Ideal.Value.run m ρ)

end Cert.Reference4Ideal.Inproj

end
-- ==== Proof.Inproj.Block.lean ====
/- # A tile of the projection's kernel at an index

Over exact arithmetic: the normed tile, and what it gives times the columns of the values, of the convolution and of the gates. -/
module

public import proofs.«01_k».proof.Proof.Inproj.Ref
public import proofs.«01_k».proof.Proof.Gen.Kernel4Ideal.Skeleton
public import Idealize.ShloMosaic.Lib.Pointwise

@[expose] public section

set_option maxRecDepth 16384

noncomputable section

namespace Cert.Kernel4Ideal.Inproj

open Idealize.ShloMosaic Idealize.ShloMosaic.TcCoe
open Cert.Kernel4Ideal Cert.Kernel4Ideal.Gen
open Cert.Reference4Ideal.Inproj (width small normed squash)

/-- A token of the normed tile. -/
theorem pay1_apply (x : Vec Ideal S256x1024 .f32) (g : Vec Ideal S1x1024 .f32) (b s : Vec Ideal S1x1x1024 .f32) (y : Fin 256) (z : Fin 1024) :
    k0_pay1 (F := Ideal) x g b s (ix2 y z) = normed (fun j => x (ix2 y j)) (fun j => g (ix2 (0 : Fin 1) j))
      (fun j => s (ix3 (0 : Fin 1) (0 : Fin 1) j)) (fun j => b (ix3 (0 : Fin 1) (0 : Fin 1) j)) z := by
  pointwise [k0_pay1, normed, width, small]

variable (h : FVec Ideal S256x1024 .bf16)

theorem pay68_apply (w : Vec Ideal S1024x640 .bf16) (k : Fin 128) (y : Fin 256) :
    k0_pay68 (F := Ideal) h w (ix3 (0 : Fin 1) k y)
      = ∑ j : Fin 1024, (show EReal from h (ix2 y j)) * (show EReal from w (ix2 j (⟨k.val, by have := k.isLt; omega⟩ : Fin 640))) := by
  pointwise [k0_pay68, k0_pay67]

theorem pay69_apply (w : Vec Ideal S1024x640 .bf16) (k : Fin 128) (y : Fin 256) :
    k0_pay69 (F := Ideal) h w (ix3 (0 : Fin 1) k y)
      = ∑ j : Fin 1024, (show EReal from h (ix2 y j)) * (show EReal from w (ix2 j (⟨128 + k.val, by have := k.isLt; omega⟩ : Fin 640))) := by
  pointwise [k0_pay69, k0_pay67]

theorem pay70_apply (w : Vec Ideal S1024x640 .bf16) (k : Fin 128) (y : Fin 256) :
    k0_pay70 (F := Ideal) h w (ix3 (0 : Fin 1) k y)
      = ∑ j : Fin 1024, (show EReal from h (ix2 y j)) * (show EReal from w (ix2 j (⟨256 + k.val, by have := k.isLt; omega⟩ : Fin 640))) := by
  pointwise [k0_pay70, k0_pay67]

theorem pay71_apply (w : Vec Ideal S1024x640 .bf16) (k : Fin 128) (y : Fin 256) :
    k0_pay71 (F := Ideal) h w (ix3 (0 : Fin 1) k y)
      = ∑ j : Fin 1024, (show EReal from h (ix2 y j)) * (show EReal from w (ix2 j (⟨384 + k.val, by have := k.isLt; omega⟩ : Fin 640))) := by
  pointwise [k0_pay71, k0_pay67]

theorem pay73_apply (w : Vec Ideal S1024x640 .bf16) (k : Fin 128) (y : Fin 256) :
    k0_pay73 (F := Ideal) (k0_pay72 h w) (ix3 (0 : Fin 1) k y)
      = ∑ j : Fin 1024, (show EReal from h (ix2 y j)) * (show EReal from w (ix2 j (⟨512 + k.val, by have := k.isLt; omega⟩ : Fin 640))) := by
  pointwise [k0_pay73, k0_pay72, k0_pay67]

variable (w : Vec Ideal S1024x1024 .bf16) (d : Vec Ideal S1x1024 .f32) (y : Fin 256)

/-- A token's product with a column. -/
def product (k : Fin 1024) : EReal := ∑ j : Fin 1024, (show EReal from h (ix2 y j)) * (show EReal from w (ix2 j k))

theorem pay74_apply (k : Fin 512) : k0_pay74 (F := Ideal) h w (ix2 y k)
    = product h w y (⟨k.val, by have := k.isLt; omega⟩ : Fin 1024) * squash (product h w y (⟨512 + k.val, by have := k.isLt; omega⟩ : Fin 1024)) := by
  unfold squash
  rw [← zero_sub]
  pointwise [k0_pay74, product]

theorem pay75_apply (k : Fin 1024) : k0_pay75 (F := Ideal) h w d (ix2 y k)
    = squash (product h w y k + (show EReal from d (ix2 (0 : Fin 1) k))) := by
  unfold squash
  rw [← zero_sub]
  pointwise [k0_pay75, product]

theorem pay77_apply (k : Fin 1024) : k0_pay77 (F := Ideal) h (k0_pay76 w) (constant S256x1024 .f32 0x00000000#32) d (ix2 y k)
    = squash (product h w y k + (show EReal from d (ix2 (0 : Fin 1) k))) := by
  unfold squash
  rw [← zero_sub]
  pointwise [k0_pay77, k0_pay76, product]

theorem pay78_apply (k : Fin 1024) : k0_pay78 (F := Ideal) h w d (ix2 y k)
    = squash (product h w y k + (show EReal from d (ix2 (0 : Fin 1) k))) := by
  unfold squash
  rw [← zero_sub]
  pointwise [k0_pay78, product]

end Cert.Kernel4Ideal.Inproj

end
-- ==== Proof.Inproj.Host.lean ====
/- # What the host hands the projection's call

The stream of tokens, the table of modulations, the norm's gain, the weights with their columns in the kernel's order, and the gates'
offsets. -/
module

public import proofs.«01_k».proof.Proof.Inproj.Ref
public import proofs.«01_k».proof.Proof.Gen.Kernel4Ideal
public import proofs.«01_k».proof.Proof.Gen.Kernel4Ideal.Frame
public import Idealize.ShloMosaic.Lib.Pointwise

@[expose] public section

set_option maxRecDepth 16384

noncomputable section

namespace Cert.Kernel4Ideal.Inproj

open Idealize.ShloMosaic Idealize.ShloMosaic.TcCoe
open Cert.Kernel4Ideal Cert.Kernel4Ideal.Gen
open Cert.Reference4Ideal.Inproj (stream)

/-- The modulations by batch, the context's after them, and three rows of zeros. -/
def table (g : FVec Ideal S4x6144 .f32) (gc : FVec Ideal S6144 .f32) : FVec Ideal S8x6x1024 .f32 :=
  shapeCast _ (concatenate S8x6144 0 [⟨S4x6144, g⟩, ⟨S1x6144, broadcastInDim S1x6144 ![1] bcast_S6144_S1x6144_1 gc⟩,
    ⟨S3x6144, broadcastInDim S3x6144 ![] bcast_S_S3x6144 (constant (F := Ideal) S_ .f32 0x00000000#32)⟩] concatenates_S4x6144_S1x6144_S3x6144_S8x6144_d0)
    shapeCasts_S8x6144_S8x6x1024

theorem table_batch_shift (g : FVec Ideal S4x6144 .f32) (gc : FVec Ideal S6144 .f32) (b : Fin 4) (z : Fin 1024) :
    table g gc (ix3 (⟨b.val, by have := b.isLt; omega⟩ : Fin 8) (0 : Fin 6) z) = g (ix2 b (⟨z.val, by have := z.isLt; omega⟩ : Fin 6144)) := by
  pointwise [table]

theorem table_batch_scale (g : FVec Ideal S4x6144 .f32) (gc : FVec Ideal S6144 .f32) (b : Fin 4) (z : Fin 1024) :
    table g gc (ix3 (⟨b.val, by have := b.isLt; omega⟩ : Fin 8) (1 : Fin 6) z) = g (ix2 b (⟨1024 + z.val, by have := z.isLt; omega⟩ : Fin 6144)) := by
  pointwise [table]

theorem table_context_shift (g : FVec Ideal S4x6144 .f32) (gc : FVec Ideal S6144 .f32) (z : Fin 1024) :
    table g gc (ix3 (4 : Fin 8) (0 : Fin 6) z) = gc (ix1 (⟨z.val, by have := z.isLt; omega⟩ : Fin 6144)) := by
  pointwise [table]

theorem table_context_scale (g : FVec Ideal S4x6144 .f32) (gc : FVec Ideal S6144 .f32) (z : Fin 1024) :
    table g gc (ix3 (4 : Fin 8) (1 : Fin 6) z) = gc (ix1 (⟨1024 + z.val, by have := z.isLt; omega⟩ : Fin 6144)) := by
  pointwise [table]

/-- The weights' columns, the keys and queries of both attentions before their values. -/
def ordered (w : FVec Ideal S1024x6400 .f32) : FVec Ideal S1024x6400 .f32 :=
  concatenate S1024x6400 1 [⟨S1024x128, extractStridedSlice S1024x128 ![0, 0] w slices_S1024x6400_S1024x128_0_0⟩,
    ⟨S1024x512, extractStridedSlice S1024x512 ![0, 256] w slices_S1024x6400_S1024x512_0_256⟩,
    ⟨S1024x1024, extractStridedSlice S1024x1024 ![0, 1280] w slices_S1024x6400_S1024x1024_0_1280⟩,
    ⟨S1024x128, extractStridedSlice S1024x128 ![0, 128] w slices_S1024x6400_S1024x128_0_128⟩,
    ⟨S1024x512, extractStridedSlice S1024x512 ![0, 768] w slices_S1024x6400_S1024x512_0_768⟩,
    ⟨S1024x4096, extractStridedSlice S1024x4096 ![0, 2304] w slices_S1024x6400_S1024x4096_0_2304⟩]
    concatenates_S1024x128_S1024x512_S1024x1024_S1024x128_S1024x512_S1024x4096_S1024x6400_d1

theorem ordered_first (w : FVec Ideal S1024x6400 .f32) (j : Fin 1024) (k : Fin 128) :
    ordered w (ix2 j (⟨1664 + k.val, by have := k.isLt; omega⟩ : Fin 6400)) = w (ix2 j (⟨128 + k.val, by have := k.isLt; omega⟩ : Fin 6400)) := by
  pointwise [ordered]
  have hk := k.isLt
  rw [dif_neg (by omega), dif_neg (by omega), dif_neg (by omega), dif_pos (by omega)]
  refine congrArg w (funext fun i => Fin.ext ?_)
  fin_cases i
  · rfl
  · show 128 + (1664 + k.val - 128 - 512 - 1024) = 128 + k.val
    omega

theorem ordered_second (w : FVec Ideal S1024x6400 .f32) (j : Fin 1024) (k : Fin 512) :
    ordered w (ix2 j (⟨1792 + k.val, by have := k.isLt; omega⟩ : Fin 6400)) = w (ix2 j (⟨768 + k.val, by have := k.isLt; omega⟩ : Fin 6400)) := by
  pointwise [ordered]
  have hk := k.isLt
  rw [dif_neg (by omega), dif_neg (by omega), dif_neg (by omega), dif_neg (by omega), dif_pos (by omega)]
  refine congrArg w (funext fun i => Fin.ext ?_)
  fin_cases i
  · rfl
  · show 768 + (1792 + k.val - 128 - 512 - 1024 - 128) = 768 + k.val
    omega

theorem ordered_rest (w : FVec Ideal S1024x6400 .f32) (j : Fin 1024) (k : Fin 4096) :
    ordered w (ix2 j (⟨2304 + k.val, by have := k.isLt; omega⟩ : Fin 6400)) = w (ix2 j (⟨2304 + k.val, by have := k.isLt; omega⟩ : Fin 6400)) := by
  pointwise [ordered]
  have hk := k.isLt
  rw [dif_neg (by omega), dif_neg (by omega), dif_neg (by omega), dif_neg (by omega), dif_neg (by omega)]
  refine congrArg w (funext fun i => Fin.ext ?_)
  fin_cases i
  · rfl
  · show 2304 + (2304 + k.val - 128 - 512 - 1024 - 128 - 512) = 2304 + k.val
    omega

theorem row_apply (g : FVec Ideal S1024 .f32) (z : Fin 1024) :
    (shapeCast S1x1024 g shapeCasts_S1024_S1x1024 : FVec Ideal S1x1024 .f32) (ix2 (0 : Fin 1) z) = g (ix1 z) := by
  pointwise

theorem offsets_apply (d : FVec Ideal S3072 .f32) (z : Fin 3072) :
    (shapeCast S1x3072 d shapeCasts_S3072_S1x3072 : FVec Ideal S1x3072 .f32) (ix2 (0 : Fin 1) z) = d (ix1 z) := by
  pointwise

variable (m : (ℓ : Loc nD τ sig) → Buf (Elt Ideal) ℓ) (c : Dev nD)

/-- The stream, -/
theorem entry_stream : V m c main_v1 = stream (m ((c.tc : Thread nD τ).loc main_arg1)) (m ((c.tc : Thread nD τ).loc main_arg0)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v1) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- the table, -/
theorem entry_table : V m c main_v5 = table (m ((c.tc : Thread nD τ).loc main_arg9)) (m ((c.tc : Thread nD τ).loc main_arg10)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v5) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- the norm's gain, -/
theorem entry_gain : V m c main_v70 = (shapeCast S1x1024 (m ((c.tc : Thread nD τ).loc main_arg2)) shapeCasts_S1024_S1x1024 : FVec Ideal S1x1024 .f32) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v70) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- the weights -/
theorem entry_weights : V m c main_v78 = ordered (m ((c.tc : Thread nD τ).loc main_arg3)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v78) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- and the gates' offsets. -/
theorem entry_offsets : V m c main_v79 = (shapeCast S1x3072 (m ((c.tc : Thread nD τ).loc main_arg4)) shapeCasts_S3072_S1x3072 : FVec Ideal S1x3072 .f32) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v79) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

end Cert.Kernel4Ideal.Inproj

end
-- ==== Proof.Inproj.Rows.lean ====
/- # What a tile of the projection reads

The blocks a tile reads are the reference's tokens, gain, modulation, weights and offsets there, so that its normed tokens and their
products with the weights' columns are the reference's. -/
module

public import proofs.«01_k».proof.Proof.Inproj.Block
public import proofs.«01_k».proof.Proof.Inproj.Host

@[expose] public section

set_option maxRecDepth 16384

noncomputable section

namespace Cert.Kernel4Ideal.Inproj

open Idealize.ShloMosaic Idealize.ShloMosaic.TcCoe
open Cert.Kernel4Ideal Cert.Kernel4Ideal.Gen
open Cert.Reference4Ideal (S33792x6400)
open Cert.Reference4Ideal.Inproj (normed squash stream shift scale rows whole firstValues secondValues convInput gates)

/-! ## Where a tile lies -/

theorem at0 (t : Fin grid0.N) : cc0_transform_0 (grid0.coords t) = ![t.val, 0] :=
  (by decide +kernel : ∀ t : Fin grid0.N, cc0_transform_0 (grid0.coords t) = ![t.val, 0]) t
/-- A batch's first tile is its context's, and picks the context's modulation. -/
theorem at1 (t : Fin grid0.N) : cc0_transform_1 (grid0.coords t) = ![if t.val % 33 = 0 then 4 else t.val / 33, 0, 0] :=
  (by decide +kernel : ∀ t : Fin grid0.N, cc0_transform_1 (grid0.coords t) = ![if t.val % 33 = 0 then 4 else t.val / 33, 0, 0]) t
theorem at2 (t : Fin grid0.N) : cc0_transform_2 (grid0.coords t) = ![0, 0] :=
  (by decide +kernel : ∀ t : Fin grid0.N, cc0_transform_2 (grid0.coords t) = ![0, 0]) t
theorem at3 (t : Fin grid0.N) : cc0_transform_3 (grid0.coords t) = ![0, 0] :=
  (by decide +kernel : ∀ t : Fin grid0.N, cc0_transform_3 (grid0.coords t) = ![0, 0]) t
theorem at7 (t : Fin grid0.N) : cc0_transform_7 (grid0.coords t) = ![0, 0] :=
  (by decide +kernel : ∀ t : Fin grid0.N, cc0_transform_7 (grid0.coords t) = ![0, 0]) t
theorem at11 (t : Fin grid0.N) : cc0_transform_11 (grid0.coords t) = ![t.val, 0, 0] :=
  (by decide +kernel : ∀ t : Fin grid0.N, cc0_transform_11 (grid0.coords t) = ![t.val, 0, 0]) t
theorem at12 (t : Fin grid0.N) : cc0_transform_12 (grid0.coords t) = ![t.val, 0, 0] :=
  (by decide +kernel : ∀ t : Fin grid0.N, cc0_transform_12 (grid0.coords t) = ![t.val, 0, 0]) t
theorem at13 (t : Fin grid0.N) : cc0_transform_13 (grid0.coords t) = ![t.val, 0] :=
  (by decide +kernel : ∀ t : Fin grid0.N, cc0_transform_13 (grid0.coords t) = ![t.val, 0]) t
theorem at14 (t : Fin grid0.N) : cc0_transform_14 (grid0.coords t) = ![t.val, 0] :=
  (by decide +kernel : ∀ t : Fin grid0.N, cc0_transform_14 (grid0.coords t) = ![t.val, 0]) t

variable (m : (ℓ : Loc nD τ sig) → Buf (Elt Ideal) ℓ) (c : Dev nD)

/-! ## The blocks -/

section Blocks

variable (t : Fin cfg0.N) (y : Fin 256) (z : Fin 1024)

theorem block_stream (a : Fin 33792) (ha : a.val = t.val * 256 + y.val) :
    View.ld (show Vec Ideal S256x1024 .f32 from iblk m c 0 t) r0_0 (ix2 y z) = V m c main_v1 (ix2 a z) := by
  refine congrArg (V m c main_v1) (funext fun i => Fin.ext ?_)
  show cc0_transform_0 (grid0.coords t) i * S256x1024.size i + 1 * ((![0, 0] : Fin 2 → ℕ) i + 1 * (ix2 y z i).val) = _
  rw [at0]
  fin_cases i
  · show t.val * 256 + 1 * (0 + 1 * y.val) = a.val; omega
  · show 0 * 1024 + 1 * (0 + 1 * z.val) = z.val; omega

theorem block_shift (s : Fin 8) (hs : s.val = if t.val % 33 = 0 then 4 else t.val / 33) :
    View.ld (show Vec Ideal S1x6x1024 .f32 from iblk m c 1 t) r0_2 (ix3 (0 : Fin 1) (0 : Fin 1) z) = V m c main_v5 (ix3 s (0 : Fin 6) z) := by
  refine congrArg (V m c main_v5) (funext fun i => Fin.ext ?_)
  show cc0_transform_1 (grid0.coords t) i * S1x6x1024.size i + 1 * ((![0, 0, 0] : Fin 3 → ℕ) i + 1 * (ix3 (0 : Fin 1) (0 : Fin 1) z i).val) = _
  rw [at1]
  fin_cases i
  · show (if t.val % 33 = 0 then 4 else t.val / 33) * 1 + 1 * (0 + 1 * 0) = s.val; omega
  · rfl
  · show 0 * 1024 + 1 * (0 + 1 * z.val) = z.val; omega

theorem block_scale (s : Fin 8) (hs : s.val = if t.val % 33 = 0 then 4 else t.val / 33) :
    View.ld (show Vec Ideal S1x6x1024 .f32 from iblk m c 1 t) r0_3 (ix3 (0 : Fin 1) (0 : Fin 1) z) = V m c main_v5 (ix3 s (1 : Fin 6) z) := by
  refine congrArg (V m c main_v5) (funext fun i => Fin.ext ?_)
  show cc0_transform_1 (grid0.coords t) i * S1x6x1024.size i + 1 * ((![0, 1, 0] : Fin 3 → ℕ) i + 1 * (ix3 (0 : Fin 1) (0 : Fin 1) z i).val) = _
  rw [at1]
  fin_cases i
  · show (if t.val % 33 = 0 then 4 else t.val / 33) * 1 + 1 * (0 + 1 * 0) = s.val; omega
  · rfl
  · show 0 * 1024 + 1 * (0 + 1 * z.val) = z.val; omega

theorem block_gain : View.ld (show Vec Ideal S1x1024 .f32 from iblk m c 2 t) r0_1 (ix2 (0 : Fin 1) z) = V m c main_v70 (ix2 (0 : Fin 1) z) := by
  refine congrArg (V m c main_v70) (funext fun i => Fin.ext ?_)
  show cc0_transform_2 (grid0.coords t) i * S1x1024.size i + 1 * ((![0, 0] : Fin 2 → ℕ) i + 1 * (ix2 (0 : Fin 1) z i).val) = _
  rw [at2]
  fin_cases i
  · rfl
  · show 0 * 1024 + 1 * (0 + 1 * z.val) = z.val; omega

theorem block_values (k : Fin 640) : View.ld (show Vec Ideal S1024x6400 .bf16 from iblk m c 3 t) r0_48 (ix2 z k)
    = ordered (m ((c.tc : Thread nD τ).loc main_arg3)) (ix2 z (⟨1664 + k.val, by have := k.isLt; omega⟩ : Fin 6400)) := by
  rw [← entry_weights]
  refine congrArg (V m c main_v78) (funext fun i => Fin.ext ?_)
  show cc0_transform_3 (grid0.coords t) i * S1024x6400.size i + 1 * ((![0, 1664] : Fin 2 → ℕ) i + 1 * (ix2 z k i).val) = _
  rw [at3]
  fin_cases i
  · show 0 * 1024 + 1 * (0 + 1 * z.val) = z.val; omega
  · show 0 * 6400 + 1 * (1664 + 1 * k.val) = 1664 + k.val; omega

theorem block_conv (k : Fin 1024) : View.ld (show Vec Ideal S1024x6400 .bf16 from iblk m c 3 t) r0_54 (ix2 z k)
    = ordered (m ((c.tc : Thread nD τ).loc main_arg3)) (ix2 z (⟨2304 + k.val, by have := k.isLt; omega⟩ : Fin 6400)) := by
  rw [← entry_weights]
  refine congrArg (V m c main_v78) (funext fun i => Fin.ext ?_)
  show cc0_transform_3 (grid0.coords t) i * S1024x6400.size i + 1 * ((![0, 2304] : Fin 2 → ℕ) i + 1 * (ix2 z k i).val) = _
  rw [at3]
  fin_cases i
  · show 0 * 1024 + 1 * (0 + 1 * z.val) = z.val; omega
  · show 0 * 6400 + 1 * (2304 + 1 * k.val) = 2304 + k.val; omega

theorem block_gate0 (k : Fin 1024) : View.ld (show Vec Ideal S1024x6400 .bf16 from iblk m c 3 t) r0_56 (ix2 z k)
    = ordered (m ((c.tc : Thread nD τ).loc main_arg3)) (ix2 z (⟨3328 + k.val, by have := k.isLt; omega⟩ : Fin 6400)) := by
  rw [← entry_weights]
  refine congrArg (V m c main_v78) (funext fun i => Fin.ext ?_)
  show cc0_transform_3 (grid0.coords t) i * S1024x6400.size i + 1 * ((![0, 3328] : Fin 2 → ℕ) i + 1 * (ix2 z k i).val) = _
  rw [at3]
  fin_cases i
  · show 0 * 1024 + 1 * (0 + 1 * z.val) = z.val; omega
  · show 0 * 6400 + 1 * (3328 + 1 * k.val) = 3328 + k.val; omega

theorem block_gate1 (k : Fin 1024) : View.ld (show Vec Ideal S1024x6400 .bf16 from iblk m c 3 t) r0_59 (ix2 z k)
    = ordered (m ((c.tc : Thread nD τ).loc main_arg3)) (ix2 z (⟨4352 + k.val, by have := k.isLt; omega⟩ : Fin 6400)) := by
  rw [← entry_weights]
  refine congrArg (V m c main_v78) (funext fun i => Fin.ext ?_)
  show cc0_transform_3 (grid0.coords t) i * S1024x6400.size i + 1 * ((![0, 4352] : Fin 2 → ℕ) i + 1 * (ix2 z k i).val) = _
  rw [at3]
  fin_cases i
  · show 0 * 1024 + 1 * (0 + 1 * z.val) = z.val; omega
  · show 0 * 6400 + 1 * (4352 + 1 * k.val) = 4352 + k.val; omega

theorem block_gate2 (k : Fin 1024) : View.ld (show Vec Ideal S1024x6400 .bf16 from iblk m c 3 t) r0_62 (ix2 z k)
    = ordered (m ((c.tc : Thread nD τ).loc main_arg3)) (ix2 z (⟨5376 + k.val, by have := k.isLt; omega⟩ : Fin 6400)) := by
  rw [← entry_weights]
  refine congrArg (V m c main_v78) (funext fun i => Fin.ext ?_)
  show cc0_transform_3 (grid0.coords t) i * S1024x6400.size i + 1 * ((![0, 5376] : Fin 2 → ℕ) i + 1 * (ix2 z k i).val) = _
  rw [at3]
  fin_cases i
  · show 0 * 1024 + 1 * (0 + 1 * z.val) = z.val; omega
  · show 0 * 6400 + 1 * (5376 + 1 * k.val) = 5376 + k.val; omega

theorem block_offset0 : View.ld (show Vec Ideal S1x3072 .f32 from iblk m c 7 t) r0_57 (ix2 (0 : Fin 1) z)
    = (m ((c.tc : Thread nD τ).loc main_arg4) : FVec Ideal S3072 .f32) (ix1 (⟨0 + z.val, by have := z.isLt; omega⟩ : Fin 3072)) := by
  refine Eq.trans ?_ ((congrFun (entry_offsets m c) _).trans (offsets_apply _ (⟨0 + z.val, by have := z.isLt; omega⟩ : Fin 3072)))
  refine congrArg (V m c main_v79) (funext fun i => Fin.ext ?_)
  show cc0_transform_7 (grid0.coords t) i * S1x3072.size i + 1 * ((![0, 0] : Fin 2 → ℕ) i + 1 * (ix2 (0 : Fin 1) z i).val) = _
  rw [at7]
  fin_cases i
  · rfl
  · show 0 * 3072 + 1 * (0 + 1 * z.val) = 0 + z.val; omega

theorem block_offset1024 : View.ld (show Vec Ideal S1x3072 .f32 from iblk m c 7 t) r0_60 (ix2 (0 : Fin 1) z)
    = (m ((c.tc : Thread nD τ).loc main_arg4) : FVec Ideal S3072 .f32) (ix1 (⟨1024 + z.val, by have := z.isLt; omega⟩ : Fin 3072)) := by
  refine Eq.trans ?_ ((congrFun (entry_offsets m c) _).trans (offsets_apply _ (⟨1024 + z.val, by have := z.isLt; omega⟩ : Fin 3072)))
  refine congrArg (V m c main_v79) (funext fun i => Fin.ext ?_)
  show cc0_transform_7 (grid0.coords t) i * S1x3072.size i + 1 * ((![0, 1024] : Fin 2 → ℕ) i + 1 * (ix2 (0 : Fin 1) z i).val) = _
  rw [at7]
  fin_cases i
  · rfl
  · show 0 * 3072 + 1 * (1024 + 1 * z.val) = 1024 + z.val; omega

theorem block_offset2048 : View.ld (show Vec Ideal S1x3072 .f32 from iblk m c 7 t) r0_63 (ix2 (0 : Fin 1) z)
    = (m ((c.tc : Thread nD τ).loc main_arg4) : FVec Ideal S3072 .f32) (ix1 (⟨2048 + z.val, by have := z.isLt; omega⟩ : Fin 3072)) := by
  refine Eq.trans ?_ ((congrFun (entry_offsets m c) _).trans (offsets_apply _ (⟨2048 + z.val, by have := z.isLt; omega⟩ : Fin 3072)))
  refine congrArg (V m c main_v79) (funext fun i => Fin.ext ?_)
  show cc0_transform_7 (grid0.coords t) i * S1x3072.size i + 1 * ((![0, 2048] : Fin 2 → ℕ) i + 1 * (ix2 (0 : Fin 1) z i).val) = _
  rw [at7]
  fin_cases i
  · rfl
  · show 0 * 3072 + 1 * (2048 + 1 * z.val) = 2048 + z.val; omega

end Blocks

/-! ## The normed tile and its columns -/

theorem normed_congr {x x' g g' s s' b b' : Fin 1024 → EReal} (hx : ∀ j, x j = x' j) (hg : ∀ j, g j = g' j) (hs : ∀ j, s j = s' j) (hb : ∀ j, b j = b' j)
    (k : Fin 1024) : normed x g s b k = normed x' g' s' b' k := by
  rw [funext hx, funext hg, funext hs, funext hb]

/-- The reference's projection over the arguments. -/
abbrev projection : FVec Ideal S33792x6400 .f32 :=
  whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10))

section Tile

variable (t : Fin cfg0.N) (y : Fin 256) (z : Fin 1024) (a : Fin 33792) (ha : a.val = t.val * 256 + y.val)

/-- The tile's normed tokens, -/
abbrev tokens : FVec Ideal S256x1024 .bf16 := k0_pay79 (F := Ideal) (iblk m c 0 t) (iblk m c 1 t) (iblk m c 2 t) (iblk m c 3 t) (iblk m c 4 t) (iblk m c 5 t) (iblk m c 6 t) (iblk m c 7 t)

include ha

/-- which are the reference's. -/
theorem tokens_apply : tokens m c t (ix2 y z)
    = rows (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (ix2 a z) := by
  have ht : t.val < 132 := t.isLt
  have hy := y.isLt
  refine (pay1_apply _ _ _ _ y z).trans (Eq.trans ?_ (Cert.Reference4Ideal.Inproj.rows_apply _ _ _ _ _ a z).symm)
  refine normed_congr (fun j => ?_) (fun j => ?_) (fun j => ?_) (fun j => ?_) z
  · refine (block_stream m c t y j a ha).trans ?_
    rw [entry_stream]
  · refine (block_gain m c t j).trans ?_
    rw [entry_gain]
    exact row_apply _ j
  · unfold scale
    by_cases h : a.val % 8448 < 256
    · rw [if_pos h]
      refine (block_scale m c t j (4 : Fin 8) (by rw [if_pos (by omega)]; rfl)).trans ?_
      rw [entry_table]
      exact table_context_scale _ _ j
    · have hb : a.val / 8448 < 4 := by omega
      rw [if_neg h]
      refine (block_scale m c t j (⟨a.val / 8448, by omega⟩ : Fin 8) (by rw [if_neg (by omega)]; show a.val / 8448 = _; omega)).trans ?_
      rw [entry_table]
      exact table_batch_scale _ _ (⟨a.val / 8448, hb⟩ : Fin 4) j
  · unfold shift
    by_cases h : a.val % 8448 < 256
    · rw [if_pos h]
      refine (block_shift m c t j (4 : Fin 8) (by rw [if_pos (by omega)]; rfl)).trans ?_
      rw [entry_table]
      exact table_context_shift _ _ j
    · have hb : a.val / 8448 < 4 := by omega
      rw [if_neg h]
      refine (block_shift m c t j (⟨a.val / 8448, by omega⟩ : Fin 8) (by rw [if_neg (by omega)]; show a.val / 8448 = _; omega)).trans ?_
      rw [entry_table]
      exact table_batch_shift _ _ (⟨a.val / 8448, hb⟩ : Fin 4) j

/-- Their product with a column of the weights in the kernel's order is the reference's projection there. -/
theorem tokens_column (w : Fin 1024 → EReal) (n n' : Fin 6400) (hw : ∀ j, w j = ordered (m ((c.tc : Thread nD τ).loc main_arg3)) (ix2 j n))
    (hn : ∀ j, ordered (m ((c.tc : Thread nD τ).loc main_arg3)) (ix2 j n) = (m ((c.tc : Thread nD τ).loc main_arg3) : FVec Ideal S1024x6400 .f32) (ix2 j n')) :
    ∑ j : Fin 1024, (show EReal from tokens m c t (ix2 y j)) * w j = projection m c (ix2 a n') := by
  refine Eq.trans (Finset.sum_congr rfl fun j _ => congrArg₂ (· * ·) (tokens_apply m c t y j a ha) ((hw j).trans (hn j))) ?_
  exact (Cert.Reference4Ideal.Inproj.projected_apply _ _ a n').symm

end Tile

end Cert.Kernel4Ideal.Inproj

end
-- ==== Proof.Inproj.Tile.lean ====
/- # A tile of the projection's results

What a tile writes of the values of both attentions, of the convolution's input and of the gates is the reference's there. -/
module

public import proofs.«01_k».proof.Proof.Inproj.Rows

@[expose] public section

set_option maxRecDepth 16384

noncomputable section

namespace Cert.Kernel4Ideal.Inproj

open Idealize.ShloMosaic Idealize.ShloMosaic.TcCoe
open Cert.Kernel4Ideal Cert.Kernel4Ideal.Gen
open Cert.Reference4Ideal.Inproj (squash firstValues secondValues convInput gates)

variable (m : (ℓ : Loc nD τ sig) → Buf (Elt Ideal) ℓ) (c : Dev nD)

section Results

variable (t : Fin cfg0.N)

/-- A tile's values of the first attention, -/
theorem tile11 (y : S1x128x256.Idx) : out0_11 (F := Ideal) (iblk m c 0 t) (iblk m c 1 t) (iblk m c 2 t) (iblk m c 3 t) (iblk m c 4 t) (iblk m c 5 t) (iblk m c 6 t) (iblk m c 7 t) y
    = firstValues (projection m c) (ix3 (⟨t.val, t.isLt⟩ : Fin 132) (show Fin 128 from y 1) (show Fin 256 from y 2)) := by
  have ht : t.val < 132 := t.isLt
  unfold out0_11
  refine View.canon_apply_of_pieces (fun y : S1x128x256.Idx => show Elt Ideal .bf16 from firstValues (projection m c) (ix3 (⟨t.val, t.isLt⟩ : Fin 132) (show Fin 128 from y 1) (show Fin 256 from y 2))) _ ?_ y (cover0_11 _ y)
  intro pc hpc
  rcases List.mem_cons.mp hpc with rfl | hpc
  · intro x
    have h0 : (x (0 : Fin 3)).val < 1 := (x (0 : Fin 3)).isLt
    have h1 : (x (1 : Fin 3)).val < 128 := (x (1 : Fin 3)).isLt
    have h2 : (x (2 : Fin 3)).val < 256 := (x (2 : Fin 3)).isLt
    have ex : x = ix3 (0 : Fin 1) (⟨(x (1 : Fin 3)).val, h1⟩ : Fin 128) (⟨(x (2 : Fin 3)).val, h2⟩ : Fin 256) := funext fun i => Fin.ext (by
      fin_cases i
      · show (x (0 : Fin 3)).val = 0; omega
      · rfl
      · rfl)
    refine (congrArg (k0_pay68 (tokens m c t) _) ex).trans ((pay68_apply _ _ _ _).trans ?_)
    refine (tokens_column m c t _ (⟨t.val * 256 + (x (2 : Fin 3)).val, by omega⟩ : Fin 33792) rfl _ (⟨1664 + (x (1 : Fin 3)).val, by omega⟩ : Fin 6400) (⟨128 + (x (1 : Fin 3)).val, by omega⟩ : Fin 6400)
      (fun j => block_values m c t j _) (fun j => ordered_first _ j (⟨(x (1 : Fin 3)).val, h1⟩ : Fin 128))).trans ?_
    refine ((Cert.Reference4Ideal.Inproj.firstValues_apply _ _ _ _).trans (congrArg (projection m c) (funext fun i => Fin.ext ?_))).symm
    fin_cases i
    · show t.val * 256 + (0 + 1 * (x (2 : Fin 3)).val) = t.val * 256 + (x (2 : Fin 3)).val; omega
    · show 128 + (0 + 1 * (x (1 : Fin 3)).val) = 128 + (x (1 : Fin 3)).val; omega
  nomatch hpc

/-- of the second, -/
theorem tile12 (y : S1x512x256.Idx) : out0_12 (F := Ideal) (iblk m c 0 t) (iblk m c 1 t) (iblk m c 2 t) (iblk m c 3 t) (iblk m c 4 t) (iblk m c 5 t) (iblk m c 6 t) (iblk m c 7 t) y
    = secondValues (projection m c) (ix3 (⟨t.val, t.isLt⟩ : Fin 132) (show Fin 512 from y 1) (show Fin 256 from y 2)) := by
  have ht : t.val < 132 := t.isLt
  unfold out0_12
  refine View.canon_apply_of_pieces (fun y : S1x512x256.Idx => show Elt Ideal .bf16 from secondValues (projection m c) (ix3 (⟨t.val, t.isLt⟩ : Fin 132) (show Fin 512 from y 1) (show Fin 256 from y 2))) _ ?_ y (cover0_12 _ _ _ _ y)
  intro pc hpc
  rcases List.mem_cons.mp hpc with rfl | hpc
  · intro x
    have h0 : (x (0 : Fin 3)).val < 1 := (x (0 : Fin 3)).isLt
    have h1 : (x (1 : Fin 3)).val < 128 := (x (1 : Fin 3)).isLt
    have h2 : (x (2 : Fin 3)).val < 256 := (x (2 : Fin 3)).isLt
    have ex : x = ix3 (0 : Fin 1) (⟨(x (1 : Fin 3)).val, h1⟩ : Fin 128) (⟨(x (2 : Fin 3)).val, h2⟩ : Fin 256) := funext fun i => Fin.ext (by
      fin_cases i
      · show (x (0 : Fin 3)).val = 0; omega
      · rfl
      · rfl)
    refine (congrArg (k0_pay73 (k0_pay72 (tokens m c t) _)) ex).trans ((pay73_apply _ _ _ _).trans ?_)
    have en : (⟨1664 + (512 + (x (1 : Fin 3)).val), by omega⟩ : Fin 6400) = ⟨1792 + (384 + (x (1 : Fin 3)).val), by omega⟩ := Fin.ext (by show 1664 + (512 + (x (1 : Fin 3)).val) = 1792 + (384 + (x (1 : Fin 3)).val); omega)
    refine (tokens_column m c t _ (⟨t.val * 256 + (x (2 : Fin 3)).val, by omega⟩ : Fin 33792) rfl _ (⟨1792 + (384 + (x (1 : Fin 3)).val), by omega⟩ : Fin 6400) (⟨768 + (384 + (x (1 : Fin 3)).val), by omega⟩ : Fin 6400)
      (fun j => (block_values m c t j _).trans (congrArg (fun n => ordered (m ((c.tc : Thread nD τ).loc main_arg3)) (ix2 j n)) en)) (fun j => ordered_second _ j (⟨384 + (x (1 : Fin 3)).val, by omega⟩ : Fin 512))).trans ?_
    refine ((Cert.Reference4Ideal.Inproj.secondValues_apply _ _ _ _).trans (congrArg (projection m c) (funext fun i => Fin.ext ?_))).symm
    fin_cases i
    · show t.val * 256 + (0 + 1 * (x (2 : Fin 3)).val) = t.val * 256 + (x (2 : Fin 3)).val; omega
    · show 768 + (384 + 1 * (x (1 : Fin 3)).val) = 768 + (384 + (x (1 : Fin 3)).val); omega
  rcases List.mem_cons.mp hpc with rfl | hpc
  · intro x
    have h0 : (x (0 : Fin 3)).val < 1 := (x (0 : Fin 3)).isLt
    have h1 : (x (1 : Fin 3)).val < 128 := (x (1 : Fin 3)).isLt
    have h2 : (x (2 : Fin 3)).val < 256 := (x (2 : Fin 3)).isLt
    have ex : x = ix3 (0 : Fin 1) (⟨(x (1 : Fin 3)).val, h1⟩ : Fin 128) (⟨(x (2 : Fin 3)).val, h2⟩ : Fin 256) := funext fun i => Fin.ext (by
      fin_cases i
      · show (x (0 : Fin 3)).val = 0; omega
      · rfl
      · rfl)
    refine (congrArg (k0_pay71 (tokens m c t) _) ex).trans ((pay71_apply _ _ _ _).trans ?_)
    have en : (⟨1664 + (384 + (x (1 : Fin 3)).val), by omega⟩ : Fin 6400) = ⟨1792 + (256 + (x (1 : Fin 3)).val), by omega⟩ := Fin.ext (by show 1664 + (384 + (x (1 : Fin 3)).val) = 1792 + (256 + (x (1 : Fin 3)).val); omega)
    refine (tokens_column m c t _ (⟨t.val * 256 + (x (2 : Fin 3)).val, by omega⟩ : Fin 33792) rfl _ (⟨1792 + (256 + (x (1 : Fin 3)).val), by omega⟩ : Fin 6400) (⟨768 + (256 + (x (1 : Fin 3)).val), by omega⟩ : Fin 6400)
      (fun j => (block_values m c t j _).trans (congrArg (fun n => ordered (m ((c.tc : Thread nD τ).loc main_arg3)) (ix2 j n)) en)) (fun j => ordered_second _ j (⟨256 + (x (1 : Fin 3)).val, by omega⟩ : Fin 512))).trans ?_
    refine ((Cert.Reference4Ideal.Inproj.secondValues_apply _ _ _ _).trans (congrArg (projection m c) (funext fun i => Fin.ext ?_))).symm
    fin_cases i
    · show t.val * 256 + (0 + 1 * (x (2 : Fin 3)).val) = t.val * 256 + (x (2 : Fin 3)).val; omega
    · show 768 + (256 + 1 * (x (1 : Fin 3)).val) = 768 + (256 + (x (1 : Fin 3)).val); omega
  rcases List.mem_cons.mp hpc with rfl | hpc
  · intro x
    have h0 : (x (0 : Fin 3)).val < 1 := (x (0 : Fin 3)).isLt
    have h1 : (x (1 : Fin 3)).val < 128 := (x (1 : Fin 3)).isLt
    have h2 : (x (2 : Fin 3)).val < 256 := (x (2 : Fin 3)).isLt
    have ex : x = ix3 (0 : Fin 1) (⟨(x (1 : Fin 3)).val, h1⟩ : Fin 128) (⟨(x (2 : Fin 3)).val, h2⟩ : Fin 256) := funext fun i => Fin.ext (by
      fin_cases i
      · show (x (0 : Fin 3)).val = 0; omega
      · rfl
      · rfl)
    refine (congrArg (k0_pay70 (tokens m c t) _) ex).trans ((pay70_apply _ _ _ _).trans ?_)
    have en : (⟨1664 + (256 + (x (1 : Fin 3)).val), by omega⟩ : Fin 6400) = ⟨1792 + (128 + (x (1 : Fin 3)).val), by omega⟩ := Fin.ext (by show 1664 + (256 + (x (1 : Fin 3)).val) = 1792 + (128 + (x (1 : Fin 3)).val); omega)
    refine (tokens_column m c t _ (⟨t.val * 256 + (x (2 : Fin 3)).val, by omega⟩ : Fin 33792) rfl _ (⟨1792 + (128 + (x (1 : Fin 3)).val), by omega⟩ : Fin 6400) (⟨768 + (128 + (x (1 : Fin 3)).val), by omega⟩ : Fin 6400)
      (fun j => (block_values m c t j _).trans (congrArg (fun n => ordered (m ((c.tc : Thread nD τ).loc main_arg3)) (ix2 j n)) en)) (fun j => ordered_second _ j (⟨128 + (x (1 : Fin 3)).val, by omega⟩ : Fin 512))).trans ?_
    refine ((Cert.Reference4Ideal.Inproj.secondValues_apply _ _ _ _).trans (congrArg (projection m c) (funext fun i => Fin.ext ?_))).symm
    fin_cases i
    · show t.val * 256 + (0 + 1 * (x (2 : Fin 3)).val) = t.val * 256 + (x (2 : Fin 3)).val; omega
    · show 768 + (128 + 1 * (x (1 : Fin 3)).val) = 768 + (128 + (x (1 : Fin 3)).val); omega
  rcases List.mem_cons.mp hpc with rfl | hpc
  · intro x
    have h0 : (x (0 : Fin 3)).val < 1 := (x (0 : Fin 3)).isLt
    have h1 : (x (1 : Fin 3)).val < 128 := (x (1 : Fin 3)).isLt
    have h2 : (x (2 : Fin 3)).val < 256 := (x (2 : Fin 3)).isLt
    have ex : x = ix3 (0 : Fin 1) (⟨(x (1 : Fin 3)).val, h1⟩ : Fin 128) (⟨(x (2 : Fin 3)).val, h2⟩ : Fin 256) := funext fun i => Fin.ext (by
      fin_cases i
      · show (x (0 : Fin 3)).val = 0; omega
      · rfl
      · rfl)
    refine (congrArg (k0_pay69 (tokens m c t) _) ex).trans ((pay69_apply _ _ _ _).trans ?_)
    have en : (⟨1664 + (128 + (x (1 : Fin 3)).val), by omega⟩ : Fin 6400) = ⟨1792 + (0 + (x (1 : Fin 3)).val), by omega⟩ := Fin.ext (by show 1664 + (128 + (x (1 : Fin 3)).val) = 1792 + (0 + (x (1 : Fin 3)).val); omega)
    refine (tokens_column m c t _ (⟨t.val * 256 + (x (2 : Fin 3)).val, by omega⟩ : Fin 33792) rfl _ (⟨1792 + (0 + (x (1 : Fin 3)).val), by omega⟩ : Fin 6400) (⟨768 + (0 + (x (1 : Fin 3)).val), by omega⟩ : Fin 6400)
      (fun j => (block_values m c t j _).trans (congrArg (fun n => ordered (m ((c.tc : Thread nD τ).loc main_arg3)) (ix2 j n)) en)) (fun j => ordered_second _ j (⟨0 + (x (1 : Fin 3)).val, by omega⟩ : Fin 512))).trans ?_
    refine ((Cert.Reference4Ideal.Inproj.secondValues_apply _ _ _ _).trans (congrArg (projection m c) (funext fun i => Fin.ext ?_))).symm
    fin_cases i
    · show t.val * 256 + (0 + 1 * (x (2 : Fin 3)).val) = t.val * 256 + (x (2 : Fin 3)).val; omega
    · show 768 + (0 + 1 * (x (1 : Fin 3)).val) = 768 + (0 + (x (1 : Fin 3)).val); omega
  nomatch hpc

/-- its rows of the convolution's input, -/
theorem tile13 (y : S256x512.Idx) (a : Fin 33792) (ha : a.val = t.val * 256 + (y (0 : Fin 2)).val) : out0_13 (F := Ideal) (iblk m c 0 t) (iblk m c 1 t) (iblk m c 2 t) (iblk m c 3 t) (iblk m c 4 t) (iblk m c 5 t) (iblk m c 6 t) (iblk m c 7 t) y
    = convInput (projection m c) (ix2 a (show Fin 512 from y 1)) := by
  have ht : t.val < 132 := t.isLt
  have hrow : ∀ x : S256x512.Idx, t.val * 256 + (x (0 : Fin 2)).val < 33792 := fun x => by
    have : (x (0 : Fin 2)).val < 256 := (x (0 : Fin 2)).isLt
    omega
  have e : a = ⟨t.val * 256 + (y (0 : Fin 2)).val, hrow y⟩ := Fin.ext ha
  rw [e]
  unfold out0_13
  refine View.canon_apply_of_pieces (fun y : S256x512.Idx => show Elt Ideal .f32 from convInput (projection m c) (ix2 (⟨t.val * 256 + (y (0 : Fin 2)).val, hrow y⟩ : Fin 33792) (show Fin 512 from y 1))) _ ?_ y (cover0_13 _ y)
  intro pc hpc
  rcases List.mem_cons.mp hpc with rfl | hpc
  · intro x
    have h0 : (x (0 : Fin 2)).val < 256 := (x (0 : Fin 2)).isLt
    have h1 : (x (1 : Fin 2)).val < 512 := (x (1 : Fin 2)).isLt
    have ex : x = ix2 (⟨(x (0 : Fin 2)).val, h0⟩ : Fin 256) (⟨(x (1 : Fin 2)).val, h1⟩ : Fin 512) := funext fun i => Fin.ext (by fin_cases i <;> rfl)
    have er : (ix2 (⟨t.val * 256 + ((r0_55.idx x) (0 : Fin 2)).val, hrow _⟩ : Fin 33792) (show Fin 512 from (r0_55.idx x) 1))
        = ix2 (⟨t.val * 256 + (x (0 : Fin 2)).val, by omega⟩ : Fin 33792) (⟨(x (1 : Fin 2)).val, h1⟩ : Fin 512) := funext fun i => Fin.ext (by
      fin_cases i
      · show t.val * 256 + (0 + 1 * (x (0 : Fin 2)).val) = t.val * 256 + (x (0 : Fin 2)).val; omega
      · show 0 + 1 * (x (1 : Fin 2)).val = (x (1 : Fin 2)).val; omega)
    refine (congrArg (k0_pay74 (tokens m c t) _) ex).trans ((pay74_apply _ _ _ _).trans ?_)
    refine Eq.trans ?_ ((Cert.Reference4Ideal.Inproj.convInput_apply _ _ _).symm.trans (congrArg (convInput (projection m c)) er.symm))
    refine congrArg₂ (· * ·) ?_ (congrArg squash ?_)
    · exact tokens_column m c t _ _ rfl _ _ _ (fun j => block_conv m c t j _) (fun j => ordered_rest _ j (⟨(x (1 : Fin 2)).val, by omega⟩ : Fin 4096))
    · exact tokens_column m c t _ _ rfl _ _ _ (fun j => block_conv m c t j _) (fun j => ordered_rest _ j (⟨512 + (x (1 : Fin 2)).val, by omega⟩ : Fin 4096))
  nomatch hpc

/-- and of the gates. -/
theorem tile14 (y : S256x3072.Idx) (a : Fin 33792) (ha : a.val = t.val * 256 + (y (0 : Fin 2)).val) : out0_14 (F := Ideal) (iblk m c 0 t) (iblk m c 1 t) (iblk m c 2 t) (iblk m c 3 t) (iblk m c 4 t) (iblk m c 5 t) (iblk m c 6 t) (iblk m c 7 t) y
    = gates (projection m c) (m ((c.tc : Thread nD τ).loc main_arg4)) (ix2 a (show Fin 3072 from y 1)) := by
  have ht : t.val < 132 := t.isLt
  have hrow : ∀ x : S256x3072.Idx, t.val * 256 + (x (0 : Fin 2)).val < 33792 := fun x => by
    have : (x (0 : Fin 2)).val < 256 := (x (0 : Fin 2)).isLt
    omega
  have e : a = ⟨t.val * 256 + (y (0 : Fin 2)).val, hrow y⟩ := Fin.ext ha
  rw [e]
  unfold out0_14
  refine View.canon_apply_of_pieces (fun y : S256x3072.Idx => show Elt Ideal .bf16 from gates (projection m c) (m ((c.tc : Thread nD τ).loc main_arg4)) (ix2 (⟨t.val * 256 + (y (0 : Fin 2)).val, hrow y⟩ : Fin 33792) (show Fin 3072 from y 1))) _ ?_ y (cover0_14 _ _ _ y)
  intro pc hpc
  rcases List.mem_cons.mp hpc with rfl | hpc
  · intro x
    have h0 : (x (0 : Fin 2)).val < 256 := (x (0 : Fin 2)).isLt
    have h1 : (x (1 : Fin 2)).val < 1024 := (x (1 : Fin 2)).isLt
    have ex : x = ix2 (⟨(x (0 : Fin 2)).val, h0⟩ : Fin 256) (⟨(x (1 : Fin 2)).val, h1⟩ : Fin 1024) := funext fun i => Fin.ext (by fin_cases i <;> rfl)
    have er : (ix2 (⟨t.val * 256 + ((r0_64.idx x) (0 : Fin 2)).val, hrow _⟩ : Fin 33792) (show Fin 3072 from (r0_64.idx x) 1))
        = ix2 (⟨t.val * 256 + (x (0 : Fin 2)).val, by omega⟩ : Fin 33792) (⟨2048 + (x (1 : Fin 2)).val, by omega⟩ : Fin 3072) := funext fun i => Fin.ext (by
      fin_cases i
      · show t.val * 256 + (0 + 1 * (x (0 : Fin 2)).val) = t.val * 256 + (x (0 : Fin 2)).val; omega
      · show 2048 + 1 * (x (1 : Fin 2)).val = 2048 + (x (1 : Fin 2)).val; omega)
    refine (congrArg (k0_pay78 (tokens m c t) _ _) ex).trans ((pay78_apply _ _ _ _ _).trans ?_)
    refine Eq.trans ?_ ((Cert.Reference4Ideal.Inproj.gates_apply _ _ _ _).symm.trans (congrArg (gates (projection m c) _) er.symm))
    refine congrArg squash (congrArg₂ (· + ·) ?_ (block_offset2048 m c t _))
    have en : (⟨5376 + (x (1 : Fin 2)).val, by omega⟩ : Fin 6400) = ⟨2304 + (3072 + (x (1 : Fin 2)).val), by omega⟩ := Fin.ext (by show 5376 + (x (1 : Fin 2)).val = 2304 + (3072 + (x (1 : Fin 2)).val); omega)
    have em : (⟨3328 + (2048 + (x (1 : Fin 2)).val), by omega⟩ : Fin 6400) = ⟨2304 + (3072 + (x (1 : Fin 2)).val), by omega⟩ := Fin.ext (by show 3328 + (2048 + (x (1 : Fin 2)).val) = 2304 + (3072 + (x (1 : Fin 2)).val); omega)
    refine (tokens_column m c t _ (⟨t.val * 256 + (x (0 : Fin 2)).val, by omega⟩ : Fin 33792) rfl _ (⟨2304 + (3072 + (x (1 : Fin 2)).val), by omega⟩ : Fin 6400) (⟨2304 + (3072 + (x (1 : Fin 2)).val), by omega⟩ : Fin 6400)
      (fun j => (block_gate2 m c t j _).trans (congrArg (fun n => ordered (m ((c.tc : Thread nD τ).loc main_arg3)) (ix2 j n)) en)) (fun j => ordered_rest _ j (⟨3072 + (x (1 : Fin 2)).val, by omega⟩ : Fin 4096))).trans ?_
    exact congrArg (fun n => projection m c (ix2 _ n)) em.symm
  rcases List.mem_cons.mp hpc with rfl | hpc
  · intro x
    have h0 : (x (0 : Fin 2)).val < 256 := (x (0 : Fin 2)).isLt
    have h1 : (x (1 : Fin 2)).val < 1024 := (x (1 : Fin 2)).isLt
    have ex : x = ix2 (⟨(x (0 : Fin 2)).val, h0⟩ : Fin 256) (⟨(x (1 : Fin 2)).val, h1⟩ : Fin 1024) := funext fun i => Fin.ext (by fin_cases i <;> rfl)
    have er : (ix2 (⟨t.val * 256 + ((r0_61.idx x) (0 : Fin 2)).val, hrow _⟩ : Fin 33792) (show Fin 3072 from (r0_61.idx x) 1))
        = ix2 (⟨t.val * 256 + (x (0 : Fin 2)).val, by omega⟩ : Fin 33792) (⟨1024 + (x (1 : Fin 2)).val, by omega⟩ : Fin 3072) := funext fun i => Fin.ext (by
      fin_cases i
      · show t.val * 256 + (0 + 1 * (x (0 : Fin 2)).val) = t.val * 256 + (x (0 : Fin 2)).val; omega
      · show 1024 + 1 * (x (1 : Fin 2)).val = 1024 + (x (1 : Fin 2)).val; omega)
    refine (congrArg (k0_pay77 (tokens m c t) (k0_pay76 _) (constant S256x1024 .f32 0x00000000#32) _) ex).trans ((pay77_apply _ _ _ _ _).trans ?_)
    refine Eq.trans ?_ ((Cert.Reference4Ideal.Inproj.gates_apply _ _ _ _).symm.trans (congrArg (gates (projection m c) _) er.symm))
    refine congrArg squash (congrArg₂ (· + ·) ?_ (block_offset1024 m c t _))
    have en : (⟨4352 + (x (1 : Fin 2)).val, by omega⟩ : Fin 6400) = ⟨2304 + (2048 + (x (1 : Fin 2)).val), by omega⟩ := Fin.ext (by show 4352 + (x (1 : Fin 2)).val = 2304 + (2048 + (x (1 : Fin 2)).val); omega)
    have em : (⟨3328 + (1024 + (x (1 : Fin 2)).val), by omega⟩ : Fin 6400) = ⟨2304 + (2048 + (x (1 : Fin 2)).val), by omega⟩ := Fin.ext (by show 3328 + (1024 + (x (1 : Fin 2)).val) = 2304 + (2048 + (x (1 : Fin 2)).val); omega)
    refine (tokens_column m c t _ (⟨t.val * 256 + (x (0 : Fin 2)).val, by omega⟩ : Fin 33792) rfl _ (⟨2304 + (2048 + (x (1 : Fin 2)).val), by omega⟩ : Fin 6400) (⟨2304 + (2048 + (x (1 : Fin 2)).val), by omega⟩ : Fin 6400)
      (fun j => (block_gate1 m c t j _).trans (congrArg (fun n => ordered (m ((c.tc : Thread nD τ).loc main_arg3)) (ix2 j n)) en)) (fun j => ordered_rest _ j (⟨2048 + (x (1 : Fin 2)).val, by omega⟩ : Fin 4096))).trans ?_
    exact congrArg (fun n => projection m c (ix2 _ n)) em.symm
  rcases List.mem_cons.mp hpc with rfl | hpc
  · intro x
    have h0 : (x (0 : Fin 2)).val < 256 := (x (0 : Fin 2)).isLt
    have h1 : (x (1 : Fin 2)).val < 1024 := (x (1 : Fin 2)).isLt
    have ex : x = ix2 (⟨(x (0 : Fin 2)).val, h0⟩ : Fin 256) (⟨(x (1 : Fin 2)).val, h1⟩ : Fin 1024) := funext fun i => Fin.ext (by fin_cases i <;> rfl)
    have er : (ix2 (⟨t.val * 256 + ((r0_58.idx x) (0 : Fin 2)).val, hrow _⟩ : Fin 33792) (show Fin 3072 from (r0_58.idx x) 1))
        = ix2 (⟨t.val * 256 + (x (0 : Fin 2)).val, by omega⟩ : Fin 33792) (⟨0 + (x (1 : Fin 2)).val, by omega⟩ : Fin 3072) := funext fun i => Fin.ext (by
      fin_cases i
      · show t.val * 256 + (0 + 1 * (x (0 : Fin 2)).val) = t.val * 256 + (x (0 : Fin 2)).val; omega
      · show 0 + 1 * (x (1 : Fin 2)).val = 0 + (x (1 : Fin 2)).val; omega)
    refine (congrArg (k0_pay75 (tokens m c t) _ _) ex).trans ((pay75_apply _ _ _ _ _).trans ?_)
    refine Eq.trans ?_ ((Cert.Reference4Ideal.Inproj.gates_apply _ _ _ _).symm.trans (congrArg (gates (projection m c) _) er.symm))
    refine congrArg squash (congrArg₂ (· + ·) ?_ (block_offset0 m c t _))
    have en : (⟨3328 + (x (1 : Fin 2)).val, by omega⟩ : Fin 6400) = ⟨2304 + (1024 + (x (1 : Fin 2)).val), by omega⟩ := Fin.ext (by show 3328 + (x (1 : Fin 2)).val = 2304 + (1024 + (x (1 : Fin 2)).val); omega)
    have em : (⟨3328 + (0 + (x (1 : Fin 2)).val), by omega⟩ : Fin 6400) = ⟨2304 + (1024 + (x (1 : Fin 2)).val), by omega⟩ := Fin.ext (by show 3328 + (0 + (x (1 : Fin 2)).val) = 2304 + (1024 + (x (1 : Fin 2)).val); omega)
    refine (tokens_column m c t _ (⟨t.val * 256 + (x (0 : Fin 2)).val, by omega⟩ : Fin 33792) rfl _ (⟨2304 + (1024 + (x (1 : Fin 2)).val), by omega⟩ : Fin 6400) (⟨2304 + (1024 + (x (1 : Fin 2)).val), by omega⟩ : Fin 6400)
      (fun j => (block_gate0 m c t j _).trans (congrArg (fun n => ordered (m ((c.tc : Thread nD τ).loc main_arg3)) (ix2 j n)) en)) (fun j => ordered_rest _ j (⟨1024 + (x (1 : Fin 2)).val, by omega⟩ : Fin 4096))).trans ?_
    exact congrArg (fun n => projection m c (ix2 _ n)) em.symm
  nomatch hpc

end Results

end Cert.Kernel4Ideal.Inproj

end
-- ==== Proof.Inproj.Value.lean ====
/- # The projection's kernel computes the reference

The tiles of the values, of the convolution's input and of the gates are the whole results. -/
module

public import proofs.«01_k».proof.Proof.Inproj.Tile
public import Idealize.ShloMosaic.Lib.Pipeline.ValueKit

@[expose] public section

set_option maxRecDepth 16384

noncomputable section

namespace Cert.Kernel4Ideal.Inproj

open Idealize.ShloMosaic Idealize.ShloMosaic.TcCoe Idealize.SL.Sem
open Idealize.ShloMosaic.Pipeline (Dat Window)
open Cert.Kernel4Ideal Cert.Kernel4Ideal.Gen
open Cert.Reference4Ideal.Inproj (firstValues secondValues convInput gates)

/-! ## The tiles cover the results -/

theorem flush11 (t : Fin grid0.N) : (cfg0.win 11).flush t = true :=
  (by decide +kernel : ∀ t : Fin grid0.N, (cfg0.win 11).flush t = true) t

theorem covers11 : (cfg0.win 11).Covers := by
  refine ⟨fun a => ?_, fun β => ?_⟩
  · show 0 < S1x128x256.size a
    exact (by decide : ∀ a : Fin 3, 0 < S1x128x256.size a) a
  · have h0 : (β (0 : Fin 3)).val < 132 := lt_of_lt_of_eq (β (0 : Fin 3)).isLt (by show (132 + 1 - 1) / 1 = 132; norm_num)
    have h1 : (β (1 : Fin 3)).val < 1 := lt_of_lt_of_eq (β (1 : Fin 3)).isLt (by show (128 + 128 - 1) / 128 = 1; norm_num)
    have h2 : (β (2 : Fin 3)).val < 1 := lt_of_lt_of_eq (β (2 : Fin 3)).isLt (by show (256 + 256 - 1) / 256 = 1; norm_num)
    refine ⟨⟨(β (0 : Fin 3)).val, h0⟩, flush11 _, fun a => ⟨?_, .inl rfl⟩⟩
    show cc0_transform_11 (grid0.coords ⟨(β (0 : Fin 3)).val, h0⟩) a = (β a).val
    rw [at11]
    fin_cases a
    · rfl
    · show 0 = (β (1 : Fin 3)).val
      omega
    · show 0 = (β (2 : Fin 3)).val
      omega

theorem flush12 (t : Fin grid0.N) : (cfg0.win 12).flush t = true :=
  (by decide +kernel : ∀ t : Fin grid0.N, (cfg0.win 12).flush t = true) t

theorem covers12 : (cfg0.win 12).Covers := by
  refine ⟨fun a => ?_, fun β => ?_⟩
  · show 0 < S1x512x256.size a
    exact (by decide : ∀ a : Fin 3, 0 < S1x512x256.size a) a
  · have h0 : (β (0 : Fin 3)).val < 132 := lt_of_lt_of_eq (β (0 : Fin 3)).isLt (by show (132 + 1 - 1) / 1 = 132; norm_num)
    have h1 : (β (1 : Fin 3)).val < 1 := lt_of_lt_of_eq (β (1 : Fin 3)).isLt (by show (512 + 512 - 1) / 512 = 1; norm_num)
    have h2 : (β (2 : Fin 3)).val < 1 := lt_of_lt_of_eq (β (2 : Fin 3)).isLt (by show (256 + 256 - 1) / 256 = 1; norm_num)
    refine ⟨⟨(β (0 : Fin 3)).val, h0⟩, flush12 _, fun a => ⟨?_, .inl rfl⟩⟩
    show cc0_transform_12 (grid0.coords ⟨(β (0 : Fin 3)).val, h0⟩) a = (β a).val
    rw [at12]
    fin_cases a
    · rfl
    · show 0 = (β (1 : Fin 3)).val
      omega
    · show 0 = (β (2 : Fin 3)).val
      omega

theorem flush13 (t : Fin grid0.N) : (cfg0.win 13).flush t = true :=
  (by decide +kernel : ∀ t : Fin grid0.N, (cfg0.win 13).flush t = true) t

theorem covers13 : (cfg0.win 13).Covers := by
  refine ⟨fun a => ?_, fun β => ?_⟩
  · show 0 < S256x512.size a
    exact (by decide : ∀ a : Fin 2, 0 < S256x512.size a) a
  · have h0 : (β (0 : Fin 2)).val < 132 := lt_of_lt_of_eq (β (0 : Fin 2)).isLt (by show (33792 + 256 - 1) / 256 = 132; norm_num)
    have h1 : (β (1 : Fin 2)).val < 1 := lt_of_lt_of_eq (β (1 : Fin 2)).isLt (by show (512 + 512 - 1) / 512 = 1; norm_num)
    refine ⟨⟨(β (0 : Fin 2)).val, h0⟩, flush13 _, fun a => ⟨?_, .inl rfl⟩⟩
    show cc0_transform_13 (grid0.coords ⟨(β (0 : Fin 2)).val, h0⟩) a = (β a).val
    rw [at13]
    fin_cases a
    · rfl
    · show 0 = (β (1 : Fin 2)).val
      omega

theorem flush14 (t : Fin grid0.N) : (cfg0.win 14).flush t = true :=
  (by decide +kernel : ∀ t : Fin grid0.N, (cfg0.win 14).flush t = true) t

theorem covers14 : (cfg0.win 14).Covers := by
  refine ⟨fun a => ?_, fun β => ?_⟩
  · show 0 < S256x3072.size a
    exact (by decide : ∀ a : Fin 2, 0 < S256x3072.size a) a
  · have h0 : (β (0 : Fin 2)).val < 132 := lt_of_lt_of_eq (β (0 : Fin 2)).isLt (by show (33792 + 256 - 1) / 256 = 132; norm_num)
    have h1 : (β (1 : Fin 2)).val < 1 := lt_of_lt_of_eq (β (1 : Fin 2)).isLt (by show (3072 + 3072 - 1) / 3072 = 1; norm_num)
    refine ⟨⟨(β (0 : Fin 2)).val, h0⟩, flush14 _, fun a => ⟨?_, .inl rfl⟩⟩
    show cc0_transform_14 (grid0.coords ⟨(β (0 : Fin 2)).val, h0⟩) a = (β a).val
    rw [at14]
    fin_cases a
    · rfl
    · show 0 = (β (1 : Fin 2)).val
      omega

/-! ## The whole results -/

variable (m : (ℓ : Loc nD τ sig) → Buf (Elt Ideal) ℓ) (c : Dev nD)

/-- The first attention's values after the run are the reference's, -/
theorem final11 : (dats m 0 c).arrAt 11 cfg0.N = firstValues (projection m c) := by
  refine (dats m 0 c).arrAt_eq_of_covers 11 _ covers11 (fun t _ y => ?_) (Memref.isWhole_whole _)
  refine (congrFun (after0_11 m c t) _).trans ?_
  refine (tile11 m c t y).trans (congrArg (firstValues (projection m c)) ?_)
  funext a
  apply Fin.ext
  show _ = cc0_transform_11 (grid0.coords t) a * S1x128x256.size a + 1 * (y a).val
  rw [at11]
  have h0 : (y (0 : Fin 3)).val < 1 := (y (0 : Fin 3)).isLt
  fin_cases a
  · show t.val = t.val * 1 + 1 * (y (0 : Fin 3)).val
    omega
  · show (y (1 : Fin 3)).val = 0 * 128 + 1 * (y (1 : Fin 3)).val
    omega
  · show (y (2 : Fin 3)).val = 0 * 256 + 1 * (y (2 : Fin 3)).val
    omega

/-- so are the second's, -/
theorem final12 : (dats m 0 c).arrAt 12 cfg0.N = secondValues (projection m c) := by
  refine (dats m 0 c).arrAt_eq_of_covers 12 _ covers12 (fun t _ y => ?_) (Memref.isWhole_whole _)
  refine (congrFun (after0_12 m c t) _).trans ?_
  refine (tile12 m c t y).trans (congrArg (secondValues (projection m c)) ?_)
  funext a
  apply Fin.ext
  show _ = cc0_transform_12 (grid0.coords t) a * S1x512x256.size a + 1 * (y a).val
  rw [at12]
  have h0 : (y (0 : Fin 3)).val < 1 := (y (0 : Fin 3)).isLt
  fin_cases a
  · show t.val = t.val * 1 + 1 * (y (0 : Fin 3)).val
    omega
  · show (y (1 : Fin 3)).val = 0 * 512 + 1 * (y (1 : Fin 3)).val
    omega
  · show (y (2 : Fin 3)).val = 0 * 256 + 1 * (y (2 : Fin 3)).val
    omega

/-- the convolution's input -/
theorem final13 : (dats m 0 c).arrAt 13 cfg0.N = convInput (projection m c) := by
  refine (dats m 0 c).arrAt_eq_of_covers 13 _ covers13 (fun t _ y => ?_) (Memref.isWhole_whole _)
  have ht : t.val < 132 := t.isLt
  have hy : (y (0 : Fin 2)).val < 256 := (y (0 : Fin 2)).isLt
  refine (congrFun (after0_13 m c t) _).trans ?_
  refine (tile13 m c t y ⟨t.val * 256 + (y (0 : Fin 2)).val, by omega⟩ rfl).trans (congrArg (convInput (projection m c)) ?_)
  funext a
  apply Fin.ext
  show _ = cc0_transform_13 (grid0.coords t) a * S256x512.size a + 1 * (y a).val
  rw [at13]
  fin_cases a
  · show t.val * 256 + (y (0 : Fin 2)).val = t.val * 256 + 1 * (y (0 : Fin 2)).val
    omega
  · show (y (1 : Fin 2)).val = 0 * 512 + 1 * (y (1 : Fin 2)).val
    omega

/-- and the gates. -/
theorem final14 : (dats m 0 c).arrAt 14 cfg0.N = gates (projection m c) (m ((c.tc : Thread nD τ).loc main_arg4)) := by
  refine (dats m 0 c).arrAt_eq_of_covers 14 _ covers14 (fun t _ y => ?_) (Memref.isWhole_whole _)
  have ht : t.val < 132 := t.isLt
  have hy : (y (0 : Fin 2)).val < 256 := (y (0 : Fin 2)).isLt
  refine (congrFun (after0_14 m c t) _).trans ?_
  refine (tile14 m c t y ⟨t.val * 256 + (y (0 : Fin 2)).val, by omega⟩ rfl).trans (congrArg (gates (projection m c) (m ((c.tc : Thread nD τ).loc main_arg4))) ?_)
  funext a
  apply Fin.ext
  show _ = cc0_transform_14 (grid0.coords t) a * S256x3072.size a + 1 * (y a).val
  rw [at14]
  fin_cases a
  · show t.val * 256 + (y (0 : Fin 2)).val = t.val * 256 + 1 * (y (0 : Fin 2)).val
    omega
  · show (y (1 : Fin 2)).val = 0 * 3072 + 1 * (y (1 : Fin 2)).val
    omega

end Cert.Kernel4Ideal.Inproj

end
-- ==== Proof.lean ====
/- # The claim

The frames of the programs, and the equality of each kernel's result with its reference's over exact arithmetic: the attention's
wherever every element of the arguments is finite, the experts' wherever the table names experts, the combination's and the
projection's everywhere. -/
module

public import proofs.«01_k».proof.Defs
public import proofs.«01_k».proof.Proof.Frames
public import proofs.«01_k».proof.Proof.Finite
public import proofs.«01_k».proof.Proof.Value
public import proofs.«01_k».proof.Proof.Experts.Frames
public import proofs.«01_k».proof.Proof.Experts.Value
public import proofs.«01_k».proof.Proof.Combine.Ref
public import proofs.«01_k».proof.Proof.Combine.Value
public import proofs.«01_k».proof.Proof.Inproj.Run
public import proofs.«01_k».proof.Proof.Inproj.Value
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Quiescent

@[expose] public section

set_option maxRecDepth 16384

noncomputable section

namespace Cert.Proof

open Idealize.ShloMosaic Idealize.ShloMosaic.TcCoe Idealize.SL.Sem

/-- The reference's frame: its run leaves the arguments, and it has no semaphore. -/
theorem frame_referenceIdeal : Cert.quiescent_ReferenceIdeal (hReferenceIdeal := Cert.ReferenceIdeal.Gen.facts) := fun m ρ _ =>
  (θ_run _ _ _).mono (fun _ h => ⟨fun c => (h c).2, sem_eq_zero_of_no_sems rfl _⟩) (Cert.ReferenceIdeal.Value.run m ρ)

/-- The kernel's result is the reference's where the arguments are finite. -/
theorem value : Cert.algebraic_KernelIdeal_ReferenceIdeal_pre_finite (hKernelIdeal := Cert.KernelIdeal.Gen.facts)
    (hReferenceIdeal := Cert.ReferenceIdeal.Gen.facts) (hPre_finite := Cert.Pre_finite.facts) := fun m ρ m' ρ' hp hm => by
  refine ⟨fun c => (Cert.KernelIdeal.Attn.dats m 0 c).arrAt 3 (Cert.KernelIdeal.cfgs 0).N, ?_, ?_⟩
  · refine (θ_run _ _ _).mono (fun r h c => ?_)
      (θ_run_and (Cert.KernelIdeal.Attn.run_main m ρ) (Cert.KernelIdeal.Attn.frame m ρ))
    exact ⟨(h.1.1 c).1 3, h.2.1 c⟩
  · refine (θ_run _ _ _).mono (fun r h c => ⟨(h c).1.trans ?_, (h c).2⟩) (Cert.ReferenceIdeal.Value.run m' ρ')
    obtain ⟨h0, h1, h2⟩ := Cert.Pre_finite.real_of_fn _ _ _ (hp c)
    rw [Cert.ReferenceIdeal.Attn.res_eq, (hm c).1, (hm c).2.1, (hm c).2.2]
    exact (Cert.KernelIdeal.Attn.final m c h0 h1 h2).symm

/-- The experts' reference's frame. -/
theorem frame_reference2Ideal : Cert.quiescent_Reference2Ideal (hReference2Ideal := Cert.Reference2Ideal.Gen.facts) := fun m ρ _ =>
  (θ_run _ _ _).mono (fun _ h => ⟨fun c => (h c).2, sem_eq_zero_of_no_sems rfl _⟩) (Cert.Reference2Ideal.Value.run m ρ)

/-- The experts' result is the reference's where the table names experts. -/
theorem value2 : Cert.algebraic_Kernel2Ideal_Reference2Ideal (hKernel2Ideal := Cert.Kernel2Ideal.Gen.facts)
    (hReference2Ideal := Cert.Reference2Ideal.Gen.facts) (hPre_experts_exist := Cert.Pre_experts_exist.facts) := fun m ρ m' ρ' hp hm => by
  have hr := Cert.Pre_experts_exist.inRange_of_fn _ _ _ _ _ _ _ _ (hp 0)
  have hs := holds (F := Ideal) m
  refine ⟨fun c => Cert.Kernel2Ideal.Experts.want (m (((0 : Dev Cert.Kernel2Ideal.nD).tc : Thread Cert.Kernel2Ideal.nD Cert.Kernel2Ideal.τ).loc Cert.Kernel2Ideal.main_arg2))
      (m (((0 : Dev Cert.Kernel2Ideal.nD).tc : Thread Cert.Kernel2Ideal.nD Cert.Kernel2Ideal.τ).loc Cert.Kernel2Ideal.main_arg3)) m c,
    Cert.Kernel2Ideal.Experts.run_value _ _ hr m ρ hs, ?_⟩
  refine (θ_run _ _ _).mono (fun r h c => ⟨(h c).1.trans ?_, (h c).2⟩) (Cert.Reference2Ideal.Value.run m' ρ')
  obtain ⟨e0, e1, e2, e3, e4, e5, e6, e7⟩ := hm c
  rw [Cert.Reference2Ideal.Experts.res_eq, e0, e1, e2, e3, e4, e5, e6, e7, (hs c).1, (hs c).2]

/-- The combination's frames. -/
theorem frame_kernel3 : Cert.quiescent_Kernel3 (hKernel3 := Cert.Kernel3.Gen.facts) := fun m ρ _ => Cert.Kernel3.Gen.frame m ρ

theorem frame_kernel3Ideal : Cert.quiescent_Kernel3Ideal (hKernel3Ideal := Cert.Kernel3Ideal.Gen.facts) := fun m ρ _ => Cert.Kernel3Ideal.Gen.frame m ρ

theorem frame_reference3Ideal : Cert.quiescent_Reference3Ideal (hReference3Ideal := Cert.Reference3Ideal.Gen.facts) := fun m ρ _ =>
  (θ_run _ _ _).mono (fun _ h => ⟨fun c => (h c).2, sem_eq_zero_of_no_sems rfl _⟩) (Cert.Reference3Ideal.Value.run m ρ)

/-- The combination's result is the reference's. -/
theorem value3 : Cert.algebraic_Kernel3Ideal_Reference3Ideal (hKernel3Ideal := Cert.Kernel3Ideal.Gen.facts)
    (hReference3Ideal := Cert.Reference3Ideal.Gen.facts) := fun m ρ m' ρ' _ hm => by
  refine ⟨fun c => Cert.Kernel3Ideal.Combine.want m c, (θ_run _ _ _).mono (fun r h c => ⟨(h c).1.trans (Cert.Kernel3Ideal.Combine.final m c), (h c).2⟩)
    (Cert.Kernel3Ideal.Value.run_blocks m ρ), ?_⟩
  refine (θ_run _ _ _).mono (fun r h c => ⟨(h c).1.trans ?_, (h c).2⟩) (Cert.Reference3Ideal.Value.run m' ρ')
  obtain ⟨e0, e1, e2, e3, e4, e5, e6⟩ := hm c
  rw [e0, e1, e2, e3, e4, e5, e6]
  rfl

theorem frame_kernel4 : Cert.quiescent_Kernel4 (hKernel4 := Cert.Kernel4.Gen.facts) := fun m ρ _ => Cert.Kernel4.Gen.frame m ρ

theorem frame_kernel4Ideal : Cert.quiescent_Kernel4Ideal (hKernel4Ideal := Cert.Kernel4Ideal.Gen.facts) := fun m ρ _ => Cert.Kernel4Ideal.Gen.frame m ρ

theorem frame_reference4Ideal : Cert.quiescent_Reference4Ideal (hReference4Ideal := Cert.Reference4Ideal.Gen.facts) := fun m ρ _ =>
  (θ_run _ _ _).mono (fun _ h => ⟨fun c => (h c).2.2.2.2, sem_eq_zero_of_no_sems rfl _⟩) (Cert.Reference4Ideal.Value.run m ρ)

/-- The projection's values, convolution input and gates are the reference's. -/
theorem value4 : Cert.algebraic_Kernel4Ideal_Reference4Ideal (hKernel4Ideal := Cert.Kernel4Ideal.Gen.facts)
    (hReference4Ideal := Cert.Reference4Ideal.Gen.facts) := fun m ρ m' ρ' _ hm => by
  refine ⟨_, _, _, _, (θ_run _ _ _).mono (fun r h c => ⟨(h c).2.2.2.1.trans (Cert.Kernel4Ideal.Inproj.final11 m c),
    (h c).2.2.2.2.1.trans (Cert.Kernel4Ideal.Inproj.final12 m c), (h c).2.2.2.2.2.1.trans (Cert.Kernel4Ideal.Inproj.final13 m c),
    (h c).2.2.2.2.2.2.1.trans (Cert.Kernel4Ideal.Inproj.final14 m c), (h c).2.2.2.2.2.2.2⟩) (Cert.Kernel4Ideal.Value.run_blocks m ρ), ?_⟩
  have same : ∀ c, Cert.Reference4Ideal.Inproj.projection m' c = Cert.Kernel4Ideal.Inproj.projection m c := fun c => by
    obtain ⟨e0, e1, e2, e3, _, _, _, _, _, e9, e10⟩ := hm c
    unfold Cert.Reference4Ideal.Inproj.projection
    rw [e0, e1, e2, e3, e9, e10]
  refine (θ_run _ _ _).mono (fun r h c => ?_) (Cert.Reference4Ideal.Inproj.run m' ρ')
  obtain ⟨r0, r1, r2, r3, rest⟩ := h c
  obtain ⟨_, _, _, _, e4, _⟩ := hm c
  rw [same] at r0 r1 r2 r3
  rw [e4] at r3
  exact ⟨r0, r1, r2, r3, rest⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.facts, Cert.Pre_experts_exist.facts,
  frame_kernel, frame_kernelIdeal, fun m ρ _ => frame_kernelIdeal m ρ trivial, frame_referenceIdeal,
  fun m ρ _ => frame_referenceIdeal m ρ trivial, frame_kernel2, frame_kernel2Ideal, frame_reference2Ideal,
  fun m ρ _ => frame_reference2Ideal m ρ trivial, frame_kernel3, frame_kernel3Ideal, frame_reference3Ideal,
  frame_kernel4, frame_kernel4Ideal, frame_reference4Ideal, trivial, value, trivial, value2, trivial, value3, trivial, value4⟩

end Cert.Proof

end
